-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 32, 64]⟩ ⟨4, ![2, 2048, 32, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 32, 64]⟩ ⟨4, ![2, 2048, 32, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x32x64 : S_.BroadcastsInDim S2x256x32x64 (![] : Fin 0 → Fin S2x256x32x64.rank)
  reducesTo_S2x256x32x64_S_d0_1_2_3 : S2x256x32x64.ReducesTo [0, 1, 2, 3] S_

variable [Facts]

def fn {F : FTy → Type} [FloatOps F] (main_arg0 : FVec F S2x256x512 .bf16) (main_arg1 : FVec F S512x256 .bf16) (main_arg2 : FVec F S2x256x32x64 .bf16) (main_arg3 : FVec F S2x256x32x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x32x64 .bf16 := Host.absf main_arg2
  let main_cst_2 : FVec F S_ .bf16 := constant S_ .bf16 0x7F80#16
  let main_v10 : FVec F S2x256x32x64 .bf16 := broadcastInDim S2x256x32x64 ![] bcast_S_S2x256x32x64 main_cst_2
  let main_v11 : IVec S2x256x32x64 1 := cmpf .olt main_v9 main_v10
  let main_c_3 : IVec S_ 1 := constantI S_ 1 1#1
  let main_v12 : IVec S_ 1 := (fun x v => Host.reduce IntOp.andi x v reducesTo_S2x256x32x64_S_d0_1_2_3 h_S_) main_v11 main_c_3
  let main_v13 : IVec S_ 1 := andi main_v8 main_v12
  main_v13
-- ==== Pre_finite_ReferenceIdeal.lean ====
abbrev S2x256x512 : Shape := ⟨3, ![2, 256, 512]⟩
abbrev S512x2048 : Shape := ⟨2, ![512, 2048]⟩
abbrev S2x2048x32x64 : Shape := ⟨4, ![2, 2048, 32, 64]⟩
abbrev S2048x512 : Shape := ⟨2, ![2048, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x2048x32x64 : S_.BroadcastsInDim S2x2048x32x64 (![] : Fin 0 → Fin S2x2048x32x64.rank)
  reducesTo_S2x2048x32x64_S_d0_1_2_3 : S2x2048x32x64.ReducesTo [0, 1, 2, 3] S_

variable [Facts]

def fn {F : FTy → Type} [FloatOps F] (main_arg0 : FVec F S2x256x512 .bf16) (main_arg1 : FVec F S512x2048 .bf16) (main_arg2 : FVec F S2x2048x32x64 .bf16) (main_arg3 : FVec F S2x2048x32x64 .bf16) (main_arg4 : FVec F S2048x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x2048 .bf16 := Host.absf main_arg1
  let main_cst_0 : FVec F S_ .bf16 := constant S_ .bf16 0x7F80#16
  let main_v5 : FVec F S512x2048 .bf16 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x2048x32x64 .bf16 := Host.absf main_arg2
  let main_cst_2 : FVec F S_ .bf16 := constant S_ .bf16 0x7F80#16
  let main_v10 : FVec F S2x2048x32x64 .bf16 := broadcastInDim S2x2048x32x64 ![] bcast_S_S2x2048x32x64 main_cst_2
  let main_v11 : IVec S2x2048x32x64 1 := cmpf .olt main_v9 main_v10
  let main_c_3 : IVec S_ 1 := constantI S_ 1 1#1
  let main_v12 : IVec S_ 1 := (fun x v => Host.reduce IntOp.andi x v reducesTo_S2x2048x32x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S32x2x256x64 : Shape := ⟨4, ![32, 2, 256, 64]⟩
abbrev S2x256x256 : Shape := ⟨3, ![2, 256, 256]⟩
abbrev S8x4x2x256x64 : Shape := ⟨5, ![8, 4, 2, 256, 64]⟩
abbrev S256x2048 : Shape := ⟨2, ![256, 2048]⟩
abbrev S3x2x128x512 : Shape := ⟨4, ![3, 2, 128, 512]⟩
abbrev S8 : Shape := ⟨1, ![8]⟩
abbrev S_ : Shape := ⟨0, ![]⟩
abbrev S1 : Shape := ⟨1, ![1]⟩
abbrev S1x4x2x256x64 : Shape := ⟨5, ![1, 4, 2, 256, 64]⟩
abbrev S4x2x256x64 : Shape := ⟨4, ![4, 2, 256, 64]⟩
abbrev S1x256x512 : Shape := ⟨3, ![1, 256, 512]⟩
abbrev S256x256 : Shape := ⟨2, ![256, 256]⟩
abbrev S1x256x256 : Shape := ⟨3, ![1, 256, 256]⟩
abbrev S1x256x64 : Shape := ⟨3, ![1, 256, 64]⟩
abbrev S256x64 : Shape := ⟨2, ![256, 64]⟩
abbrev S1x1x1x256x64 : Shape := ⟨5, ![1, 1, 1, 256, 64]⟩
abbrev S256 : Shape := ⟨1, ![256]⟩
abbrev S256x1 : Shape := ⟨2, ![256, 1]⟩
abbrev S1x2x128x512 : Shape := ⟨4, ![1, 2, 128, 512]⟩
abbrev S2x128x512 : Shape := ⟨3, ![2, 128, 512]⟩
abbrev S1x2x64x512 : Shape := ⟨4, ![1, 2, 64, 512]⟩
abbrev S2x64x512 : Shape := ⟨3, ![2, 64, 512]⟩
abbrev S1x2x32x512 : Shape := ⟨4, ![1, 2, 32, 512]⟩
abbrev S2x32x512 : Shape := ⟨3, ![2, 32, 512]⟩

abbrev nBuf : Space → Nat
  | .hbm => 8
  | .vmem => 13
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x32x64, .bf16⟩
  | .hbm, ⟨3, _⟩ => ⟨S2x256x32x64, .bf16⟩
  | .hbm, ⟨4, _⟩ => ⟨S256x512, .bf16⟩
  | .hbm, ⟨5, _⟩ => ⟨S32x2x256x64, .bf16⟩
  | .hbm, ⟨6, _⟩ => ⟨S32x2x256x64, .bf16⟩
  | .hbm, ⟨7, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S32x2x256x64, .bf16⟩
  | .local _ .vmem, ⟨3, _⟩ => ⟨S32x2x256x64, .bf16⟩
  | .local _ .vmem, ⟨4, _⟩ => ⟨S256x512, .bf16⟩
  | .local _ .vmem, ⟨5, _⟩ => ⟨S2x256x512, .f32⟩
  | .local _ .vmem, ⟨6, _⟩ => ⟨S2x256x256, .bf16⟩
  | .local _ .vmem, ⟨7, _⟩ => ⟨S8x4x2x256x64, .bf16⟩
  | .local _ .vmem, ⟨8, _⟩ => ⟨S8x4x2x256x64, .bf16⟩
  | .local _ .vmem, ⟨9, _⟩ => ⟨S256x2048, .f32⟩
  | .local _ .vmem, ⟨10, _⟩ => ⟨S2x256x256, .bf16⟩
  | .local _ .vmem, ⟨11, _⟩ => ⟨S2x256x512, .bf16⟩
  | .local _ .vmem, ⟨12, _⟩ => ⟨S3x2x128x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_76 : BitVec 32 := 0#32
  let c0_i32_77 : BitVec 32 := 0#32
  let c0_i32_78 : BitVec 32 := 0#32
  let c0_i32_79 : BitVec 32 := 0#32
  ![v2.toNat, 0, 0, 0, 0]
def k0_off3 (d0 : Dev nD) (c1_i32_64 : BitVec 32) : Fin 4 → Nat :=
  let c4_i32_71 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let v106 : BitVec 32 := Scalar.muli c4_i32_71 v105
  let c0_i32_80 : BitVec 32 := 0#32
  let c0_i32_81 : BitVec 32 := 0#32
  let c0_i32_82 : BitVec 32 := 0#32
  ![v106.toNat, 0, 0, 0]
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_74 : BitVec 32 := 1#32
  let v108 : BitVec 32 := Scalar.muli v105 c1_i32_74
  let v109 : BitVec 32 := Scalar.addi c0_i32_75 v108
  v109.toNat
def k0_dev9 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_84 : BitVec 32 := 1#32
  let v117 : BitVec 32 := Scalar.muli v105 c1_i32_84
  let v118 : BitVec 32 := Scalar.addi c0_i32_85 v117
  v118.toNat
def k0_dev10 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_93 : BitVec 32 := 2#32
  let v126 : BitVec 32 := Scalar.addi v2 c2_i32_93
  let c8_i32_94 : BitVec 32 := 8#32
  let c0_i32_95 : BitVec 32 := 0#32
  let v127 : BitVec 1 := Scalar.cmpi .eq c8_i32_94 c0_i32_95
  let c1_i32_96 : BitVec 32 := 1#32
  let v128 : BitVec 32 := Scalar.select v127 c1_i32_96 c8_i32_94
  let v129 : BitVec 32 := Scalar.remsi v126 v128
  let c0_i32_98 : BitVec 32 := 0#32
  let v131 : BitVec 1 := Scalar.cmpi .slt v129 c0_i32_98
  let c0_i32_99 : BitVec 32 := 0#32
  let v132 : BitVec 1 := Scalar.cmpi .slt v128 c0_i32_99
  let v133 : BitVec 1 := Scalar.xori v131 v132
  let c0_i32_97 : BitVec 32 := 0#32
  let v130 : BitVec 1 := Scalar.cmpi .ne v129 c0_i32_97
  let v134 : BitVec 1 := Scalar.andi v133 v130
  let v135 : BitVec 32 := Scalar.addi v129 v128
  let v136 : BitVec 32 := Scalar.select v134 v135 v129
  let c1_i32_103 : BitVec 32 := 1#32
  let v139 : BitVec 32 := Scalar.muli v136 c1_i32_103
  let v140 : BitVec 32 := Scalar.addi c0_i32_104 v139
  v140.toNat
def k0_dev11 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_93 : BitVec 32 := 2#32
  let v126 : BitVec 32 := Scalar.addi v2 c2_i32_93
  let c8_i32_94 : BitVec 32 := 8#32
  let c0_i32_95 : BitVec 32 := 0#32
  let v127 : BitVec 1 := Scalar.cmpi .eq c8_i32_94 c0_i32_95
  let c1_i32_96 : BitVec 32 := 1#32
  let v128 : BitVec 32 := Scalar.select v127 c1_i32_96 c8_i32_94
  let v129 : BitVec 32 := Scalar.remsi v126 v128
  let c0_i32_98 : BitVec 32 := 0#32
  let v131 : BitVec 1 := Scalar.cmpi .slt v129 c0_i32_98
  let c0_i32_99 : BitVec 32 := 0#32
  let v132 : BitVec 1 := Scalar.cmpi .slt v128 c0_i32_99
  let v133 : BitVec 1 := Scalar.xori v131 v132
  let c0_i32_97 : BitVec 32 := 0#32
  let v130 : BitVec 1 := Scalar.cmpi .ne v129 c0_i32_97
  let v134 : BitVec 1 := Scalar.andi v133 v130
  let v135 : BitVec 32 := Scalar.addi v129 v128
  let v136 : BitVec 32 := Scalar.select v134 v135 v129
  let c1_i32_113 : BitVec 32 := 1#32
  let v148 : BitVec 32 := Scalar.muli v136 c1_i32_113
  let v149 : BitVec 32 := Scalar.addi c0_i32_114 v148
  v149.toNat
def k0_dev12 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_122 : BitVec 32 := 3#32
  let v157 : BitVec 32 := Scalar.addi v2 c3_i32_122
  let c8_i32_123 : BitVec 32 := 8#32
  let c0_i32_124 : BitVec 32 := 0#32
  let v158 : BitVec 1 := Scalar.cmpi .eq c8_i32_123 c0_i32_124
  let c1_i32_125 : BitVec 32 := 1#32
  let v159 : BitVec 32 := Scalar.select v158 c1_i32_125 c8_i32_123
  let v160 : BitVec 32 := Scalar.remsi v157 v159
  let c0_i32_127 : BitVec 32 := 0#32
  let v162 : BitVec 1 := Scalar.cmpi .slt v160 c0_i32_127
  let c0_i32_128 : BitVec 32 := 0#32
  let v163 : BitVec 1 := Scalar.cmpi .slt v159 c0_i32_128
  let v164 : BitVec 1 := Scalar.xori v162 v163
  let c0_i32_126 : BitVec 32 := 0#32
  let v161 : BitVec 1 := Scalar.cmpi .ne v160 c0_i32_126
  let v165 : BitVec 1 := Scalar.andi v164 v161
  let v166 : BitVec 32 := Scalar.addi v160 v159
  let v167 : BitVec 32 := Scalar.select v165 v166 v160
  let c1_i32_132 : BitVec 32 := 1#32
  let v170 : BitVec 32 := Scalar.muli v167 c1_i32_132
  let v171 : BitVec 32 := Scalar.addi c0_i32_133 v170
  v171.toNat
def k0_dev13 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_122 : BitVec 32 := 3#32
  let v157 : BitVec 32 := Scalar.addi v2 c3_i32_122
  let c8_i32_123 : BitVec 32 := 8#32
  let c0_i32_124 : BitVec 32 := 0#32
  let v158 : BitVec 1 := Scalar.cmpi .eq c8_i32_123 c0_i32_124
  let c1_i32_125 : BitVec 32 := 1#32
  let v159 : BitVec 32 := Scalar.select v158 c1_i32_125 c8_i32_123
  let v160 : BitVec 32 := Scalar.remsi v157 v159
  let c0_i32_127 : BitVec 32 := 0#32
  let v162 : BitVec 1 := Scalar.cmpi .slt v160 c0_i32_127
  let c0_i32_128 : BitVec 32 := 0#32
  let v163 : BitVec 1 := Scalar.cmpi .slt v159 c0_i32_128
  let v164 : BitVec 1 := Scalar.xori v162 v163
  let c0_i32_126 : BitVec 32 := 0#32
  let v161 : BitVec 1 := Scalar.cmpi .ne v160 c0_i32_126
  let v165 : BitVec 1 := Scalar.andi v164 v161
  let v166 : BitVec 32 := Scalar.addi v160 v159
  let v167 : BitVec 32 := Scalar.select v165 v166 v160
  let c1_i32_142 : BitVec 32 := 1#32
  let v179 : BitVec 32 := Scalar.muli v167 c1_i32_142
  let v180 : BitVec 32 := Scalar.addi c0_i32_143 v179
  v180.toNat
def k0_dev14 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_151 : BitVec 32 := 4#32
  let v188 : BitVec 32 := Scalar.addi v2 c4_i32_151
  let c8_i32_152 : BitVec 32 := 8#32
  let c0_i32_153 : BitVec 32 := 0#32
  let v189 : BitVec 1 := Scalar.cmpi .eq c8_i32_152 c0_i32_153
  let c1_i32_154 : BitVec 32 := 1#32
  let v190 : BitVec 32 := Scalar.select v189 c1_i32_154 c8_i32_152
  let v191 : BitVec 32 := Scalar.remsi v188 v190
  let c0_i32_156 : BitVec 32 := 0#32
  let v193 : BitVec 1 := Scalar.cmpi .slt v191 c0_i32_156
  let c0_i32_157 : BitVec 32 := 0#32
  let v194 : BitVec 1 := Scalar.cmpi .slt v190 c0_i32_157
  let v195 : BitVec 1 := Scalar.xori v193 v194
  let c0_i32_155 : BitVec 32 := 0#32
  let v192 : BitVec 1 := Scalar.cmpi .ne v191 c0_i32_155
  let v196 : BitVec 1 := Scalar.andi v195 v192
  let v197 : BitVec 32 := Scalar.addi v191 v190
  let v198 : BitVec 32 := Scalar.select v196 v197 v191
  let c1_i32_161 : BitVec 32 := 1#32
  let v201 : BitVec 32 := Scalar.muli v198 c1_i32_161
  let v202 : BitVec 32 := Scalar.addi c0_i32_162 v201
  v202.toNat
def k0_dev15 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_151 : BitVec 32 := 4#32
  let v188 : BitVec 32 := Scalar.addi v2 c4_i32_151
  let c8_i32_152 : BitVec 32 := 8#32
  let c0_i32_153 : BitVec 32 := 0#32
  let v189 : BitVec 1 := Scalar.cmpi .eq c8_i32_152 c0_i32_153
  let c1_i32_154 : BitVec 32 := 1#32
  let v190 : BitVec 32 := Scalar.select v189 c1_i32_154 c8_i32_152
  let v191 : BitVec 32 := Scalar.remsi v188 v190
  let c0_i32_156 : BitVec 32 := 0#32
  let v193 : BitVec 1 := Scalar.cmpi .slt v191 c0_i32_156
  let c0_i32_157 : BitVec 32 := 0#32
  let v194 : BitVec 1 := Scalar.cmpi .slt v190 c0_i32_157
  let v195 : BitVec 1 := Scalar.xori v193 v194
  let c0_i32_155 : BitVec 32 := 0#32
  let v192 : BitVec 1 := Scalar.cmpi .ne v191 c0_i32_155
  let v196 : BitVec 1 := Scalar.andi v195 v192
  let v197 : BitVec 32 := Scalar.addi v191 v190
  let v198 : BitVec 32 := Scalar.select v196 v197 v191
  let c1_i32_171 : BitVec 32 := 1#32
  let v210 : BitVec 32 := Scalar.muli v198 c1_i32_171
  let v211 : BitVec 32 := Scalar.addi c0_i32_172 v210
  v211.toNat
def k0_dev16 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_180 : BitVec 32 := 5#32
  let v219 : BitVec 32 := Scalar.addi v2 c5_i32_180
  let c8_i32_181 : BitVec 32 := 8#32
  let c0_i32_182 : BitVec 32 := 0#32
  let v220 : BitVec 1 := Scalar.cmpi .eq c8_i32_181 c0_i32_182
  let c1_i32_183 : BitVec 32 := 1#32
  let v221 : BitVec 32 := Scalar.select v220 c1_i32_183 c8_i32_181
  let v222 : BitVec 32 := Scalar.remsi v219 v221
  let c0_i32_185 : BitVec 32 := 0#32
  let v224 : BitVec 1 := Scalar.cmpi .slt v222 c0_i32_185
  let c0_i32_186 : BitVec 32 := 0#32
  let v225 : BitVec 1 := Scalar.cmpi .slt v221 c0_i32_186
  let v226 : BitVec 1 := Scalar.xori v224 v225
  let c0_i32_184 : BitVec 32 := 0#32
  let v223 : BitVec 1 := Scalar.cmpi .ne v222 c0_i32_184
  let v227 : BitVec 1 := Scalar.andi v226 v223
  let v228 : BitVec 32 := Scalar.addi v222 v221
  let v229 : BitVec 32 := Scalar.select v227 v228 v222
  let c1_i32_190 : BitVec 32 := 1#32
  let v232 : BitVec 32 := Scalar.muli v229 c1_i32_190
  let v233 : BitVec 32 := Scalar.addi c0_i32_191 v232
  v233.toNat
def k0_dev17 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_180 : BitVec 32 := 5#32
  let v219 : BitVec 32 := Scalar.addi v2 c5_i32_180
  let c8_i32_181 : BitVec 32 := 8#32
  let c0_i32_182 : BitVec 32 := 0#32
  let v220 : BitVec 1 := Scalar.cmpi .eq c8_i32_181 c0_i32_182
  let c1_i32_183 : BitVec 32 := 1#32
  let v221 : BitVec 32 := Scalar.select v220 c1_i32_183 c8_i32_181
  let v222 : BitVec 32 := Scalar.remsi v219 v221
  let c0_i32_185 : BitVec 32 := 0#32
  let v224 : BitVec 1 := Scalar.cmpi .slt v222 c0_i32_185
  let c0_i32_186 : BitVec 32 := 0#32
  let v225 : BitVec 1 := Scalar.cmpi .slt v221 c0_i32_186
  let v226 : BitVec 1 := Scalar.xori v224 v225
  let c0_i32_184 : BitVec 32 := 0#32
  let v223 : BitVec 1 := Scalar.cmpi .ne v222 c0_i32_184
  let v227 : BitVec 1 := Scalar.andi v226 v223
  let v228 : BitVec 32 := Scalar.addi v222 v221
  let v229 : BitVec 32 := Scalar.select v227 v228 v222
  let c1_i32_200 : BitVec 32 := 1#32
  let v241 : BitVec 32 := Scalar.muli v229 c1_i32_200
  let v242 : BitVec 32 := Scalar.addi c0_i32_201 v241
  v242.toNat
def k0_dev18 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_209 : BitVec 32 := 6#32
  let v250 : BitVec 32 := Scalar.addi v2 c6_i32_209
  let c8_i32_210 : BitVec 32 := 8#32
  let c0_i32_211 : BitVec 32 := 0#32
  let v251 : BitVec 1 := Scalar.cmpi .eq c8_i32_210 c0_i32_211
  let c1_i32_212 : BitVec 32 := 1#32
  let v252 : BitVec 32 := Scalar.select v251 c1_i32_212 c8_i32_210
  let v253 : BitVec 32 := Scalar.remsi v250 v252
  let c0_i32_214 : BitVec 32 := 0#32
  let v255 : BitVec 1 := Scalar.cmpi .slt v253 c0_i32_214
  let c0_i32_215 : BitVec 32 := 0#32
  let v256 : BitVec 1 := Scalar.cmpi .slt v252 c0_i32_215
  let v257 : BitVec 1 := Scalar.xori v255 v256
  let c0_i32_213 : BitVec 32 := 0#32
  let v254 : BitVec 1 := Scalar.cmpi .ne v253 c0_i32_213
  let v258 : BitVec 1 := Scalar.andi v257 v254
  let v259 : BitVec 32 := Scalar.addi v253 v252
  let v260 : BitVec 32 := Scalar.select v258 v259 v253
  let c1_i32_219 : BitVec 32 := 1#32
  let v263 : BitVec 32 := Scalar.muli v260 c1_i32_219
  let v264 : BitVec 32 := Scalar.addi c0_i32_220 v263
  v264.toNat
def k0_dev19 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_209 : BitVec 32 := 6#32
  let v250 : BitVec 32 := Scalar.addi v2 c6_i32_209
  let c8_i32_210 : BitVec 32 := 8#32
  let c0_i32_211 : BitVec 32 := 0#32
  let v251 : BitVec 1 := Scalar.cmpi .eq c8_i32_210 c0_i32_211
  let c1_i32_212 : BitVec 32 := 1#32
  let v252 : BitVec 32 := Scalar.select v251 c1_i32_212 c8_i32_210
  let v253 : BitVec 32 := Scalar.remsi v250 v252
  let c0_i32_214 : BitVec 32 := 0#32
  let v255 : BitVec 1 := Scalar.cmpi .slt v253 c0_i32_214
  let c0_i32_215 : BitVec 32 := 0#32
  let v256 : BitVec 1 := Scalar.cmpi .slt v252 c0_i32_215
  let v257 : BitVec 1 := Scalar.xori v255 v256
  let c0_i32_213 : BitVec 32 := 0#32
  let v254 : BitVec 1 := Scalar.cmpi .ne v253 c0_i32_213
  let v258 : BitVec 1 := Scalar.andi v257 v254
  let v259 : BitVec 32 := Scalar.addi v253 v252
  let v260 : BitVec 32 := Scalar.select v258 v259 v253
  let c1_i32_229 : BitVec 32 := 1#32
  let v272 : BitVec 32 := Scalar.muli v260 c1_i32_229
  let v273 : BitVec 32 := Scalar.addi c0_i32_230 v272
  v273.toNat
def k0_dev20 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_238 : BitVec 32 := 7#32
  let v281 : BitVec 32 := Scalar.addi v2 c7_i32_238
  let c8_i32_239 : BitVec 32 := 8#32
  let c0_i32_240 : BitVec 32 := 0#32
  let v282 : BitVec 1 := Scalar.cmpi .eq c8_i32_239 c0_i32_240
  let c1_i32_241 : BitVec 32 := 1#32
  let v283 : BitVec 32 := Scalar.select v282 c1_i32_241 c8_i32_239
  let v284 : BitVec 32 := Scalar.remsi v281 v283
  let c0_i32_243 : BitVec 32 := 0#32
  let v286 : BitVec 1 := Scalar.cmpi .slt v284 c0_i32_243
  let c0_i32_244 : BitVec 32 := 0#32
  let v287 : BitVec 1 := Scalar.cmpi .slt v283 c0_i32_244
  let v288 : BitVec 1 := Scalar.xori v286 v287
  let c0_i32_242 : BitVec 32 := 0#32
  let v285 : BitVec 1 := Scalar.cmpi .ne v284 c0_i32_242
  let v289 : BitVec 1 := Scalar.andi v288 v285
  let v290 : BitVec 32 := Scalar.addi v284 v283
  let v291 : BitVec 32 := Scalar.select v289 v290 v284
  let c1_i32_248 : BitVec 32 := 1#32
  let v294 : BitVec 32 := Scalar.muli v291 c1_i32_248
  let v295 : BitVec 32 := Scalar.addi c0_i32_249 v294
  v295.toNat
def k0_dev21 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_238 : BitVec 32 := 7#32
  let v281 : BitVec 32 := Scalar.addi v2 c7_i32_238
  let c8_i32_239 : BitVec 32 := 8#32
  let c0_i32_240 : BitVec 32 := 0#32
  let v282 : BitVec 1 := Scalar.cmpi .eq c8_i32_239 c0_i32_240
  let c1_i32_241 : BitVec 32 := 1#32
  let v283 : BitVec 32 := Scalar.select v282 c1_i32_241 c8_i32_239
  let v284 : BitVec 32 := Scalar.remsi v281 v283
  let c0_i32_243 : BitVec 32 := 0#32
  let v286 : BitVec 1 := Scalar.cmpi .slt v284 c0_i32_243
  let c0_i32_244 : BitVec 32 := 0#32
  let v287 : BitVec 1 := Scalar.cmpi .slt v283 c0_i32_244
  let v288 : BitVec 1 := Scalar.xori v286 v287
  let c0_i32_242 : BitVec 32 := 0#32
  let v285 : BitVec 1 := Scalar.cmpi .ne v284 c0_i32_242
  let v289 : BitVec 1 := Scalar.andi v288 v285
  let v290 : BitVec 32 := Scalar.addi v284 v283
  let v291 : BitVec 32 := Scalar.select v289 v290 v284
  let c1_i32_258 : BitVec 32 := 1#32
  let v303 : BitVec 32 := Scalar.muli v291 c1_i32_258
  let v304 : BitVec 32 := Scalar.addi c0_i32_259 v303
  v304.toNat
def k0_off4 (d0 : Dev nD) : Fin 4 → Nat :=
  let c4_i32_267 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v312 : BitVec 32 := Scalar.muli c4_i32_267 v2
  let v313 : Index := Scalar.indexCast v312
  let c0 : Index := 0#32
  let c0_268 : Index := 0#32
  let c0_269 : Index := 0#32
  ![v313.toNat, 0, 0, 0]
def k0_off5 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v316 : Index := Scalar.indexCast v2
  let c0_270 : Index := 0#32
  let c0_271 : Index := 0#32
  let c0_272 : Index := 0#32
  let c0_273 : Index := 0#32
  ![v316.toNat, 0, 0, 0, 0]
def k0_off6 (d0 : Dev nD) (c1_i32_300 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v350 : BitVec 32 := Scalar.subi v2 c1_i32_300
  let c8_i32_301 : BitVec 32 := 8#32
  let c0_i32_302 : BitVec 32 := 0#32
  let v351 : BitVec 1 := Scalar.cmpi .eq c8_i32_301 c0_i32_302
  let c1_i32_303 : BitVec 32 := 1#32
  let v352 : BitVec 32 := Scalar.select v351 c1_i32_303 c8_i32_301
  let v353 : BitVec 32 := Scalar.remsi v350 v352
  let c0_i32_305 : BitVec 32 := 0#32
  let v355 : BitVec 1 := Scalar.cmpi .slt v353 c0_i32_305
  let c0_i32_306 : BitVec 32 := 0#32
  let v356 : BitVec 1 := Scalar.cmpi .slt v352 c0_i32_306
  let v357 : BitVec 1 := Scalar.xori v355 v356
  let c0_i32_304 : BitVec 32 := 0#32
  let v354 : BitVec 1 := Scalar.cmpi .ne v353 c0_i32_304
  let v358 : BitVec 1 := Scalar.andi v357 v354
  let v359 : BitVec 32 := Scalar.addi v353 v352
  let v360 : BitVec 32 := Scalar.select v358 v359 v353
  ![v360.toNat]
def k0_off7 (d0 : Dev nD) (c1_i32_300 : BitVec 32) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v350 : BitVec 32 := Scalar.subi v2 c1_i32_300
  let c8_i32_301 : BitVec 32 := 8#32
  let c0_i32_302 : BitVec 32 := 0#32
  let v351 : BitVec 1 := Scalar.cmpi .eq c8_i32_301 c0_i32_302
  let c1_i32_303 : BitVec 32 := 1#32
  let v352 : BitVec 32 := Scalar.select v351 c1_i32_303 c8_i32_301
  let v353 : BitVec 32 := Scalar.remsi v350 v352
  let c0_i32_305 : BitVec 32 := 0#32
  let v355 : BitVec 1 := Scalar.cmpi .slt v353 c0_i32_305
  let c0_i32_306 : BitVec 32 := 0#32
  let v356 : BitVec 1 := Scalar.cmpi .slt v352 c0_i32_306
  let v357 : BitVec 1 := Scalar.xori v355 v356
  let c0_i32_304 : BitVec 32 := 0#32
  let v354 : BitVec 1 := Scalar.cmpi .ne v353 c0_i32_304
  let v358 : BitVec 1 := Scalar.andi v357 v354
  let v359 : BitVec 32 := Scalar.addi v353 v352
  let v360 : BitVec 32 := Scalar.select v358 v359 v353
  let c0_i32_312 : BitVec 32 := 0#32
  let c0_i32_313 : BitVec 32 := 0#32
  let c0_i32_314 : BitVec 32 := 0#32
  let c0_i32_315 : BitVec 32 := 0#32
  ![v360.toNat, 0, 0, 0, 0]
def k0_off8 (d0 : Dev nD) (c1_i32_300 : BitVec 32) : Fin 4 → Nat :=
  let c4_i32_307 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v350 : BitVec 32 := Scalar.subi v2 c1_i32_300
  let c8_i32_301 : BitVec 32 := 8#32
  let c0_i32_302 : BitVec 32 := 0#32
  let v351 : BitVec 1 := Scalar.cmpi .eq c8_i32_301 c0_i32_302
  let c1_i32_303 : BitVec 32 := 1#32
  let v352 : BitVec 32 := Scalar.select v351 c1_i32_303 c8_i32_301
  let v353 : BitVec 32 := Scalar.remsi v350 v352
  let c0_i32_305 : BitVec 32 := 0#32
  let v355 : BitVec 1 := Scalar.cmpi .slt v353 c0_i32_305
  let c0_i32_306 : BitVec 32 := 0#32
  let v356 : BitVec 1 := Scalar.cmpi .slt v352 c0_i32_306
  let v357 : BitVec 1 := Scalar.xori v355 v356
  let c0_i32_304 : BitVec 32 := 0#32
  let v354 : BitVec 1 := Scalar.cmpi .ne v353 c0_i32_304
  let v358 : BitVec 1 := Scalar.andi v357 v354
  let v359 : BitVec 32 := Scalar.addi v353 v352
  let v360 : BitVec 32 := Scalar.select v358 v359 v353
  let v361 : BitVec 32 := Scalar.muli c4_i32_307 v360
  let c0_i32_316 : BitVec 32 := 0#32
  let c0_i32_317 : BitVec 32 := 0#32
  let c0_i32_318 : BitVec 32 := 0#32
  ![v361.toNat, 0, 0, 0]
def k0_off9 (d0 : Dev nD) : Fin 3 → Nat :=
  let c0_i32_1805 : BitVec 32 := 0#32
  let c0_i32_1796 : BitVec 32 := 0#32
  let c1_i32_1794 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1790 : BitVec 32 := 0#32
  let v2413 : BitVec 32 := Scalar.shrsi v2 c0_i32_1790
  let c1_i32_1791 : BitVec 32 := 1#32
  let v2414 : BitVec 32 := Scalar.andi v2413 c1_i32_1791
  let v2417 : BitVec 32 := Scalar.subi c1_i32_1794 v2414
  let c128_i32_1795 : BitVec 32 := 128#32
  let v2418 : BitVec 32 := Scalar.muli v2417 c128_i32_1795
  let v2419 : BitVec 32 := Scalar.addi c0_i32_1796 v2418
  let c0_i32_1806 : BitVec 32 := 0#32
  ![0, v2419.toNat, 0]
def k0_dev22 (d0 : Dev nD) : Nat :=
  let c0_i32_1801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1789 : BitVec 32 := 1#32
  let v2412 : BitVec 32 := Scalar.xori v2 c1_i32_1789
  let c1_i32_1800 : BitVec 32 := 1#32
  let v2420 : BitVec 32 := Scalar.muli v2412 c1_i32_1800
  let v2421 : BitVec 32 := Scalar.addi c0_i32_1801 v2420
  v2421.toNat
def k0_off10 (d0 : Dev nD) : Fin 3 → Nat :=
  let c0_1826 : Index := 0#32
  let c0_i32_1793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1790 : BitVec 32 := 0#32
  let v2413 : BitVec 32 := Scalar.shrsi v2 c0_i32_1790
  let c1_i32_1791 : BitVec 32 := 1#32
  let v2414 : BitVec 32 := Scalar.andi v2413 c1_i32_1791
  let c128_i32_1792 : BitVec 32 := 128#32
  let v2415 : BitVec 32 := Scalar.muli v2414 c128_i32_1792
  let v2416 : BitVec 32 := Scalar.addi c0_i32_1793 v2415
  let v2441 : Index := Scalar.indexCast v2416
  let c0_1827 : Index := 0#32
  ![0, v2441.toNat, 0]
def k0_off11 (d0 : Dev nD) : Fin 3 → Nat :=
  let c0_i32_1847 : BitVec 32 := 0#32
  let c0_i32_1793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1790 : BitVec 32 := 0#32
  let v2413 : BitVec 32 := Scalar.shrsi v2 c0_i32_1790
  let c1_i32_1791 : BitVec 32 := 1#32
  let v2414 : BitVec 32 := Scalar.andi v2413 c1_i32_1791
  let c128_i32_1792 : BitVec 32 := 128#32
  let v2415 : BitVec 32 := Scalar.muli v2414 c128_i32_1792
  let v2416 : BitVec 32 := Scalar.addi c0_i32_1793 v2415
  let c1_i32_1837 : BitVec 32 := 1#32
  let c1_i32_1835 : BitVec 32 := 1#32
  let v2451 : BitVec 32 := Scalar.shrsi v2 c1_i32_1835
  let c1_i32_1836 : BitVec 32 := 1#32
  let v2452 : BitVec 32 := Scalar.andi v2451 c1_i32_1836
  let v2455 : BitVec 32 := Scalar.subi c1_i32_1837 v2452
  let c64_i32_1838 : BitVec 32 := 64#32
  let v2456 : BitVec 32 := Scalar.muli v2455 c64_i32_1838
  let v2457 : BitVec 32 := Scalar.addi v2416 v2456
  let c0_i32_1848 : BitVec 32 := 0#32
  ![0, v2457.toNat, 0]
def k0_dev23 (d0 : Dev nD) : Nat :=
  let c0_i32_1843 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1834 : BitVec 32 := 2#32
  let v2450 : BitVec 32 := Scalar.xori v2 c2_i32_1834
  let c1_i32_1842 : BitVec 32 := 1#32
  let v2458 : BitVec 32 := Scalar.muli v2450 c1_i32_1842
  let v2459 : BitVec 32 := Scalar.addi c0_i32_1843 v2458
  v2459.toNat
def k0_off12 (d0 : Dev nD) : Fin 3 → Nat :=
  let c0_1868 : Index := 0#32
  let c0_i32_1793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1790 : BitVec 32 := 0#32
  let v2413 : BitVec 32 := Scalar.shrsi v2 c0_i32_1790
  let c1_i32_1791 : BitVec 32 := 1#32
  let v2414 : BitVec 32 := Scalar.andi v2413 c1_i32_1791
  let c128_i32_1792 : BitVec 32 := 128#32
  let v2415 : BitVec 32 := Scalar.muli v2414 c128_i32_1792
  let v2416 : BitVec 32 := Scalar.addi c0_i32_1793 v2415
  let c1_i32_1835 : BitVec 32 := 1#32
  let v2451 : BitVec 32 := Scalar.shrsi v2 c1_i32_1835
  let c1_i32_1836 : BitVec 32 := 1#32
  let v2452 : BitVec 32 := Scalar.andi v2451 c1_i32_1836
  let c64_i32 : BitVec 32 := 64#32
  let v2453 : BitVec 32 := Scalar.muli v2452 c64_i32
  let v2454 : BitVec 32 := Scalar.addi v2416 v2453
  let v2479 : Index := Scalar.indexCast v2454
  let c0_1869 : Index := 0#32
  ![0, v2479.toNat, 0]
def k0_off13 (d0 : Dev nD) : Fin 3 → Nat :=
  let c0_i32_1890 : BitVec 32 := 0#32
  let c0_i32_1793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1790 : BitVec 32 := 0#32
  let v2413 : BitVec 32 := Scalar.shrsi v2 c0_i32_1790
  let c1_i32_1791 : BitVec 32 := 1#32
  let v2414 : BitVec 32 := Scalar.andi v2413 c1_i32_1791
  let c128_i32_1792 : BitVec 32 := 128#32
  let v2415 : BitVec 32 := Scalar.muli v2414 c128_i32_1792
  let v2416 : BitVec 32 := Scalar.addi c0_i32_1793 v2415
  let c1_i32_1835 : BitVec 32 := 1#32
  let v2451 : BitVec 32 := Scalar.shrsi v2 c1_i32_1835
  let c1_i32_1836 : BitVec 32 := 1#32
  let v2452 : BitVec 32 := Scalar.andi v2451 c1_i32_1836
  let c64_i32 : BitVec 32 := 64#32
  let v2453 : BitVec 32 := Scalar.muli v2452 c64_i32
  let v2454 : BitVec 32 := Scalar.addi v2416 v2453
  let c1_i32_1880 : BitVec 32 := 1#32
  let c2_i32_1877 : BitVec 32 := 2#32
  let v2489 : BitVec 32 := Scalar.shrsi v2 c2_i32_1877
  let c1_i32_1878 : BitVec 32 := 1#32
  let v2490 : BitVec 32 := Scalar.andi v2489 c1_i32_1878
  let v2493 : BitVec 32 := Scalar.subi c1_i32_1880 v2490
  let c32_i32_1881 : BitVec 32 := 32#32
  let v2494 : BitVec 32 := Scalar.muli v2493 c32_i32_1881
  let v2495 : BitVec 32 := Scalar.addi v2454 v2494
  let c0_i32_1891 : BitVec 32 := 0#32
  ![0, v2495.toNat, 0]
def k0_dev24 (d0 : Dev nD) : Nat :=
  let c0_i32_1886 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1876 : BitVec 32 := 4#32
  let v2488 : BitVec 32 := Scalar.xori v2 c4_i32_1876
  let c1_i32_1885 : BitVec 32 := 1#32
  let v2496 : BitVec 32 := Scalar.muli v2488 c1_i32_1885
  let v2497 : BitVec 32 := Scalar.addi c0_i32_1886 v2496
  v2497.toNat
def k0_off14 (d0 : Dev nD) : Fin 3 → Nat :=
  let c0_1911 : Index := 0#32
  let c0_i32_1793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1790 : BitVec 32 := 0#32
  let v2413 : BitVec 32 := Scalar.shrsi v2 c0_i32_1790
  let c1_i32_1791 : BitVec 32 := 1#32
  let v2414 : BitVec 32 := Scalar.andi v2413 c1_i32_1791
  let c128_i32_1792 : BitVec 32 := 128#32
  let v2415 : BitVec 32 := Scalar.muli v2414 c128_i32_1792
  let v2416 : BitVec 32 := Scalar.addi c0_i32_1793 v2415
  let c1_i32_1835 : BitVec 32 := 1#32
  let v2451 : BitVec 32 := Scalar.shrsi v2 c1_i32_1835
  let c1_i32_1836 : BitVec 32 := 1#32
  let v2452 : BitVec 32 := Scalar.andi v2451 c1_i32_1836
  let c64_i32 : BitVec 32 := 64#32
  let v2453 : BitVec 32 := Scalar.muli v2452 c64_i32
  let v2454 : BitVec 32 := Scalar.addi v2416 v2453
  let c2_i32_1877 : BitVec 32 := 2#32
  let v2489 : BitVec 32 := Scalar.shrsi v2 c2_i32_1877
  let c1_i32_1878 : BitVec 32 := 1#32
  let v2490 : BitVec 32 := Scalar.andi v2489 c1_i32_1878
  let c32_i32_1879 : BitVec 32 := 32#32
  let v2491 : BitVec 32 := Scalar.muli v2490 c32_i32_1879
  let v2492 : BitVec 32 := Scalar.addi v2454 v2491
  let v2517 : Index := Scalar.indexCast v2492
  let c0_1912 : Index := 0#32
  ![0, v2517.toNat, 0]
def k0_off15 (d0 : Dev nD) : Fin 3 → Nat :=
  let c0_i32_1926 : BitVec 32 := 0#32
  let c0_i32_1793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1790 : BitVec 32 := 0#32
  let v2413 : BitVec 32 := Scalar.shrsi v2 c0_i32_1790
  let c1_i32_1791 : BitVec 32 := 1#32
  let v2414 : BitVec 32 := Scalar.andi v2413 c1_i32_1791
  let c128_i32_1792 : BitVec 32 := 128#32
  let v2415 : BitVec 32 := Scalar.muli v2414 c128_i32_1792
  let v2416 : BitVec 32 := Scalar.addi c0_i32_1793 v2415
  let c1_i32_1835 : BitVec 32 := 1#32
  let v2451 : BitVec 32 := Scalar.shrsi v2 c1_i32_1835
  let c1_i32_1836 : BitVec 32 := 1#32
  let v2452 : BitVec 32 := Scalar.andi v2451 c1_i32_1836
  let c64_i32 : BitVec 32 := 64#32
  let v2453 : BitVec 32 := Scalar.muli v2452 c64_i32
  let v2454 : BitVec 32 := Scalar.addi v2416 v2453
  let c2_i32_1877 : BitVec 32 := 2#32
  let v2489 : BitVec 32 := Scalar.shrsi v2 c2_i32_1877
  let c1_i32_1878 : BitVec 32 := 1#32
  let v2490 : BitVec 32 := Scalar.andi v2489 c1_i32_1878
  let c32_i32_1879 : BitVec 32 := 32#32
  let v2491 : BitVec 32 := Scalar.muli v2490 c32_i32_1879
  let v2492 : BitVec 32 := Scalar.addi v2454 v2491
  let c0_i32_1927 : BitVec 32 := 0#32
  ![0, v2492.toNat, 0]
def k0_dev25 (d0 : Dev nD) : Nat :=
  let c0_i32_1925 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1919 : BitVec 32 := 4#32
  let v2526 : BitVec 32 := Scalar.xori v2 c4_i32_1919
  let c1_i32_1924 : BitVec 32 := 1#32
  let v2529 : BitVec 32 := Scalar.muli v2526 c1_i32_1924
  let v2530 : BitVec 32 := Scalar.addi c0_i32_1925 v2529
  v2530.toNat
def k0_off16 (d0 : Dev nD) : Fin 3 → Nat :=
  let c0_i32_1953 : BitVec 32 := 0#32
  let c0_i32_1793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1790 : BitVec 32 := 0#32
  let v2413 : BitVec 32 := Scalar.shrsi v2 c0_i32_1790
  let c1_i32_1791 : BitVec 32 := 1#32
  let v2414 : BitVec 32 := Scalar.andi v2413 c1_i32_1791
  let c128_i32_1792 : BitVec 32 := 128#32
  let v2415 : BitVec 32 := Scalar.muli v2414 c128_i32_1792
  let v2416 : BitVec 32 := Scalar.addi c0_i32_1793 v2415
  let c1_i32_1835 : BitVec 32 := 1#32
  let v2451 : BitVec 32 := Scalar.shrsi v2 c1_i32_1835
  let c1_i32_1836 : BitVec 32 := 1#32
  let v2452 : BitVec 32 := Scalar.andi v2451 c1_i32_1836
  let c64_i32 : BitVec 32 := 64#32
  let v2453 : BitVec 32 := Scalar.muli v2452 c64_i32
  let v2454 : BitVec 32 := Scalar.addi v2416 v2453
  let c2_i32_1877 : BitVec 32 := 2#32
  let v2489 : BitVec 32 := Scalar.shrsi v2 c2_i32_1877
  let c1_i32_1878 : BitVec 32 := 1#32
  let v2490 : BitVec 32 := Scalar.andi v2489 c1_i32_1878
  let c32_i32_1879 : BitVec 32 := 32#32
  let v2491 : BitVec 32 := Scalar.muli v2490 c32_i32_1879
  let v2492 : BitVec 32 := Scalar.addi v2454 v2491
  let c2_i32_1920 : BitVec 32 := 2#32
  let v2527 : BitVec 32 := Scalar.shrsi v2 c2_i32_1920
  let c1_i32_1921 : BitVec 32 := 1#32
  let v2528 : BitVec 32 := Scalar.andi v2527 c1_i32_1921
  let c32_i32_1945 : BitVec 32 := 32#32
  let v2547 : BitVec 32 := Scalar.muli v2528 c32_i32_1945
  let v2548 : BitVec 32 := Scalar.subi v2492 v2547
  let c0_i32_1954 : BitVec 32 := 0#32
  ![0, v2548.toNat, 0]
def k0_dev26 (d0 : Dev nD) : Nat :=
  let c0_i32_1952 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1946 : BitVec 32 := 2#32
  let v2549 : BitVec 32 := Scalar.xori v2 c2_i32_1946
  let c1_i32_1951 : BitVec 32 := 1#32
  let v2552 : BitVec 32 := Scalar.muli v2549 c1_i32_1951
  let v2553 : BitVec 32 := Scalar.addi c0_i32_1952 v2552
  v2553.toNat
def k0_off17 (d0 : Dev nD) : Fin 3 → Nat :=
  let c0_i32_1978 : BitVec 32 := 0#32
  let c0_i32_1793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1790 : BitVec 32 := 0#32
  let v2413 : BitVec 32 := Scalar.shrsi v2 c0_i32_1790
  let c1_i32_1791 : BitVec 32 := 1#32
  let v2414 : BitVec 32 := Scalar.andi v2413 c1_i32_1791
  let c128_i32_1792 : BitVec 32 := 128#32
  let v2415 : BitVec 32 := Scalar.muli v2414 c128_i32_1792
  let v2416 : BitVec 32 := Scalar.addi c0_i32_1793 v2415
  let c1_i32_1835 : BitVec 32 := 1#32
  let v2451 : BitVec 32 := Scalar.shrsi v2 c1_i32_1835
  let c1_i32_1836 : BitVec 32 := 1#32
  let v2452 : BitVec 32 := Scalar.andi v2451 c1_i32_1836
  let c64_i32 : BitVec 32 := 64#32
  let v2453 : BitVec 32 := Scalar.muli v2452 c64_i32
  let v2454 : BitVec 32 := Scalar.addi v2416 v2453
  let c2_i32_1877 : BitVec 32 := 2#32
  let v2489 : BitVec 32 := Scalar.shrsi v2 c2_i32_1877
  let c1_i32_1878 : BitVec 32 := 1#32
  let v2490 : BitVec 32 := Scalar.andi v2489 c1_i32_1878
  let c32_i32_1879 : BitVec 32 := 32#32
  let v2491 : BitVec 32 := Scalar.muli v2490 c32_i32_1879
  let v2492 : BitVec 32 := Scalar.addi v2454 v2491
  let c2_i32_1920 : BitVec 32 := 2#32
  let v2527 : BitVec 32 := Scalar.shrsi v2 c2_i32_1920
  let c1_i32_1921 : BitVec 32 := 1#32
  let v2528 : BitVec 32 := Scalar.andi v2527 c1_i32_1921
  let c32_i32_1945 : BitVec 32 := 32#32
  let v2547 : BitVec 32 := Scalar.muli v2528 c32_i32_1945
  let v2548 : BitVec 32 := Scalar.subi v2492 v2547
  let c1_i32_1947 : BitVec 32 := 1#32
  let v2550 : BitVec 32 := Scalar.shrsi v2 c1_i32_1947
  let c1_i32_1948 : BitVec 32 := 1#32
  let v2551 : BitVec 32 := Scalar.andi v2550 c1_i32_1948
  let c64_i32_1972 : BitVec 32 := 64#32
  let v2570 : BitVec 32 := Scalar.muli v2551 c64_i32_1972
  let v2571 : BitVec 32 := Scalar.subi v2548 v2570
  let c0_i32_1979 : BitVec 32 := 0#32
  ![0, v2571.toNat, 0]
def k0_dev27 (d0 : Dev nD) : Nat :=
  let c0_i32_1977 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1973 : BitVec 32 := 1#32
  let v2572 : BitVec 32 := Scalar.xori v2 c1_i32_1973
  let c1_i32_1976 : BitVec 32 := 1#32
  let v2573 : BitVec 32 := Scalar.muli v2572 c1_i32_1976
  let v2574 : BitVec 32 := Scalar.addi c0_i32_1977 v2573
  v2574.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2x2048x32x64 : Shape := ⟨4, ![2, 2048, 32, 64]⟩
abbrev S2048x512 : Shape := ⟨2, ![2048, 512]⟩
abbrev S2x256x2048 : Shape := ⟨3, ![2, 256, 2048]⟩
abbrev S2x256x32x64 : Shape := ⟨4, ![2, 256, 32, 64]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S_ : Shape := ⟨0, ![]⟩
abbrev S2x32x256x2048 : Shape := ⟨4, ![2, 32, 256, 2048]⟩
abbrev S1x1x256x2048 : Shape := ⟨4, ![1, 1, 256, 2048]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 72
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x2048, .bf16⟩
  | .hbm, ⟨2, _⟩ => ⟨S2x2048x32x64, .bf16⟩
  | .hbm, ⟨3, _⟩ => ⟨S2x2048x32x64, .bf16⟩
  | .hbm, ⟨4, _⟩ => ⟨S2048x512, .bf16⟩
  | .hbm, ⟨5, _⟩ => ⟨S2x256x2048, .f32⟩
  | .hbm, ⟨6, _⟩ => ⟨S2x256x2048, .bf16⟩
  | .hbm, ⟨7, _⟩ => ⟨S2x256x32x64, .bf16⟩
  | .hbm, ⟨8, _⟩ => ⟨S256, .i32⟩
  | .hbm, ⟨9, _⟩ => ⟨S256x1, .i32⟩
  | .hbm, ⟨10, _⟩ => ⟨S2048, .i32⟩
  | .hbm, ⟨11, _⟩ => ⟨S1x2048, .i32⟩
  | .hbm, ⟨12, _⟩ => ⟨S256x2048, .i32⟩
  | .hbm, ⟨13, _⟩ => ⟨S256x2048, .i32⟩
  | .hbm, ⟨14, _⟩ => ⟨S256x2048, .i32⟩
  | .hbm, ⟨15, _⟩ => ⟨S256x2048, .i32⟩
  | .hbm, ⟨16, _⟩ => ⟨S_, .i32⟩
  | .hbm, ⟨17, _⟩ => ⟨S256x2048, .i32⟩
  | .hbm, ⟨18, _⟩ => ⟨S256x2048, .i1⟩
  | .hbm, ⟨19, _⟩ => ⟨S_, .i32⟩
  | .hbm, ⟨20, _⟩ => ⟨S1x2048, .i32⟩
  | .hbm, ⟨21, _⟩ => ⟨S1x2048, .i1⟩
  | .hbm, ⟨22, _⟩ => ⟨S_, .i32⟩
  | .hbm, ⟨23, _⟩ => ⟨S256x1, .i32⟩
  | .hbm, ⟨24, _⟩ => ⟨S256x1, .i1⟩
  | .hbm, ⟨25, _⟩ => ⟨S256x2048, .i1⟩
  | .hbm, ⟨26, _⟩ => ⟨S256x2048, .i1⟩
  | .hbm, ⟨27, _⟩ => ⟨S256x2048, .i1⟩
  | .hbm, ⟨28, _⟩ => ⟨S256x2048, .i1⟩
  | .hbm, ⟨29, _⟩ => ⟨S2x32x256x2048, .f32⟩
  | .hbm, ⟨30, _⟩ => ⟨S2x32x256x2048, .bf16⟩
  | .hbm, ⟨31, _⟩ => ⟨S2x32x256x2048, .f32⟩
  | .hbm, ⟨32, _⟩ => ⟨S_, .f32⟩
  | .hbm, ⟨33, _⟩ => ⟨S2x32x256x2048, .f32⟩
  | .hbm, ⟨34, _⟩ => ⟨S2x32x256x2048, .f32⟩
  | .hbm, ⟨35, _⟩ => ⟨S1x1x256x2048, .i1⟩
  | .hbm, ⟨36, _⟩ => ⟨S_, .f32⟩
  | .hbm, ⟨37, _⟩ => ⟨S_, .f32⟩
  | .hbm, ⟨38, _⟩ => ⟨S2x32x256x2048, .i1⟩
  | .hbm, ⟨39, _⟩ => ⟨S2x32x256x2048, .f32⟩
  | .hbm, ⟨40, _⟩ => ⟨S2x32x256x2048, .f32⟩
  | .hbm, ⟨41, _⟩ => ⟨S_, .f32⟩
  | .hbm, ⟨42, _⟩ => ⟨S2x32x256, .f32⟩
  | .hbm, ⟨43, _⟩ => ⟨S2x32x256x1, .f32⟩
  | .hbm, ⟨44, _⟩ => ⟨S2x32x256x2048, .f32⟩
  | .hbm, ⟨45, _⟩ => ⟨S2x32x256x2048, .f32⟩
  | .hbm, ⟨46, _⟩ => ⟨S2x32x256x2048, .f32⟩
  | .hbm, ⟨47, _⟩ => ⟨S_, .i1⟩
  | .hbm, ⟨48, _⟩ => ⟨S256, .i1⟩
  | .hbm, ⟨49, _⟩ => ⟨S1x1x256x1, .i1⟩
  | .hbm, ⟨50, _⟩ => ⟨S_, .f32⟩
  | .hbm, ⟨51, _⟩ => ⟨S2x32x256, .f32⟩
  | .hbm, ⟨52, _⟩ => ⟨S2x32x256x1, .f32⟩
  | .hbm, ⟨53, _⟩ => ⟨S_, .f32⟩
  | .hbm, ⟨54, _⟩ => ⟨S_, .f32⟩
  | .hbm, ⟨55, _⟩ => ⟨S2x32x256x1, .i1⟩
  | .hbm, ⟨56, _⟩ => ⟨S2x32x256x1, .f32⟩
  | .hbm, ⟨57, _⟩ => ⟨S2x32x256x1, .f32⟩
  | .hbm, ⟨58, _⟩ => ⟨S2x32x256x2048, .f32⟩
  | .hbm, ⟨59, _⟩ => ⟨S2x32x256x2048, .f32⟩
  | .hbm, ⟨60, _⟩ => ⟨S1x1x256x1, .i1⟩
  | .hbm, ⟨61, _⟩ => ⟨S_, .f32⟩
  | .hbm, ⟨62, _⟩ => ⟨S_, .f32⟩
  | .hbm, ⟨63, _⟩ => ⟨S2x32x256x2048, .i1⟩
  | .hbm, ⟨64, _⟩ => ⟨S2x32x256x2048, .f32⟩
  | .hbm, ⟨65, _⟩ => ⟨S2x32x256x2048, .f32⟩
  | .hbm, ⟨66, _⟩ => ⟨S2x2048x32x64, .f32⟩
  | .hbm, ⟨67, _⟩ => ⟨S2x32x64x256, .f32⟩
  | .hbm, ⟨68, _⟩ => ⟨S2x256x32x64, .f32⟩
  | .hbm, ⟨69, _⟩ => ⟨S2x256x2048, .f32⟩
  | .hbm, ⟨70, _⟩ => ⟨S2048x512, .f32⟩
  | .hbm, ⟨71, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Steps.lean ====
/-
The kernel's body, written again as a short program over its own steps: the handshake, the sends of the key and
value blocks, the own block's copy, the projection of the queries, the attention of one head (eight key blocks of
scores, then the weights applied to eight value blocks), the output projection, the three halving rounds and the three
doubling rounds of the exchange, and the results' store. The printed body is this program, by unfolding.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

set_option synthInstance.maxSize 4096

noncomputable section

namespace Cert.KernelIdeal.Run

open Idealize.ShloMosaic Idealize.ShloMosaic.TcCoe Idealize.SL.Sem
open Cert.KernelIdeal Cert.KernelIdeal.Gen

variable {F : FTy → Type} [FloatOps F]

abbrev P (α : Type) := Prog (TpuEff nD τ sig (Elt F) Λ₀ .tc) α

/-! ## The buffers and the semaphores -/

abbrev xM : Memref sig .tc .vmem S2x256x512 .bf16 := Memref.whole cc0_stg0_0
abbrev wqM : Memref sig .tc .vmem S512x256 .bf16 := Memref.whole cc0_stg1_0
abbrev kM : Memref sig .tc .vmem S32x2x256x64 .bf16 := Memref.whole cc0_stg2_0
abbrev vM : Memref sig .tc .vmem S32x2x256x64 .bf16 := Memref.whole cc0_stg3_0
abbrev woM : Memref sig .tc .vmem S256x512 .bf16 := Memref.whole cc0_stg4_0
abbrev outM : Memref sig .tc .vmem S2x256x512 .f32 := Memref.whole cc0_stg5_0
abbrev qM : Memref sig .tc .vmem S2x256x256 .bf16 := Memref.whole cc0_scratch0
abbrev kgM : Memref sig .tc .vmem S8x4x2x256x64 .bf16 := Memref.whole cc0_scratch1
abbrev vgM : Memref sig .tc .vmem S8x4x2x256x64 .bf16 := Memref.whole cc0_scratch2
abbrev scM : Memref sig .tc .vmem S256x2048 .f32 := Memref.whole cc0_scratch3
abbrev ctxM : Memref sig .tc .vmem S2x256x256 .bf16 := Memref.whole cc0_scratch4
abbrev accM : Memref sig .tc .vmem S2x256x512 .bf16 := Memref.whole cc0_scratch5
abbrev stM : Memref sig .tc .vmem S3x2x128x512 .bf16 := Memref.whole cc0_scratch6

theorem wh (b : Ref sig .tc) : (Memref.whole b).IsWhole := Memref.isWhole_whole _

/-- One semaphore of an array of eight. -/
abbrev semAt (a : DmaSems sig S8) (o : Fin 1 → Nat) (h : ∀ x, o x + S1.size x ≤ S8.size x) : DmaSem sig :=
  ((a.slice (Rect.unit (s := S8) o S1.size h)).squeeze S_ squeezes_S1_S_).sem

theorem inb8 (i : Fin 8) : ∀ x, (![i.val] : Fin 1 → Nat) x + S1.size x ≤ S8.size x := by revert i; decide

abbrev semI (a : DmaSems sig S8) (i : Fin 8) : DmaSem sig := semAt a ![i.val] (inb8 i)

/-! ## The steps -/

/-- `f` at each element of a list, in order. -/
def each {α : Type} (f : α → P (F := F) PUnit) : List α → P (F := F) PUnit
  | [] => pure ⟨⟩
  | a :: l => do f a; each f l

/-- A transfer from this device's `src` to `dst`'s `land`. -/
abbrev sendP {s : Shape} (dst : Dev nD) (src land : Memref sig .tc .vmem s .bf16) (sS sR : DmaSem sig)
    (h₁ : src.view.WordExact) (h₂ : land.view.WordExact) : P (F := F) PUnit :=
  Prog.lift (.enqueueDma src (.remote (Dev.tc dst) land (.dma sS)) (.dma sR) h₁ h₂ ⟨⟨rfl, Or.inl rfl⟩, trivial⟩)

abbrev waitP {s : Shape} (sm : DmaSem sig) (a b : Memref sig .tc .vmem s .bf16)
    (h₁ : a.view.WordExact) (h₂ : b.view.WordExact) : P (F := F) PUnit :=
  Prog.lift (.waitDma2 sm a b h₁ h₂)

/-- Send, then wait for the send and for the arrival. -/
def exchP {s : Shape} (dst : Dev nD) (src land : Memref sig .tc .vmem s .bf16) (sS sR : DmaSem sig)
    (h₁ : src.view.WordExact) (h₂ : land.view.WordExact) : P (F := F) PUnit := do
  sendP dst src land sS sR h₁ h₂
  waitP sS land src h₂ h₁
  waitP sR src land h₁ h₂

/-! ### The handshake -/

/-- The devices signalled, in order. -/
def sigDev (d : Dev nD) : Fin 7 → Dev nD
  | 0 => ⟨k0_dev1 d, k0_dev1_lt d⟩
  | 1 => ⟨k0_dev2 d, k0_dev2_lt d⟩
  | 2 => ⟨k0_dev3 d, k0_dev3_lt d⟩
  | 3 => ⟨k0_dev4 d, k0_dev4_lt d⟩
  | 4 => ⟨k0_dev5 d, k0_dev5_lt d⟩
  | 5 => ⟨k0_dev6 d, k0_dev6_lt d⟩
  | 6 => ⟨k0_dev7 d, k0_dev7_lt d⟩
  | ⟨_ + 7, h⟩ => absurd h (by omega)

/-- The devices the key block goes to, in order. -/
def devK (d : Dev nD) : Fin 7 → Dev nD
  | 0 => ⟨k0_dev8 d, k0_dev8_lt d⟩
  | 1 => ⟨k0_dev10 d, k0_dev10_lt d⟩
  | 2 => ⟨k0_dev12 d, k0_dev12_lt d⟩
  | 3 => ⟨k0_dev14 d, k0_dev14_lt d⟩
  | 4 => ⟨k0_dev16 d, k0_dev16_lt d⟩
  | 5 => ⟨k0_dev18 d, k0_dev18_lt d⟩
  | 6 => ⟨k0_dev20 d, k0_dev20_lt d⟩
  | ⟨_ + 7, h⟩ => absurd h (by omega)

/-- The devices the value block goes to, in order. -/
def devV (d : Dev nD) : Fin 7 → Dev nD
  | 0 => ⟨k0_dev9 d, k0_dev9_lt d⟩
  | 1 => ⟨k0_dev11 d, k0_dev11_lt d⟩
  | 2 => ⟨k0_dev13 d, k0_dev13_lt d⟩
  | 3 => ⟨k0_dev15 d, k0_dev15_lt d⟩
  | 4 => ⟨k0_dev17 d, k0_dev17_lt d⟩
  | 5 => ⟨k0_dev19 d, k0_dev19_lt d⟩
  | 6 => ⟨k0_dev21 d, k0_dev21_lt d⟩
  | ⟨_ + 7, h⟩ => absurd h (by omega)

abbrev barS : Sem sig := (SemArray.scalar (sig.barrier 0 rfl) : Sems sig S_).sem

def signalP (d : Dev nD) (i : Fin 7) : P (F := F) PUnit := semSignalWord (sigDev d i) barS 1#32

/-! ### The key and value blocks -/

/-- The eight heads' worth of a key or value array that go to peer number `i`. -/
abbrev srcOf (M : Memref sig .tc .vmem S32x2x256x64 .bf16) (d : Dev nD) (i : Fin 7) : Memref sig .tc .vmem S4x2x256x64 .bf16 :=
  M.slice (Rect.unit (s := S32x2x256x64) (k0_off3 d (BitVec.ofNat 32 (1 + i.val))) S4x2x256x64.size (k0_off3_inb d i)) (fun _ => rfl)

/-- The slot of a gathering buffer that is this device's. -/
abbrev slotOf (M : Memref sig .tc .vmem S8x4x2x256x64 .bf16) (d : Dev nD) : Memref sig .tc .vmem S4x2x256x64 .bf16 :=
  (M.slice (Rect.unit (s := S8x4x2x256x64) (k0_off2 d) S1x4x2x256x64.size (k0_off2_inb d)) (fun _ => rfl)).squeeze S4x2x256x64 squeezes_S1x4x2x256x64_S4x2x256x64

/-- The slot of a gathering buffer waited for at peer number `i`. -/
abbrev inSlotOf (M : Memref sig .tc .vmem S8x4x2x256x64 .bf16) (d : Dev nD) (i : Fin 7) : Memref sig .tc .vmem S4x2x256x64 .bf16 :=
  (M.slice (Rect.unit (s := S8x4x2x256x64) (k0_off7 d (BitVec.ofNat 32 (1 + i.val))) S1x4x2x256x64.size (k0_off7_inb d i)) (fun _ => rfl)).squeeze S4x2x256x64 squeezes_S1x4x2x256x64_S4x2x256x64

abbrev inSrcOf (M : Memref sig .tc .vmem S32x2x256x64 .bf16) (d : Dev nD) (i : Fin 7) : Memref sig .tc .vmem S4x2x256x64 .bf16 :=
  M.slice (Rect.unit (s := S32x2x256x64) (k0_off8 d (BitVec.ofNat 32 (1 + i.val))) S4x2x256x64.size (k0_off8_inb d i)) (fun _ => rfl)

def sucI (i : Fin 7) : Fin 8 := ⟨1 + i.val, by omega⟩

theorem srcK_we (d : Dev nD) (i : Fin 7) : (srcOf kM d i).view.WordExact := (wh cc0_stg2_0).wordExact_slice rfl _ (k0_off3_wordsbf16 d i)
theorem srcV_we (d : Dev nD) (i : Fin 7) : (srcOf vM d i).view.WordExact := (wh cc0_stg3_0).wordExact_slice rfl _ (k0_off3_wordsbf16 d i)
theorem slotK_we (d : Dev nD) : (slotOf kgM d).view.WordExact := ((wh cc0_scratch1).wordExact_slice rfl _ (k0_off2_wordsbf16 d)).reshape _ _
theorem slotV_we (d : Dev nD) : (slotOf vgM d).view.WordExact := ((wh cc0_scratch2).wordExact_slice rfl _ (k0_off2_wordsbf16 d)).reshape _ _
theorem inSlotK_we (d : Dev nD) (i : Fin 7) : (inSlotOf kgM d i).view.WordExact := ((wh cc0_scratch1).wordExact_slice rfl _ (k0_off7_wordsbf16 d i)).reshape _ _
theorem inSlotV_we (d : Dev nD) (i : Fin 7) : (inSlotOf vgM d i).view.WordExact := ((wh cc0_scratch2).wordExact_slice rfl _ (k0_off7_wordsbf16 d i)).reshape _ _
theorem inSrcK_we (d : Dev nD) (i : Fin 7) : (inSrcOf kM d i).view.WordExact := (wh cc0_stg2_0).wordExact_slice rfl _ (k0_off8_wordsbf16 d i)
theorem inSrcV_we (d : Dev nD) (i : Fin 7) : (inSrcOf vM d i).view.WordExact := (wh cc0_stg3_0).wordExact_slice rfl _ (k0_off8_wordsbf16 d i)

def sendKV (d : Dev nD) (i : Fin 7) : P (F := F) PUnit := do
  sendP (devK d i) (srcOf kM d i) (slotOf kgM d) (semI cc0_scratch7 (sucI i)) (semAt cc0_scratch8 (k0_off1 d) (k0_off1_inb d)) (srcK_we d i) (slotK_we d)
  sendP (devV d i) (srcOf vM d i) (slotOf vgM d) (semI cc0_scratch9 (sucI i)) (semAt cc0_scratch10 (k0_off1 d) (k0_off1_inb d)) (srcV_we d i) (slotV_we d)

def recvKV (d : Dev nD) (i : Fin 7) : P (F := F) PUnit := do
  waitP (semAt cc0_scratch8 (k0_off6 d (BitVec.ofNat 32 (1 + i.val))) (k0_off6_inb d i)) (inSrcOf kM d i) (inSlotOf kgM d i) (inSrcK_we d i) (inSlotK_we d i)
  waitP (semAt cc0_scratch10 (k0_off6 d (BitVec.ofNat 32 (1 + i.val))) (k0_off6_inb d i)) (inSrcOf vM d i) (inSlotOf vgM d i) (inSrcV_we d i) (inSlotV_we d i)

def drainKV (d : Dev nD) (i : Fin 7) : P (F := F) PUnit := do
  waitP (semI cc0_scratch7 (sucI i)) (slotOf kgM d) (srcOf kM d i) (slotK_we d) (srcK_we d i)
  waitP (semI cc0_scratch9 (sucI i)) (slotOf vgM d) (srcOf vM d i) (slotV_we d) (srcV_we d i)

abbrev rOwnSrc (d : Dev nD) : Rect S32x2x256x64 := Rect.unit (s := S32x2x256x64) (k0_off4 d) S4x2x256x64.size (k0_off4_inb d)
abbrev rOwnSlot (d : Dev nD) : Rect S8x4x2x256x64 := Rect.unit (s := S8x4x2x256x64) (k0_off5 d) S1x4x2x256x64.size (k0_off5_inb d)

/-- This device's own block, copied through its registers. -/
def ownKV (d : Dev nD) : P (F := F) PUnit := do
  let k : Vec F S4x2x256x64 .bf16 ← Prog.lift (.load kM (rOwnSrc d).toLoadRect (View.loadsAt_vmem h_S4x2x256x64))
  let _ : Vec F S1x4x2x256x64 .bf16 ← Prog.lift (.load kgM (rOwnSlot d).toLoadRect (View.loadsAt_vmem h_S1x4x2x256x64))
  Prog.lift (.store kgM (rOwnSlot d) (k0_pay1 k) Finset.univ (View.stores_vmem h_S1x4x2x256x64 ((wh cc0_scratch1).storeExact_slice rfl _ (k0_off5_packedbf16 d)) (fun _ => rfl)) (.inl rfl))
  let v : Vec F S4x2x256x64 .bf16 ← Prog.lift (.load vM (rOwnSrc d).toLoadRect (View.loadsAt_vmem h_S4x2x256x64))
  let _ : Vec F S1x4x2x256x64 .bf16 ← Prog.lift (.load vgM (rOwnSlot d).toLoadRect (View.loadsAt_vmem h_S1x4x2x256x64))
  Prog.lift (.store vgM (rOwnSlot d) (k0_pay2 v) Finset.univ (View.stores_vmem h_S1x4x2x256x64 ((wh cc0_scratch2).storeExact_slice rfl _ (k0_off5_packedbf16 d)) (fun _ => rfl)) (.inl rfl))

/-! ### The queries -/

theorem inbX (b : Fin 2) : ∀ a, (![b.val, 0, 0] : Fin 3 → Nat) a + S1x256x512.size a ≤ S2x256x512.size a := by revert b; decide
theorem inbQ (b : Fin 2) : ∀ a, (![b.val, 0, 0] : Fin 3 → Nat) a + S1x256x256.size a ≤ S2x256x256.size a := by revert b; decide
theorem pkQ (b : Fin 2) : (Rect.unit (s := S2x256x256) ![b.val, 0, 0] S1x256x256.size (inbQ b)).PackedRows (EltTy.packing .bf16) := by revert b; decide

abbrev rX (b : Fin 2) : Rect S2x256x512 := Rect.unit (s := S2x256x512) ![b.val, 0, 0] S1x256x512.size (inbX b)
abbrev rQ (b : Fin 2) : Rect S2x256x256 := Rect.unit (s := S2x256x256) ![b.val, 0, 0] S1x256x256.size (inbQ b)
abbrev rWq : Rect S512x256 := Rect.unit (s := S512x256) ![0, 0] S512x256.size inb_S512x256_S512x256_0_0

def queryP (b : Fin 2) : P (F := F) PUnit := do
  let x : Vec F S1x256x512 .bf16 ← Prog.lift (.load xM (rX b).toLoadRect (View.loadsAt_vmem h_S1x256x512))
  let w : Vec F S512x256 .bf16 ← Prog.lift (.load wqM rWq.toLoadRect (View.loadsAt_vmem h_S512x256))
  let _ : Vec F S1x256x256 .bf16 ← Prog.lift (.load qM (rQ b).toLoadRect (View.loadsAt_vmem h_S1x256x256))
  Prog.lift (.store qM (rQ b) (k0_pay5 x w) Finset.univ (View.stores_vmem h_S1x256x256 ((wh cc0_scratch0).storeExact_slice rfl _ (pkQ b)) (fun _ => rfl)) (.inl rfl))

/-! ### One head -/

theorem inbG (c : Fin 8) (h : Fin 4) (b : Fin 2) : ∀ a, (![c.val, h.val, b.val, 0, 0] : Fin 5 → Nat) a + S1x1x1x256x64.size a ≤ S8x4x2x256x64.size a := by revert c h b; decide
theorem inbS (c : Fin 8) : ∀ a, (![0, 256 * c.val] : Fin 2 → Nat) a + S256x256.size a ≤ S256x2048.size a := by revert c; decide
theorem inbC (b : Fin 2) (h : Fin 4) : ∀ a, (![b.val, 0, 64 * h.val] : Fin 3 → Nat) a + S1x256x64.size a ≤ S2x256x256.size a := by revert b h; decide
theorem pkC (b : Fin 2) (h : Fin 4) : (Rect.unit (s := S2x256x256) ![b.val, 0, 64 * h.val] S1x256x64.size (inbC b h)).PackedRows (EltTy.packing .bf16) := by revert b h; decide

abbrev rG (c : Fin 8) (h : Fin 4) (b : Fin 2) : Rect S8x4x2x256x64 := Rect.unit (s := S8x4x2x256x64) ![c.val, h.val, b.val, 0, 0] S1x1x1x256x64.size (inbG c h b)
abbrev rS (c : Fin 8) : Rect S256x2048 := Rect.unit (s := S256x2048) ![0, 256 * c.val] S256x256.size (inbS c)
abbrev rC (b : Fin 2) (h : Fin 4) : Rect S2x256x256 := Rect.unit (s := S2x256x256) ![b.val, 0, 64 * h.val] S1x256x64.size (inbC b h)
abbrev rSall : Rect S256x2048 := Rect.unit (s := S256x2048) ![0, 0] S256x2048.size inb_S256x2048_S256x2048_0_0

/-- Which keys of block `n / 256` (its first key number `n`) a query attends to. -/
def maskBits (n : BitVec 32) : IVec S256x256 1 :=
  have row : IVec S256x256 32 := iota .tc S256x256 32 [0] iota_S256x256_d0_w32
  have col : IVec S256x256 32 := iota .tc S256x256 32 [1] iota_S256x256_d1_w32
  have key : IVec S256x256 32 := addi col (broadcast S256x256 n)
  ori (ori (cmpi .sle (absi (subi row key)) (broadcast S256x256 128#32)) (cmpi .slt key (broadcast S256x256 32#32)))
    (cmpi .slt row (broadcast S256x256 32#32))

/-- A block of masked scores. -/
def scorePay (n : BitVec 32) (q : FVec F S256x64 .bf16) (k : Vec F S1x1x1x256x64 .bf16) : FVec F S256x256 .f32 :=
  shapeCast S256x256
    (select (maskBits n)
      (matmul dot_S256x64_S256x64_S256x256_1_1_0_0_n_n none q (shapeCast S256x64 k shapeCasts_S1x1x1x256x64_S256x64 : FVec F S256x64 .bf16) (constant S256x256 .f32 0x00000000#32))
      (broadcast S256x256 (Scalar.ofBits .f32 0xCE6E6B28#32)))
    shapeCasts_S256x256_S256x256

def chunkP (b : Fin 2) (h : Fin 4) (q : FVec F S256x64 .bf16) (c : Fin 8) : P (F := F) PUnit := do
  let k : Vec F S1x1x1x256x64 .bf16 ← Prog.lift (.load kgM (rG c h b).toLoadRect (View.loadsAt_vmem h_S1x1x1x256x64))
  let _ : Vec F S256x256 .f32 ← Prog.lift (.load scM (rS c).toLoadRect (View.loadsAt_vmem h_S256x256))
  Prog.lift (.store scM (rS c) (scorePay (BitVec.ofNat 32 (256 * c.val)) q k) Finset.univ (View.stores_vmem_bits_univ h_S256x256 rfl) (.inl rfl))

/-- One block of weights times one block of values. -/
def pvMul (w : FVec F S256x256 .bf16) (v : Vec F S1x1x1x256x64 .bf16) : FVec F S256x64 .f32 :=
  matmul dot_S256x256_S256x64_S256x64_1_0_0_1_n_n none w (shapeCast S256x64 v shapeCasts_S1x1x1x256x64_S256x64 : FVec F S256x64 .bf16) (constant S256x64 .f32 0x00000000#32)

/-- A head's context from its scores and its eight value blocks. -/
def ctxPay (s : Vec F S256x2048 .f32) (v0 v1 v2 v3 v4 v5 v6 v7 : Vec F S1x1x1x256x64 .bf16) : FVec F S1x256x64 .bf16 :=
  shapeCast S1x256x64
    (truncf .bf16
      (divf
        (addf (addf (addf (addf (addf (addf (addf
          (pvMul (extractStridedSlice S256x256 ![0, 0] (k0_pay24 s) slices_S256x2048_o0_0_S256x256) v0)
          (pvMul (extractStridedSlice S256x256 ![0, 256] (k0_pay24 s) slices_S256x2048_o0_256_S256x256) v1))
          (pvMul (extractStridedSlice S256x256 ![0, 512] (k0_pay24 s) slices_S256x2048_o0_512_S256x256) v2))
          (pvMul (extractStridedSlice S256x256 ![0, 768] (k0_pay24 s) slices_S256x2048_o0_768_S256x256) v3))
          (pvMul (extractStridedSlice S256x256 ![0, 1024] (k0_pay24 s) slices_S256x2048_o0_1024_S256x256) v4))
          (pvMul (extractStridedSlice S256x256 ![0, 1280] (k0_pay24 s) slices_S256x2048_o0_1280_S256x256) v5))
          (pvMul (extractStridedSlice S256x256 ![0, 1536] (k0_pay24 s) slices_S256x2048_o0_1536_S256x256) v6))
          (pvMul (extractStridedSlice S256x256 ![0, 1792] (k0_pay24 s) slices_S256x2048_o0_1792_S256x256) v7))
        (broadcastTo S256x64 (k0_pay23 s) broadcasts_S256x1_S256x64))
      bitsLt_bf16_f32)
    shapeCasts_S256x64_S1x256x64

def headP (bh : Fin 2 × Fin 4) : P (F := F) PUnit := do
  let q : Vec F S1x256x64 .bf16 ← Prog.lift (.load qM (rC bh.1 bh.2).toLoadRect (View.loadsAt_vmem h_S1x256x64))
  each (chunkP bh.1 bh.2 (k0_pay6 q)) [0, 1, 2, 3, 4, 5, 6, 7]
  let s : Vec F S256x2048 .f32 ← Prog.lift (.load scM rSall.toLoadRect (View.loadsAt_vmem h_S256x2048))
  let v0 : Vec F S1x1x1x256x64 .bf16 ← Prog.lift (.load vgM (rG 0 bh.2 bh.1).toLoadRect (View.loadsAt_vmem h_S1x1x1x256x64))
  let v1 : Vec F S1x1x1x256x64 .bf16 ← Prog.lift (.load vgM (rG 1 bh.2 bh.1).toLoadRect (View.loadsAt_vmem h_S1x1x1x256x64))
  let v2 : Vec F S1x1x1x256x64 .bf16 ← Prog.lift (.load vgM (rG 2 bh.2 bh.1).toLoadRect (View.loadsAt_vmem h_S1x1x1x256x64))
  let v3 : Vec F S1x1x1x256x64 .bf16 ← Prog.lift (.load vgM (rG 3 bh.2 bh.1).toLoadRect (View.loadsAt_vmem h_S1x1x1x256x64))
  let v4 : Vec F S1x1x1x256x64 .bf16 ← Prog.lift (.load vgM (rG 4 bh.2 bh.1).toLoadRect (View.loadsAt_vmem h_S1x1x1x256x64))
  let v5 : Vec F S1x1x1x256x64 .bf16 ← Prog.lift (.load vgM (rG 5 bh.2 bh.1).toLoadRect (View.loadsAt_vmem h_S1x1x1x256x64))
  let v6 : Vec F S1x1x1x256x64 .bf16 ← Prog.lift (.load vgM (rG 6 bh.2 bh.1).toLoadRect (View.loadsAt_vmem h_S1x1x1x256x64))
  let v7 : Vec F S1x1x1x256x64 .bf16 ← Prog.lift (.load vgM (rG 7 bh.2 bh.1).toLoadRect (View.loadsAt_vmem h_S1x1x1x256x64))
  let _ : Vec F S1x256x64 .bf16 ← Prog.lift (.load ctxM (rC bh.1 bh.2).toLoadRect (View.loadsAt_vmem h_S1x256x64))
  Prog.lift (.store ctxM (rC bh.1 bh.2) (ctxPay s v0 v1 v2 v3 v4 v5 v6 v7) Finset.univ (View.stores_vmem h_S1x256x64 ((wh cc0_scratch4).storeExact_slice rfl _ (pkC bh.1 bh.2)) (fun _ => rfl)) (.inl rfl))

/-! ### The output projection, the exchange, the results -/

abbrev rWo : Rect S256x512 := Rect.unit (s := S256x512) ![0, 0] S256x512.size inb_S256x512_S256x512_0_0
abbrev rAcc : Rect S2x256x512 := Rect.unit (s := S2x256x512) ![0, 0, 0] S2x256x512.size inb_S2x256x512_S2x256x512_0_0_0

def projP : P (F := F) PUnit := do
  let c0 : Vec F S1x256x256 .bf16 ← Prog.lift (.load ctxM (rQ 0).toLoadRect (View.loadsAt_vmem h_S1x256x256))
  let w0 : Vec F S256x512 .bf16 ← Prog.lift (.load woM rWo.toLoadRect (View.loadsAt_vmem h_S256x512))
  let c1 : Vec F S1x256x256 .bf16 ← Prog.lift (.load ctxM (rQ 1).toLoadRect (View.loadsAt_vmem h_S1x256x256))
  let w1 : Vec F S256x512 .bf16 ← Prog.lift (.load woM rWo.toLoadRect (View.loadsAt_vmem h_S256x512))
  let _ : Vec F S2x256x512 .bf16 ← Prog.lift (.load accM rAcc.toLoadRect (View.loadsAt_vmem h_S2x256x512))
  Prog.lift (.store accM rAcc (k0_pay197 c0 w0 c1 w1) Finset.univ (View.stores_vmem h_S2x256x512 ((wh cc0_scratch5).storeExact_slice rfl _ packedbf16_S2x256x512_S2x256x512_0_0_0) (fun _ => rfl)) (.inl rfl))

abbrev accS0 (d : Dev nD) : Memref sig .tc .vmem S2x128x512 .bf16 := accM.slice (Rect.unit (s := S2x256x512) (k0_off9 d) S2x128x512.size (k0_off9_inb d)) (fun _ => rfl)
abbrev accS1 (d : Dev nD) : Memref sig .tc .vmem S2x64x512 .bf16 := accM.slice (Rect.unit (s := S2x256x512) (k0_off11 d) S2x64x512.size (k0_off11_inb d)) (fun _ => rfl)
abbrev accS2 (d : Dev nD) : Memref sig .tc .vmem S2x32x512 .bf16 := accM.slice (Rect.unit (s := S2x256x512) (k0_off13 d) S2x32x512.size (k0_off13_inb d)) (fun _ => rfl)
abbrev rKeep0 (d : Dev nD) : Rect S2x256x512 := Rect.unit (s := S2x256x512) (k0_off10 d) S2x128x512.size (k0_off10_inb d)
abbrev rKeep1 (d : Dev nD) : Rect S2x256x512 := Rect.unit (s := S2x256x512) (k0_off12 d) S2x64x512.size (k0_off12_inb d)
abbrev rKeep2 (d : Dev nD) : Rect S2x256x512 := Rect.unit (s := S2x256x512) (k0_off14 d) S2x32x512.size (k0_off14_inb d)
abbrev rSt0 : Rect S3x2x128x512 := Rect.unit (s := S3x2x128x512) ![0, 0, 0, 0] S1x2x128x512.size inb_S3x2x128x512_S1x2x128x512_0_0_0_0
abbrev rSt1 : Rect S3x2x128x512 := Rect.unit (s := S3x2x128x512) ![1, 0, 0, 0] S1x2x64x512.size inb_S3x2x128x512_S1x2x64x512_1_0_0_0
abbrev rSt2 : Rect S3x2x128x512 := Rect.unit (s := S3x2x128x512) ![2, 0, 0, 0] S1x2x32x512.size inb_S3x2x128x512_S1x2x32x512_2_0_0_0
abbrev land0 : Memref sig .tc .vmem S2x128x512 .bf16 := (stM.slice rSt0 (fun _ => rfl)).squeeze S2x128x512 squeezes_S1x2x128x512_S2x128x512
abbrev land1 : Memref sig .tc .vmem S2x64x512 .bf16 := (stM.slice rSt1 (fun _ => rfl)).squeeze S2x64x512 squeezes_S1x2x64x512_S2x64x512
abbrev land2 : Memref sig .tc .vmem S2x32x512 .bf16 := (stM.slice rSt2 (fun _ => rfl)).squeeze S2x32x512 squeezes_S1x2x32x512_S2x32x512
abbrev gat0 (d : Dev nD) : Memref sig .tc .vmem S2x32x512 .bf16 := accM.slice (Rect.unit (s := S2x256x512) (k0_off15 d) S2x32x512.size (k0_off15_inb d)) (fun _ => rfl)
abbrev gat1 (d : Dev nD) : Memref sig .tc .vmem S2x64x512 .bf16 := accM.slice (Rect.unit (s := S2x256x512) (k0_off16 d) S2x64x512.size (k0_off16_inb d)) (fun _ => rfl)
abbrev gat2 (d : Dev nD) : Memref sig .tc .vmem S2x128x512 .bf16 := accM.slice (Rect.unit (s := S2x256x512) (k0_off17 d) S2x128x512.size (k0_off17_inb d)) (fun _ => rfl)

def add0 (d : Dev nD) : P (F := F) PUnit := do
  let a : Vec F S2x128x512 .bf16 ← Prog.lift (.load accM (rKeep0 d).toLoadRect (View.loadsAt_vmem h_S2x128x512))
  let t : Vec F S1x2x128x512 .bf16 ← Prog.lift (.load stM rSt0.toLoadRect (View.loadsAt_vmem h_S1x2x128x512))
  let _ : Vec F S2x128x512 .bf16 ← Prog.lift (.load accM (rKeep0 d).toLoadRect (View.loadsAt_vmem h_S2x128x512))
  Prog.lift (.store accM (rKeep0 d) (k0_pay198 a t) Finset.univ (View.stores_vmem h_S2x128x512 ((wh cc0_scratch5).storeExact_slice rfl _ (k0_off10_packedbf16 d)) (fun _ => rfl)) (.inl rfl))

def add1 (d : Dev nD) : P (F := F) PUnit := do
  let a : Vec F S2x64x512 .bf16 ← Prog.lift (.load accM (rKeep1 d).toLoadRect (View.loadsAt_vmem h_S2x64x512))
  let t : Vec F S1x2x64x512 .bf16 ← Prog.lift (.load stM rSt1.toLoadRect (View.loadsAt_vmem h_S1x2x64x512))
  let _ : Vec F S2x64x512 .bf16 ← Prog.lift (.load accM (rKeep1 d).toLoadRect (View.loadsAt_vmem h_S2x64x512))
  Prog.lift (.store accM (rKeep1 d) (k0_pay199 a t) Finset.univ (View.stores_vmem h_S2x64x512 ((wh cc0_scratch5).storeExact_slice rfl _ (k0_off12_packedbf16 d)) (fun _ => rfl)) (.inl rfl))

def add2 (d : Dev nD) : P (F := F) PUnit := do
  let a : Vec F S2x32x512 .bf16 ← Prog.lift (.load accM (rKeep2 d).toLoadRect (View.loadsAt_vmem h_S2x32x512))
  let t : Vec F S1x2x32x512 .bf16 ← Prog.lift (.load stM rSt2.toLoadRect (View.loadsAt_vmem h_S1x2x32x512))
  let _ : Vec F S2x32x512 .bf16 ← Prog.lift (.load accM (rKeep2 d).toLoadRect (View.loadsAt_vmem h_S2x32x512))
  Prog.lift (.store accM (rKeep2 d) (k0_pay200 a t) Finset.univ (View.stores_vmem h_S2x32x512 ((wh cc0_scratch5).storeExact_slice rfl _ (k0_off14_packedbf16 d)) (fun _ => rfl)) (.inl rfl))

def outP (b : Fin 2) : P (F := F) PUnit := do
  let a : Vec F S1x256x512 .bf16 ← Prog.lift (.load accM (rX b).toLoadRect (View.loadsAt_vmem h_S1x256x512))
  let _ : Vec F S1x256x512 .f32 ← Prog.lift (.load outM (rX b).toLoadRect (View.loadsAt_vmem h_S1x256x512))
  Prog.lift (.store outM (rX b) (k0_pay201 a) Finset.univ (View.stores_vmem_bits_univ h_S1x256x512 rfl) (.inl rfl))

theorem accS0_we (d : Dev nD) : (accS0 d).view.WordExact := (wh cc0_scratch5).wordExact_slice rfl _ (k0_off9_wordsbf16 d)
theorem accS1_we (d : Dev nD) : (accS1 d).view.WordExact := (wh cc0_scratch5).wordExact_slice rfl _ (k0_off11_wordsbf16 d)
theorem accS2_we (d : Dev nD) : (accS2 d).view.WordExact := (wh cc0_scratch5).wordExact_slice rfl _ (k0_off13_wordsbf16 d)
theorem land0_we : land0.view.WordExact := ((wh cc0_scratch6).wordExact_slice rfl _ wordsbf16_S3x2x128x512_S1x2x128x512_0_0_0_0).reshape _ _
theorem land1_we : land1.view.WordExact := ((wh cc0_scratch6).wordExact_slice rfl _ wordsbf16_S3x2x128x512_S1x2x64x512_1_0_0_0).reshape _ _
theorem land2_we : land2.view.WordExact := ((wh cc0_scratch6).wordExact_slice rfl _ wordsbf16_S3x2x128x512_S1x2x32x512_2_0_0_0).reshape _ _
theorem gat0_we (d : Dev nD) : (gat0 d).view.WordExact := (wh cc0_scratch5).wordExact_slice rfl _ (k0_off15_wordsbf16 d)
theorem gat1_we (d : Dev nD) : (gat1 d).view.WordExact := (wh cc0_scratch5).wordExact_slice rfl _ (k0_off16_wordsbf16 d)
theorem gat2_we (d : Dev nD) : (gat2 d).view.WordExact := (wh cc0_scratch5).wordExact_slice rfl _ (k0_off17_wordsbf16 d)

def devX0 (d : Dev nD) : Dev nD := ⟨k0_dev22 d, k0_dev22_lt d⟩
def devX1 (d : Dev nD) : Dev nD := ⟨k0_dev23 d, k0_dev23_lt d⟩
def devX2 (d : Dev nD) : Dev nD := ⟨k0_dev24 d, k0_dev24_lt d⟩
def devX3 (d : Dev nD) : Dev nD := ⟨k0_dev25 d, k0_dev25_lt d⟩
def devX4 (d : Dev nD) : Dev nD := ⟨k0_dev26 d, k0_dev26_lt d⟩
def devX5 (d : Dev nD) : Dev nD := ⟨k0_dev27 d, k0_dev27_lt d⟩

/-- The body, at the device it reads. -/
def bodyP (d : Dev nD) : P (F := F) PUnit := do
  each (signalP d) [0, 1, 2, 3, 4, 5, 6]
  semWaitWord barS 7#32
  each (sendKV d) [0, 1, 2, 3, 4, 5, 6]
  ownKV d
  each queryP [0, 1]
  each (recvKV d) [0, 1, 2, 3, 4, 5, 6]
  each headP [(0, 0), (0, 1), (0, 2), (0, 3), (1, 0), (1, 1), (1, 2), (1, 3)]
  projP
  exchP (devX0 d) (accS0 d) land0 (semI cc0_scratch11 1) (semI cc0_scratch12 1) (accS0_we d) land0_we
  add0 d
  exchP (devX1 d) (accS1 d) land1 (semI cc0_scratch11 2) (semI cc0_scratch12 2) (accS1_we d) land1_we
  add1 d
  exchP (devX2 d) (accS2 d) land2 (semI cc0_scratch11 3) (semI cc0_scratch12 3) (accS2_we d) land2_we
  add2 d
  exchP (devX3 d) (gat0 d) (gat0 d) (semI cc0_scratch11 7) (semI cc0_scratch12 7) (gat0_we d) (gat0_we d)
  exchP (devX4 d) (gat1 d) (gat1 d) (semI cc0_scratch11 6) (semI cc0_scratch12 6) (gat1_we d) (gat1_we d)
  exchP (devX5 d) (gat2 d) (gat2 d) (semI cc0_scratch11 5) (semI cc0_scratch12 5) (gat2_we d) (gat2_we d)
  each outP [0, 1]
  each (drainKV d) [0, 1, 2, 3, 4, 5, 6]

def wholeP : P (F := F) PUnit := do
  let d : Dev nD ← Prog.lift .deviceId
  bodyP d

set_option maxRecDepth 65536 in
theorem body_eq (t : Fin cfg0.N) : bodyAt0 (F := F) t = wholeP := by
  obtain rfl := fin_N0 t
  rw [show bodyAt0 (F := F) t0_0 = cc0_body_skel xM (wh _) wqM (wh _) kM (wh _) vM (wh _) woM (wh _) outM (wh _) qM (wh _) kgM (wh _) vgM (wh _) scM (wh _) ctxM (wh _) accM (wh _) stM (wh _) cc0_scratch7 cc0_scratch8 cc0_scratch9 cc0_scratch10 cc0_scratch11 cc0_scratch12 from by
    unfold bodyAt0; rw [cc0_body_eq_skeleton]]
  sl_kernel_rfl

end Cert.KernelIdeal.Run

end
-- ==== Proof.Compute.lean ====
/-
What each buffer of the kernel holds, as functions of what the five staged arrays hold on every device, and the steps
of the body that compute without talking: the queries, a block of scores, a head's context, the output projection and
the results' store, each run from its buffers to its buffers.
-/
module

public import proofs.«01_k».proof.Proof.Steps
public import Idealize.ShloMosaic.Lib.ValueLayout
public import Idealize.ShloMosaic.Lib.Pointwise.Index
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Pipeline.RegionTalk

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## The resource algebra: the pipeline's schedule and the exchange's -/

abbrev UU : Type := UR sig nD τ × Rounds.URounds (GSem nD τ sig) (Dev nD)

local notation "𝕄" => MT nD τ sig Unit (Elt F) ℕ UU ℕ

abbrev 𝒱₀ : Variants := Variants.none

/-- The run of a program at the head of device `c`'s body. -/
abbrev W {α : Type} (c : Dev nD) (p : P (F := F) α) (Q : α → sProp 𝕄) : sProp 𝕄 :=
  wp frame (wpE (defs₀ (F := F)) 𝒱₀ c none) Set.univ p Q

theorem W_bind {α β : Type} (c : Dev nD) (p : P (F := F) α) (k : α → P (F := F) β) (Q : β → sProp 𝕄) :
    W c (p >>= k) Q = W c p (fun a => W c (k a) Q) := wp_bind _ _ _ p k Q

theorem W_pure {α : Type} (c : Dev nD) (a : α) (Q : α → sProp 𝕄) :
    W c (pure a) Q = iprop(|={Set.univ}=> Q a) := wp_ret _ _ _ a Q

/-- Device `c`'s whole buffer `b` at contents `f`. -/
abbrev pt (c : Dev nD) (b : Ref sig .tc) (q : PosShare TreeShare) (f : b.ty.Contents (Elt F)) : sProp 𝕄 :=
  (Memref.whole b).view.loc (c : Thread nD τ) ↦{q} f

/-- One step after another, by an invariant of the number of steps done. -/
theorem each_run {α : Type} (c : Dev nD) (f : α → P (F := F) PUnit) (Inv : ℕ → sProp 𝕄) :
    ∀ (l : List α) (s : ℕ)
      (_ : ∀ (i : ℕ) (hi : i < l.length) (Q : PUnit → sProp 𝕄),
        Inv (s + i) ⊢ iprop((Inv (s + i + 1) -∗ Q ⟨⟩) -∗ W c (f l[i]) Q))
      (Q : PUnit → sProp 𝕄), Inv s ⊢ iprop((Inv (s + l.length) -∗ Q ⟨⟩) -∗ W c (each f l) Q) := by
  intro l
  induction l with
  | nil =>
    intro s _ Q
    unfold each
    iintro H Hk
    rw [W_pure]
    imodintro
    iapply Hk
    iexact H
  | cons a l ih =>
    intro s h Q
    unfold each
    rw [W_bind]
    iintro H Hk
    have h0 := h 0 (by simp) (fun a => W c (each f l) Q)
    iapply h0 $$ H
    iintro H
    have h1 := ih (s + 1) (fun i hi Q => by
      have := h (i + 1) (by simpa using hi) Q
      rw [show s + (i + 1) = s + 1 + i by omega] at this
      exact this) Q
    iapply h1 $$ H
    rw [show s + 1 + l.length = s + (a :: l).length by simp [Nat.add_comm, Nat.add_left_comm]]
    iexact Hk

theorem each_fin {α : Type} (c : Dev nD) (n : ℕ) (g : Fin n → α) (f : α → P (F := F) PUnit) (Inv : ℕ → sProp 𝕄)
    (l : List α) (hl : l = List.ofFn g)
    (h : ∀ (i : Fin n) (Q : PUnit → sProp 𝕄), Inv i.val ⊢ iprop((Inv (i.val + 1) -∗ Q ⟨⟩) -∗ W c (f (g i)) Q))
    (Q : PUnit → sProp 𝕄) : Inv 0 ⊢ iprop((Inv n -∗ Q ⟨⟩) -∗ W c (each f l) Q) := by
  subst hl
  have := each_run c f Inv (List.ofFn g) 0 (fun i hi Q => by
    have hi' : i < n := by simpa using hi
    have := h ⟨i, hi'⟩ Q
    simpa using this) Q
  simpa using this

/-! ## Reading and writing a whole buffer -/

theorem readAt_whole (b : Ref sig .tc) (r : Rect b.ty.shape) (f : b.ty.Contents (Elt F)) (x : r.shape.Idx) :
    (Memref.whole b).view.readAt (Elt F) r.toLoadRect f x = f (r.toLoadRect.idx x) := rfl

/-- After a store at rectangle `r` of what `G` holds there, the buffer agrees with `G` wherever it did and on `r`. -/
theorem write_agree (b : Ref sig .tc) (r : Rect b.ty.shape) (f G : b.ty.Contents (Elt F)) (w : r.shape.Idx → Elt F b.ty.elt)
    (p p' : b.ty.shape.Idx → Prop) (hf : ∀ j, p j → f j = G j)
    (hw : (Memref.whole b).view.readAt (Elt F) r.toLoadRect G = w) (hp : ∀ j, p' j → p j ∨ j ∈ r.set) :
    ∀ j, p' j → ((Memref.whole b).access r).write (Elt F) f w Finset.univ j = G j := by
  intro j hj
  by_cases hr : j ∈ r.set
  · rw [← Rect.map_emb_univ] at hr
    obtain ⟨x, -, rfl⟩ := Finset.mem_map.1 hr
    have := View.write_emb_of_mem (v := (Memref.whole b).access r) (Val := Elt F) f w (Finset.mem_univ x)
    refine (this.trans ?_)
    rw [← hw]; rfl
  · rw [View.write_of_not_mem]
    · exact hf j ((hp j hj).resolve_right hr)
    · rw [View.setOn_univ]
      intro h
      apply hr
      obtain ⟨x, -, rfl⟩ := Finset.mem_map.1 h
      rw [← Rect.map_emb_univ]
      exact Finset.mem_map_of_mem _ (Finset.mem_univ x)

/-! ## What the buffers hold -/

/-- What the five staged arrays hold, on every device. -/
structure Ins (F : FTy → Type) where
  x : Dev nD → Vec F S2x256x512 .bf16
  wq : Dev nD → Vec F S512x256 .bf16
  k : Dev nD → Vec F S32x2x256x64 .bf16
  v : Dev nD → Vec F S32x2x256x64 .bf16
  wo : Dev nD → Vec F S256x512 .bf16

/-- A gathering buffer: slot `s` is device `s`'s block of this device's four heads. -/
def gathered (A : Dev nD → Vec F S32x2x256x64 .bf16) (c : Dev nD) : Vec F S8x4x2x256x64 .bf16 := fun j =>
  A (j 0) (ix4 (n0 := 32) (n1 := 2) (n2 := 256) (n3 := 64) ⟨4 * c.val + (j 1).val, by have h0 : c.val < 8 := c.isLt; have h1 : (j (1 : Fin 5)).val < 4 := (j (1 : Fin 5)).isLt; show 4 * c.val + (j (1 : Fin 5)).val < 32; omega⟩ (j 2) (j 3) (j 4))

variable (I : Ins F) (c : Dev nD)

def kgv : Vec F S8x4x2x256x64 .bf16 := gathered I.k c
def vgv : Vec F S8x4x2x256x64 .bf16 := gathered I.v c

/-- One batch row's queries. -/
def qRow (b : Fin 2) : FVec F S1x256x256 .bf16 :=
  k0_pay5 (xM.view.readAt (Elt F) (rX b).toLoadRect (I.x c)) (wqM.view.readAt (Elt F) rWq.toLoadRect (I.wq c))

def qv : Vec F S2x256x256 .bf16 := fun j => qRow I c (j 0) (ix3 (n0 := 1) (n1 := 256) (n2 := 256) 0 (j 1) (j 2))

/-- One head's queries. -/
def qHead (b : Fin 2) (h : Fin 4) : FVec F S256x64 .bf16 := k0_pay6 (qM.view.readAt (Elt F) (rC b h).toLoadRect (qv I c))

/-- One head's block of scores. -/
def sBlock (b : Fin 2) (h : Fin 4) (e : Fin 8) : FVec F S256x256 .f32 :=
  scorePay (BitVec.ofNat 32 (256 * e.val)) (qHead I c b h) (kgM.view.readAt (Elt F) (rG e h b).toLoadRect (kgv I c))

def blk (j : Fin 2048) : Fin 8 := ⟨j.val / 256, by omega⟩
def blkOff (j : Fin 2048) : Fin 256 := ⟨j.val % 256, by omega⟩

def scv (b : Fin 2) (h : Fin 4) : Vec F S256x2048 .f32 := fun j =>
  sBlock I c b h (blk (j 1)) (ix2 (n0 := 256) (n1 := 256) (j 0) (blkOff (j 1)))

def vRead (e : Fin 8) (h : Fin 4) (b : Fin 2) : Vec F S1x1x1x256x64 .bf16 := vgM.view.readAt (Elt F) (rG e h b).toLoadRect (vgv I c)

/-- One head's context. -/
def cHead (b : Fin 2) (h : Fin 4) : FVec F S1x256x64 .bf16 :=
  ctxPay (scM.view.readAt (Elt F) rSall.toLoadRect (scv I c b h)) (vRead I c 0 h b) (vRead I c 1 h b) (vRead I c 2 h b)
    (vRead I c 3 h b) (vRead I c 4 h b) (vRead I c 5 h b) (vRead I c 6 h b) (vRead I c 7 h b)

def hd (j : Fin 256) : Fin 4 := ⟨j.val / 64, by omega⟩
def hdOff (j : Fin 256) : Fin 64 := ⟨j.val % 64, by omega⟩

def ctxv : Vec F S2x256x256 .bf16 := fun j => cHead I c (j 0) (hd (j 2)) (ix3 (n0 := 1) (n1 := 256) (n2 := 64) 0 (j 1) (hdOff (j 2)))

/-- This device's share of the projection. -/
def pov : Vec F S2x256x512 .bf16 :=
  k0_pay197 (ctxM.view.readAt (Elt F) (rQ 0).toLoadRect (ctxv I c)) (woM.view.readAt (Elt F) rWo.toLoadRect (I.wo c))
    (ctxM.view.readAt (Elt F) (rQ 1).toLoadRect (ctxv I c)) (woM.view.readAt (Elt F) rWo.toLoadRect (I.wo c))

/-! ## The computing steps -/

/-- The buffer agrees with `G` where `p` holds. -/
abbrev part (b : Ref sig .tc) (p : b.ty.shape.Idx → Prop) (G : b.ty.Contents (Elt F)) : sProp 𝕄 :=
  iprop(∃ f : b.ty.Contents (Elt F), ⌜∀ j, p j → f j = G j⌝ ∗ pt c b fullShare f)

theorem idxQ (b : Fin 2) (y1 y2 : Fin 256) :
    (rQ b).toLoadRect.idx (ix3 (n0 := 1) (n1 := 256) (n2 := 256) 0 y1 y2) = ix3 (n0 := 2) (n1 := 256) (n2 := 256) b y1 y2 := by
  funext a; apply Fin.ext
  show (![b.val, 0, 0] : Fin 3 → ℕ) a + 1 * (ix3 (n0 := 1) (n1 := 256) (n2 := 256) 0 y1 y2 a).val = _
  fin_cases a <;> simp

theorem idxX (b : Fin 2) (y1 : Fin 256) (y2 : Fin 512) :
    (rX b).toLoadRect.idx (ix3 (n0 := 1) (n1 := 256) (n2 := 512) 0 y1 y2) = ix3 (n0 := 2) (n1 := 256) (n2 := 512) b y1 y2 := by
  funext a; apply Fin.ext
  show (![b.val, 0, 0] : Fin 3 → ℕ) a + 1 * (ix3 (n0 := 1) (n1 := 256) (n2 := 512) 0 y1 y2 a).val = _
  fin_cases a <;> simp

theorem idxS (e : Fin 8) (y1 y2 : Fin 256) :
    (rS e).toLoadRect.idx (ix2 (n0 := 256) (n1 := 256) y1 y2)
      = ix2 (n0 := 256) (n1 := 2048) y1 ⟨256 * e.val + y2.val, by omega⟩ := by
  funext a; apply Fin.ext
  show (![0, 256 * e.val] : Fin 2 → ℕ) a + 1 * (ix2 (n0 := 256) (n1 := 256) y1 y2 a).val = _
  fin_cases a <;> simp

theorem idxC (b : Fin 2) (h : Fin 4) (y1 : Fin 256) (y2 : Fin 64) :
    (rC b h).toLoadRect.idx (ix3 (n0 := 1) (n1 := 256) (n2 := 64) 0 y1 y2)
      = ix3 (n0 := 2) (n1 := 256) (n2 := 256) b y1 ⟨64 * h.val + y2.val, by omega⟩ := by
  funext a; apply Fin.ext
  show (![b.val, 0, 64 * h.val] : Fin 3 → ℕ) a + 1 * (ix3 (n0 := 1) (n1 := 256) (n2 := 64) 0 y1 y2 a).val = _
  fin_cases a <;> simp

theorem q_read (b : Fin 2) : qM.view.readAt (Elt F) (rQ b).toLoadRect (qv I c) = qRow I c b := by
  funext x
  obtain ⟨z, y1, y2, rfl⟩ : ∃ (z : Fin 1) (y1 : Fin 256) (y2 : Fin 256), x = ix3 (n0 := 1) (n1 := 256) (n2 := 256) z y1 y2 := ⟨x 0, x 1, x 2, eq_ix3 x⟩
  obtain rfl : z = 0 := Subsingleton.elim _ _
  show qv I c ((rQ b).toLoadRect.idx _) = _
  rw [idxQ]; rfl

theorem s_read (b : Fin 2) (h : Fin 4) (e : Fin 8) :
    scM.view.readAt (Elt F) (rS e).toLoadRect (scv I c b h) = sBlock I c b h e := by
  funext x
  obtain ⟨y1, y2, rfl⟩ : ∃ (y1 : Fin 256) (y2 : Fin 256), x = ix2 (n0 := 256) (n1 := 256) y1 y2 := ⟨x 0, x 1, eq_ix2 x⟩
  show scv I c b h ((rS e).toLoadRect.idx _) = _
  rw [idxS]
  have h1 : blk ⟨256 * e.val + y2.val, by omega⟩ = e := Fin.ext (by show (256 * e.val + y2.val) / 256 = _; omega)
  have h2 : blkOff ⟨256 * e.val + y2.val, by omega⟩ = y2 := Fin.ext (by show (256 * e.val + y2.val) % 256 = _; omega)
  show sBlock I c b h (blk ⟨256 * e.val + y2.val, _⟩) (ix2 y1 (blkOff ⟨256 * e.val + y2.val, _⟩)) = _
  rw [h1, h2]

theorem ctx_read (b : Fin 2) (h : Fin 4) :
    ctxM.view.readAt (Elt F) (rC b h).toLoadRect (ctxv I c) = cHead I c b h := by
  funext x
  obtain ⟨z, y1, y2, rfl⟩ : ∃ (z : Fin 1) (y1 : Fin 256) (y2 : Fin 64), x = ix3 (n0 := 1) (n1 := 256) (n2 := 64) z y1 y2 := ⟨x 0, x 1, x 2, eq_ix3 x⟩
  obtain rfl : z = 0 := Subsingleton.elim _ _
  show ctxv I c ((rC b h).toLoadRect.idx _) = _
  rw [idxC]
  have h1 : hd ⟨64 * h.val + y2.val, by omega⟩ = h := Fin.ext (by show (64 * h.val + y2.val) / 64 = _; omega)
  have h2 : hdOff ⟨64 * h.val + y2.val, by omega⟩ = y2 := Fin.ext (by show (64 * h.val + y2.val) % 64 = _; omega)
  show cHead I c b (hd ⟨64 * h.val + y2.val, _⟩) (ix3 0 y1 (hdOff ⟨64 * h.val + y2.val, _⟩)) = _
  rw [h1, h2]

theorem mem_Q (b : Fin 2) (j : S2x256x256.Idx) (h : (j (0 : Fin 3)).val = b.val) : j ∈ (rQ b).set := by
  rw [Rect.mem_set_unit]
  intro a
  have h1 : (j (1 : Fin 3)).val < 256 := (j (1 : Fin 3)).isLt
  have h2 : (j (2 : Fin 3)).val < 256 := (j (2 : Fin 3)).isLt
  fin_cases a <;> simp <;> omega

theorem mem_X (b : Fin 2) (j : S2x256x512.Idx) (h : (j (0 : Fin 3)).val = b.val) : j ∈ (rX b).set := by
  rw [Rect.mem_set_unit]
  intro a
  have h1 : (j (1 : Fin 3)).val < 256 := (j (1 : Fin 3)).isLt
  have h2 : (j (2 : Fin 3)).val < 512 := (j (2 : Fin 3)).isLt
  fin_cases a <;> simp <;> omega

theorem mem_S (e : Fin 8) (j : S256x2048.Idx) (h : 256 * e.val ≤ (j (1 : Fin 2)).val) (h' : (j (1 : Fin 2)).val < 256 * (e.val + 1)) :
    j ∈ (rS e).set := by
  rw [Rect.mem_set_unit]
  intro a
  have h1 : (j (0 : Fin 2)).val < 256 := (j (0 : Fin 2)).isLt
  fin_cases a <;> simp <;> omega

theorem mem_C (b : Fin 2) (h : Fin 4) (j : S2x256x256.Idx) (h0 : (j (0 : Fin 3)).val = b.val) (h2 : (j (2 : Fin 3)).val / 64 = h.val) :
    j ∈ (rC b h).set := by
  rw [Rect.mem_set_unit]
  intro a
  have h1 : (j (1 : Fin 3)).val < 256 := (j (1 : Fin 3)).isLt
  fin_cases a <;> simp <;> omega

def invQ (q : PosShare TreeShare) (n : ℕ) : sProp 𝕄 :=
  iprop(pt c cc0_stg0_0 q (I.x c) ∗ pt c cc0_stg1_0 q (I.wq c) ∗ part c cc0_scratch0 (fun j => (j (0 : Fin 3)).val < n) (qv I c))

theorem run_query (q : PosShare TreeShare) (b : Fin 2) (Q : PUnit → sProp 𝕄) :
    invQ I c q b.val ⊢ iprop((invQ I c q (b.val + 1) -∗ Q ⟨⟩) -∗ W c (queryP b) Q) := by
  unfold queryP
  simp only [Prog.lift, Prog.bind_op, Prog.bind_ret, Prog.pure_eq_ret]
  unfold invQ
  iintro ⟨Hx, Hw, %f, %hf, Hq⟩ Hk
  iapply (wp_load 𝒱₀ (c : Thread nD τ) none Set.univ (m := xM) (q := q) (f := I.x c) (Finset.subset_univ _)) $$ Hx
  iintro Hx
  iapply (wp_load 𝒱₀ (c : Thread nD τ) none Set.univ (m := wqM) (q := q) (f := I.wq c) (Finset.subset_univ _)) $$ Hw
  iintro Hw
  iapply (wp_load 𝒱₀ (c : Thread nD τ) none Set.univ (m := qM) (q := fullShare) (f := f) (Finset.subset_univ _)) $$ Hq
  iintro Hq
  iapply (wp_store 𝒱₀ (c : Thread nD τ) none Set.univ (m := qM) (r := rQ b) (f := f) (Finset.subset_univ _)) $$ Hq
  iintro Hq
  rw [wp_ret]
  imodintro
  iapply Hk
  isplitl [Hx]; · iexact Hx
  isplitl [Hw]; · iexact Hw
  iexists _
  isplitr
  swap
  · iexact Hq
  · ipureintro
    exact write_agree cc0_scratch0 (rQ b) f (qv I c) _ _ _ hf (q_read I c b) (fun j hj => by
      by_cases h : (j (0 : Fin 3)).val < b.val
      · exact .inl h
      · exact .inr (mem_Q b j (by omega)))

/-- The blocks of scores of head `h` of batch row `b` done below block `n`. -/
def invS (q : PosShare TreeShare) (b : Fin 2) (h : Fin 4) (n : ℕ) : sProp 𝕄 :=
  iprop(pt c cc0_scratch1 q (kgv I c) ∗ part c cc0_scratch3 (fun j => (j (1 : Fin 2)).val < 256 * n) (scv I c b h))

theorem run_chunk (q : PosShare TreeShare) (b : Fin 2) (h : Fin 4) (e : Fin 8) (Q : PUnit → sProp 𝕄) :
    invS I c q b h e.val ⊢ iprop((invS I c q b h (e.val + 1) -∗ Q ⟨⟩) -∗ W c (chunkP b h (qHead I c b h) e) Q) := by
  unfold chunkP
  simp only [Prog.lift, Prog.bind_op, Prog.bind_ret, Prog.pure_eq_ret]
  unfold invS
  iintro ⟨Hk, %f, %hf, Hs⟩ HQ
  iapply (wp_load 𝒱₀ (c : Thread nD τ) none Set.univ (m := kgM) (q := q) (f := kgv I c) (Finset.subset_univ _)) $$ Hk
  iintro Hk
  iapply (wp_load 𝒱₀ (c : Thread nD τ) none Set.univ (m := scM) (q := fullShare) (f := f) (Finset.subset_univ _)) $$ Hs
  iintro Hs
  iapply (wp_store 𝒱₀ (c : Thread nD τ) none Set.univ (m := scM) (r := rS e) (f := f) (Finset.subset_univ _)) $$ Hs
  iintro Hs
  rw [wp_ret]
  imodintro
  iapply HQ
  isplitl [Hk]; · iexact Hk
  iexists _
  isplitr
  swap
  · iexact Hs
  · ipureintro
    exact write_agree cc0_scratch3 (rS e) f (scv I c b h) _ _ _ hf (s_read I c b h e) (fun j hj => by
      by_cases h : (j (1 : Fin 2)).val < 256 * e.val
      · exact .inl h
      · exact .inr (mem_S e j (by omega) hj))

/-- The heads done: number `4 b + h` below `n`. -/
def invH (q : PosShare TreeShare) (n : ℕ) : sProp 𝕄 :=
  iprop(pt c cc0_scratch0 q (qv I c) ∗ pt c cc0_scratch1 q (kgv I c) ∗ pt c cc0_scratch2 q (vgv I c)
    ∗ (∃ f, pt c cc0_scratch3 fullShare f)
    ∗ part c cc0_scratch4 (fun j => 4 * (j (0 : Fin 3)).val + (j (2 : Fin 3)).val / 64 < n) (ctxv I c))

/-- Head number `n`: its batch row and its place. -/
def headOf (n : Fin 8) : Fin 2 × Fin 4 := (⟨n.val / 4, by omega⟩, ⟨n.val % 4, by omega⟩)

theorem run_head (q : PosShare TreeShare) (n : Fin 8) (Q : PUnit → sProp 𝕄) :
    invH I c q n.val ⊢ iprop((invH I c q (n.val + 1) -∗ Q ⟨⟩) -∗ W c (headP (headOf n)) Q) := by
  obtain ⟨b, h, hb⟩ : ∃ b h, headOf n = (b, h) := ⟨_, _, rfl⟩
  have hn : 4 * b.val + h.val = n.val := by
    simp only [headOf, Prod.mk.injEq] at hb
    obtain ⟨rfl, rfl⟩ := hb
    show 4 * (n.val / 4) + n.val % 4 = n.val; omega
  rw [hb]
  unfold headP invH
  simp only [Prog.lift, Prog.bind_op, Prog.bind_ret, Prog.pure_eq_ret]
  iintro ⟨Hq, Hk, Hv, ⟨%s, Hs⟩, %f, %hf, Hc⟩ HQ
  iapply (wp_load 𝒱₀ (c : Thread nD τ) none Set.univ (m := qM) (q := q) (f := qv I c) (Finset.subset_univ _)) $$ Hq
  iintro Hq
  rw [wp_bind]
  have hchunks := each_fin c 8 id (chunkP b h (qHead I c b h)) (invS I c q b h) [0, 1, 2, 3, 4, 5, 6, 7] (by decide)
    (fun i Q => run_chunk I c q b h i Q)
  iapply (hchunks _) $$ [Hk Hs]
  · unfold invS
    isplitl [Hk]; · iexact Hk
    iexists s
    isplitr
    · ipureintro; intro j hj; exact absurd hj (by omega)
    · iexact Hs
  unfold invS
  iintro ⟨Hk, %s', %hs', Hs⟩
  obtain rfl : s' = scv I c b h := funext fun j => hs' j (by
    have : (j (1 : Fin 2)).val < 2048 := (j (1 : Fin 2)).isLt
    omega)
  iapply (wp_load 𝒱₀ (c : Thread nD τ) none Set.univ (m := scM) (q := fullShare) (f := scv I c b h) (Finset.subset_univ _)) $$ Hs
  iintro Hs
  iapply (wp_load 𝒱₀ (c : Thread nD τ) none Set.univ (m := vgM) (q := q) (f := vgv I c) (Finset.subset_univ _)) $$ Hv
  iintro Hv
  iapply (wp_load 𝒱₀ (c : Thread nD τ) none Set.univ (m := vgM) (q := q) (f := vgv I c) (Finset.subset_univ _)) $$ Hv
  iintro Hv
  iapply (wp_load 𝒱₀ (c : Thread nD τ) none Set.univ (m := vgM) (q := q) (f := vgv I c) (Finset.subset_univ _)) $$ Hv
  iintro Hv
  iapply (wp_load 𝒱₀ (c : Thread nD τ) none Set.univ (m := vgM) (q := q) (f := vgv I c) (Finset.subset_univ _)) $$ Hv
  iintro Hv
  iapply (wp_load 𝒱₀ (c : Thread nD τ) none Set.univ (m := vgM) (q := q) (f := vgv I c) (Finset.subset_univ _)) $$ Hv
  iintro Hv
  iapply (wp_load 𝒱₀ (c : Thread nD τ) none Set.univ (m := vgM) (q := q) (f := vgv I c) (Finset.subset_univ _)) $$ Hv
  iintro Hv
  iapply (wp_load 𝒱₀ (c : Thread nD τ) none Set.univ (m := vgM) (q := q) (f := vgv I c) (Finset.subset_univ _)) $$ Hv
  iintro Hv
  iapply (wp_load 𝒱₀ (c : Thread nD τ) none Set.univ (m := vgM) (q := q) (f := vgv I c) (Finset.subset_univ _)) $$ Hv
  iintro Hv
  iapply (wp_load 𝒱₀ (c : Thread nD τ) none Set.univ (m := ctxM) (q := fullShare) (f := f) (Finset.subset_univ _)) $$ Hc
  iintro Hc
  iapply (wp_store 𝒱₀ (c : Thread nD τ) none Set.univ (m := ctxM) (r := rC b h) (f := f) (Finset.subset_univ _)) $$ Hc
  iintro Hc
  rw [wp_ret]
  imodintro
  iapply HQ
  isplitl [Hq]; · iexact Hq
  isplitl [Hk]; · iexact Hk
  isplitl [Hv]; · iexact Hv
  isplitl [Hs]; · iexists _; iexact Hs
  iexists _
  isplitr
  swap
  · iexact Hc
  · ipureintro
    exact write_agree cc0_scratch4 (rC b h) f (ctxv I c) _ _ _ hf (ctx_read I c b h) (fun j hj => by
      have hj' : 4 * (j (0 : Fin 3)).val + (j (2 : Fin 3)).val / 64 < n.val + 1 := hj
      have h2 : (j (2 : Fin 3)).val < 256 := (j (2 : Fin 3)).isLt
      by_cases h : 4 * (j (0 : Fin 3)).val + (j (2 : Fin 3)).val / 64 < n.val
      · exact .inl h
      · exact .inr (mem_C b _ j (by omega) (by omega)))

theorem mem_acc (j : S2x256x512.Idx) : j ∈ rAcc.set := by
  rw [Rect.mem_set_unit]; intro a
  have h0 : (j (0 : Fin 3)).val < 2 := (j (0 : Fin 3)).isLt
  have h1 : (j (1 : Fin 3)).val < 256 := (j (1 : Fin 3)).isLt
  have h2 : (j (2 : Fin 3)).val < 512 := (j (2 : Fin 3)).isLt
  fin_cases a <;> simp <;> omega

theorem acc_read (g : Vec F S2x256x512 .bf16) : accM.view.readAt (Elt F) rAcc.toLoadRect g = g :=
  funext fun x => congrArg g (funext fun a => Fin.ext (by
    show (![0, 0, 0] : Fin 3 → ℕ) a + 1 * (x a).val = (x a).val
    fin_cases a <;> simp))

theorem run_proj (q : PosShare TreeShare) (f : Vec F S2x256x512 .bf16) (Q : PUnit → sProp 𝕄) :
    iprop(pt c cc0_scratch4 fullShare (ctxv I c) ∗ pt c cc0_stg4_0 q (I.wo c) ∗ pt c cc0_scratch5 fullShare f)
      ⊢ iprop((pt c cc0_scratch4 fullShare (ctxv I c) ∗ pt c cc0_stg4_0 q (I.wo c) ∗ pt c cc0_scratch5 fullShare (pov I c) -∗ Q ⟨⟩)
        -∗ W c projP Q) := by
  unfold projP
  simp only [Prog.lift, Prog.bind_op, Prog.bind_ret, Prog.pure_eq_ret]
  iintro ⟨Hc, Hw, Ha⟩ HQ
  iapply (wp_load 𝒱₀ (c : Thread nD τ) none Set.univ (m := ctxM) (q := fullShare) (f := ctxv I c) (Finset.subset_univ _)) $$ Hc
  iintro Hc
  iapply (wp_load 𝒱₀ (c : Thread nD τ) none Set.univ (m := woM) (q := q) (f := I.wo c) (Finset.subset_univ _)) $$ Hw
  iintro Hw
  iapply (wp_load 𝒱₀ (c : Thread nD τ) none Set.univ (m := ctxM) (q := fullShare) (f := ctxv I c) (Finset.subset_univ _)) $$ Hc
  iintro Hc
  iapply (wp_load 𝒱₀ (c : Thread nD τ) none Set.univ (m := woM) (q := q) (f := I.wo c) (Finset.subset_univ _)) $$ Hw
  iintro Hw
  iapply (wp_load 𝒱₀ (c : Thread nD τ) none Set.univ (m := accM) (q := fullShare) (f := f) (Finset.subset_univ _)) $$ Ha
  iintro Ha
  iapply (wp_store 𝒱₀ (c : Thread nD τ) none Set.univ (m := accM) (r := rAcc) (f := f) (Finset.subset_univ _)) $$ Ha
  iintro Ha
  rw [wp_ret]
  imodintro
  iapply HQ
  isplitl [Hc]; · iexact Hc
  isplitl [Hw]; · iexact Hw
  have e : (accM.access rAcc).write (Elt F) f (pov I c) Finset.univ = pov I c := funext fun j =>
    write_agree cc0_scratch5 rAcc f (pov I c) (pov I c) (fun _ => False) (fun _ => True) (fun j h => h.elim)
      (acc_read _) (fun j _ => .inr (mem_acc j)) j trivial
  rw [← e]
  iexact Ha

/-- The results done below batch row `n`, read from the sum `g`. -/
def outv (g : Vec F S2x256x512 .bf16) : Vec F S2x256x512 .f32 := fun j =>
  k0_pay201 (accM.view.readAt (Elt F) (rX (j 0)).toLoadRect g) (ix3 (n0 := 1) (n1 := 256) (n2 := 512) 0 (j 1) (j 2))

def invO (g : Vec F S2x256x512 .bf16) (n : ℕ) : sProp 𝕄 :=
  iprop(pt c cc0_scratch5 fullShare g ∗ part c cc0_stg5_0 (fun j => (j (0 : Fin 3)).val < n) (outv g))

theorem out_read (g : Vec F S2x256x512 .bf16) (b : Fin 2) :
    outM.view.readAt (Elt F) (rX b).toLoadRect (outv g) = k0_pay201 (accM.view.readAt (Elt F) (rX b).toLoadRect g) := by
  funext x
  obtain ⟨z, y1, y2, rfl⟩ : ∃ (z : Fin 1) (y1 : Fin 256) (y2 : Fin 512), x = ix3 (n0 := 1) (n1 := 256) (n2 := 512) z y1 y2 := ⟨x 0, x 1, x 2, eq_ix3 x⟩
  obtain rfl : z = 0 := Subsingleton.elim _ _
  show outv g ((rX b).toLoadRect.idx _) = _
  rw [idxX]; rfl

theorem run_out (g : Vec F S2x256x512 .bf16) (b : Fin 2) (Q : PUnit → sProp 𝕄) :
    invO c g b.val ⊢ iprop((invO c g (b.val + 1) -∗ Q ⟨⟩) -∗ W c (outP b) Q) := by
  unfold outP
  simp only [Prog.lift, Prog.bind_op, Prog.bind_ret, Prog.pure_eq_ret]
  unfold invO
  iintro ⟨Ha, %f, %hf, Ho⟩ HQ
  iapply (wp_load 𝒱₀ (c : Thread nD τ) none Set.univ (m := accM) (q := fullShare) (f := g) (Finset.subset_univ _)) $$ Ha
  iintro Ha
  iapply (wp_load 𝒱₀ (c : Thread nD τ) none Set.univ (m := outM) (q := fullShare) (f := f) (Finset.subset_univ _)) $$ Ho
  iintro Ho
  iapply (wp_store 𝒱₀ (c : Thread nD τ) none Set.univ (m := outM) (r := rX b) (f := f) (Finset.subset_univ _)) $$ Ho
  iintro Ho
  rw [wp_ret]
  imodintro
  iapply HQ
  isplitl [Ha]; · iexact Ha
  iexists _
  isplitr
  swap
  · iexact Ho
  · ipureintro
    exact write_agree cc0_stg5_0 (rX b) f (outv g) _ _ _ hf (out_read g b) (fun j hj => by
      by_cases h : (j (0 : Fin 3)).val < b.val
      · exact .inl h
      · exact .inr (mem_X b j (by omega)))

end Cert.KernelIdeal.Run

end
-- ==== Proof.Common.lean ====
/-
The exchange between the devices: which semaphore is which, who pays each of them and with what, what every device owes
at launch, and the order in which the waits may be made.
-/
module

public import proofs.«01_k».proof.Proof.Compute

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev EP : Emb (UR sig nD τ) (MT nD τ sig Unit (Elt F) ℕ UU ℕ) := embL
abbrev ER : Emb (Rounds.URounds (GSem nD τ sig) (Dev nD)) (MT nD τ sig Unit (Elt F) ℕ UU ℕ) := embR

/-! ## Devices -/

/-- The device `1 + i` places on. -/
def nx (c : Dev nD) (i : Fin 7) : Dev nD := ⟨(c.val + 1 + i.val) % 8, Nat.mod_lt _ (by decide)⟩
/-- The device `1 + i` places back. -/
def pv (c : Dev nD) (i : Fin 7) : Dev nD := ⟨(c.val + 7 - i.val) % 8, Nat.mod_lt _ (by decide)⟩
/-- The partner in round `r`: the device whose number differs in bit `r`. -/
def px (r : Fin 3) (c : Dev nD) : Dev nD := ⟨c.val ^^^ 2 ^ r.val, by revert r c; decide⟩

theorem sigDev_eq (c : Dev nD) (i : Fin 7) : sigDev c i = nx c i := by revert c i; decide
theorem devK_eq (c : Dev nD) (i : Fin 7) : devK c i = nx c i := by revert c i; decide
theorem devV_eq (c : Dev nD) (i : Fin 7) : devV c i = nx c i := by revert c i; decide
theorem devX0_eq (c : Dev nD) : devX0 c = px 0 c := by revert c; decide
theorem devX1_eq (c : Dev nD) : devX1 c = px 1 c := by revert c; decide
theorem devX2_eq (c : Dev nD) : devX2 c = px 2 c := by revert c; decide
theorem devX3_eq (c : Dev nD) : devX3 c = px 2 c := by revert c; decide
theorem devX4_eq (c : Dev nD) : devX4 c = px 1 c := by revert c; decide
theorem devX5_eq (c : Dev nD) : devX5 c = px 0 c := by revert c; decide
theorem px_px (r : Fin 3) (c : Dev nD) : px r (px r c) = c := by revert r c; decide
theorem nx_ne (c : Dev nD) (i : Fin 7) : nx c i ≠ c := by revert c i; decide

/-! ## Semaphores -/

/-- Semaphore `s` of array `a`: the key sends, the key arrivals, the value sends, the value arrivals, the exchange's sends,
its arrivals. -/
def dsem (a : Fin 6) (s : Fin 8) : DmaSem sig := (⟨6 + 8 * a.val + s.val, by omega⟩ : Fin 54)

theorem sem7 (s : Fin 8) : semI cc0_scratch7 s = dsem 0 s := by revert s; decide
theorem sem9 (s : Fin 8) : semI cc0_scratch9 s = dsem 2 s := by revert s; decide
theorem sem11 (s : Fin 8) : semI cc0_scratch11 s = dsem 4 s := by revert s; decide
theorem sem12 (s : Fin 8) : semI cc0_scratch12 s = dsem 5 s := by revert s; decide
theorem sem8 (c : Dev nD) : semAt cc0_scratch8 (k0_off1 c) (k0_off1_inb c) = dsem 1 c := by revert c; decide
theorem sem10 (c : Dev nD) : semAt cc0_scratch10 (k0_off1 c) (k0_off1_inb c) = dsem 3 c := by revert c; decide
theorem sem8' (c : Dev nD) (i : Fin 7) :
    semAt cc0_scratch8 (k0_off6 c (BitVec.ofNat 32 (1 + i.val))) (k0_off6_inb c i) = dsem 1 (pv c i) := by revert c i; decide
theorem sem10' (c : Dev nD) (i : Fin 7) :
    semAt cc0_scratch10 (k0_off6 c (BitVec.ofNat 32 (1 + i.val))) (k0_off6_inb c i) = dsem 3 (pv c i) := by revert c i; decide

/-- A cell of the exchange on one device: the barrier, or a semaphore of one of the six arrays. -/
abbrev CI : Type := Option (Fin 6 × Fin 8)

def semOf : CI → SemLoc sig
  | none => .reg barS
  | some (a, s) => .dma (dsem a s)

def dec : SemLoc sig → Option CI
  | .reg _ => some none
  | .dma n => if h : 6 ≤ n.val then some (some (⟨(n.val - 6) / 8, by have h54 : n.val < 54 := n.isLt; omega⟩, ⟨(n.val - 6) % 8, by omega⟩)) else none

theorem dec_semOf (k : CI) : dec (semOf k) = some k := by revert k; decide

abbrev gOf (c : Dev nD) (k : CI) : GSem nD τ sig := ((c : Thread nD τ), semOf k)
abbrev barC (c : Dev nD) : GSem nD τ sig := gOf c none
abbrev cellD (c : Dev nD) (a : Fin 6) (s : Fin 8) : GSem nD τ sig := gOf c (some (a, s))

theorem semOf_inj : Function.Injective semOf := fun a b h => by
  have := congrArg dec h
  rw [dec_semOf, dec_semOf] at this
  exact Option.some.inj this

/-! ## Who pays -/

/-- The payers of a cell of device `c`. -/
def duty (c : Dev nD) : CI → Finset (Dev nD)
  | none => Finset.univ.erase c
  | some (0, s) => if s = 0 then ∅ else {c}
  | some (1, s) => if s = c then ∅ else {s}
  | some (2, s) => if s = 0 then ∅ else {c}
  | some (3, s) => if s = c then ∅ else {s}
  | some (4, s) => if s = 0 ∨ s = 4 then ∅ else {c}
  | some (5, s) => if s = 0 ∨ s = 4 then ∅ else if s = 1 ∨ s = 5 then {px 0 c} else if s = 2 ∨ s = 6 then {px 1 c} else {px 2 c}

abbrev NK : ℕ := (slotOf kgM 0).view.dmaCredit
/-- The credit of the exchange's semaphore `s`. -/
def NO : Fin 8 → ℕ
  | 1 => land0.view.dmaCredit
  | 2 => land1.view.dmaCredit
  | 3 => land2.view.dmaCredit
  | 5 => (gat2 0).view.dmaCredit
  | 6 => (gat1 0).view.dmaCredit
  | 7 => (gat0 0).view.dmaCredit
  | _ => 1

def amt : CI → ℕ
  | none => 1
  | some (0, _) => NK
  | some (1, _) => NK
  | some (2, _) => NK
  | some (3, _) => NK
  | some (4, s) => NO s
  | some (5, s) => NO s

theorem NO_pos (s : Fin 8) : 0 < NO s := by
  unfold NO; split <;> first | exact View.dmaCredit_pos _ (by decide) | decide

theorem amt_pos (k : CI) : 0 < amt k := by
  unfold amt
  split <;> first | exact NO_pos _ | exact View.dmaCredit_pos _ (by decide) | decide

/-! ## What is paid -/

/-- The elements of a memref on device `c`, at contents `f`. -/
abbrev on {s : Shape} {e : EltTy} (c : Dev nD) (M : Memref sig .tc .vmem s e) (q : PosShare TreeShare) (f : M.view.ty.Contents (Elt F)) : sProp 𝕄 :=
  M.view.loc (c : Thread nD τ) ↦[M.view.set]{q} f

/-- The same at contents not chosen. -/
abbrev onAny {s : Shape} {e : EltTy} (c : Dev nD) (M : Memref sig .tc .vmem s e) : sProp 𝕄 := iprop(∃ f, on (F := F) c M fullShare f)

variable (I : Ins F)

/-- The sums after no, one, two and three rounds. -/
def A0 (c : Dev nD) : Vec F S2x256x512 .bf16 := pov I c
def A1 (c : Dev nD) : Vec F S2x256x512 .bf16 := (addf (A0 I c : FVec F S2x256x512 .bf16) (A0 I (px 0 c)) : FVec F S2x256x512 .bf16)
def A2 (c : Dev nD) : Vec F S2x256x512 .bf16 := (addf (A1 I c : FVec F S2x256x512 .bf16) (A1 I (px 1 c)) : FVec F S2x256x512 .bf16)
def A3 (c : Dev nD) : Vec F S2x256x512 .bf16 := (addf (A2 I c : FVec F S2x256x512 .bf16) (A2 I (px 2 c)) : FVec F S2x256x512 .bf16)

/-- The device that sums row `r` to the end. -/
def owner (r : Fin 256) : Dev nD := ⟨r.val / 128 + 2 * (r.val / 64 % 2) + 4 * (r.val / 32 % 2), by show _ < 8; omega⟩

/-- The sum every device ends with. -/
def total : Vec F S2x256x512 .bf16 := fun j => A3 I (owner (j 1)) j

/-- The landing block of round `r`'s partner, with what the partner sent, and the partner's leave to write where it sent from. -/
def redPay {s : Shape} (c p : Dev nD) (land src : Memref sig .tc .vmem s .bf16) (A : src.view.ty.Contents (Elt F)) : sProp 𝕄 :=
  iprop((∃ f, ⌜land.view.read (Elt F) f = src.view.read (Elt F) A⌝ ∗ on c land fullShare f) ∗ onAny p src)

def predI (s : Fin 8) : Fin 7 := ⟨s.val - 1, by omega⟩
theorem predI_sucI (i : Fin 7) : predI (sucI i) = i := by revert i; decide

/-- Half of a whole share. -/
abbrev qH : PosShare TreeShare := fullShare.right
abbrev qL : PosShare TreeShare := fullShare.left

/-- Every cell of device `p` is at its first round. -/
def reachedAll (p : Dev nD) : sProp 𝕄 := bigSep Finset.univ fun k : Fin 6 × Fin 8 => reached ER (gOf p (some k)) 0

/-- The landing block device `p` gives device `c`, if they are ever partners. -/
def stPay (c p : Dev nD) : sProp 𝕄 :=
  if p = px 0 c then onAny p land0 else if p = px 1 c then onAny p land1 else if p = px 2 c then onAny p land2 else iprop(emp)

/-- What device `p` gives device `c` with its barrier unit. -/
def barPay (c p : Dev nD) : sProp 𝕄 :=
  iprop(onAny p (slotOf kgM c) ∗ onAny p (slotOf vgM c) ∗ stPay c p ∗ reachedAll p)

def pay (c : Dev nD) (d : Dev nD) : CI → sProp 𝕄
  | none => barPay c d
  | some (0, s) => on c (srcOf kM c (predI s)) qH (I.k c)
  | some (1, s) => on c (slotOf kgM s) fullShare (kgv I c)
  | some (2, s) => on c (srcOf vM c (predI s)) qH (I.v c)
  | some (3, s) => on c (slotOf vgM s) fullShare (vgv I c)
  | some (4, 5) => on c (gat2 c) fullShare (total I)
  | some (4, 6) => on c (gat1 c) fullShare (total I)
  | some (4, 7) => on c (gat0 c) fullShare (total I)
  | some (5, 1) => redPay c (px 0 c) land0 (accS0 (px 0 c)) (A0 I (px 0 c))
  | some (5, 2) => redPay c (px 1 c) land1 (accS1 (px 1 c)) (A1 I (px 1 c))
  | some (5, 3) => redPay c (px 2 c) land2 (accS2 (px 2 c)) (A2 I (px 2 c))
  | some (5, 5) => on c (gat2 (px 0 c)) fullShare (total I)
  | some (5, 6) => on c (gat1 (px 1 c)) fullShare (total I)
  | some (5, 7) => on c (gat0 (px 2 c)) fullShare (total I)
  | _ => iprop(emp)

instance reachedAll_storable (p : Dev nD) : BI.Storable (upEmb : UEmb _ 𝕄) (reachedAll p) := by unfold reachedAll; infer_instance
instance stPay_storable (c p : Dev nD) : BI.Storable (upEmb : UEmb _ 𝕄) (stPay c p) := by
  unfold stPay; (repeat' split) <;> infer_instance
instance redPay_storable {s : Shape} (c p : Dev nD) (land src : Memref sig .tc .vmem s .bf16) (A : src.view.ty.Contents (Elt F)) :
    BI.Storable (upEmb : UEmb _ 𝕄) (redPay c p land src A) := by unfold redPay; infer_instance
set_option synthInstance.maxHeartbeats 400000 in
instance barPay_storable (c p : Dev nD) : BI.Storable (upEmb : UEmb _ 𝕄) (barPay c p) := by unfold barPay; infer_instance
set_option synthInstance.maxHeartbeats 400000 in
instance pay_storable (c d : Dev nD) (k : CI) : BI.Storable (upEmb : UEmb _ 𝕄) (pay I c d k) := by
  unfold pay; split <;> infer_instance

/-- The exchange: every cell is used once. -/
def Rd : Rounds.Schedule (GSem nD τ sig) (Dev nD) 𝕄 where
  duties g r := match dec g.2 with
    | some k => if r = 0 then duty g.1.1 k else ∅
    | none => ∅
  unitless _ := False
  amount g _ _ := match dec g.2 with
    | some k => amt k
    | none => 1
  payload g _ d := match dec g.2 with
    | some k => pay I g.1.1 d k
    | none => iprop(emp)
  amount_pos g _ _ _ := by
    split
    · exact amt_pos _
    · exact Nat.one_pos

instance Rd_storable (g : GSem nD τ sig) (r : ℕ) (d : Dev nD) : BI.Storable (upEmb : UEmb _ 𝕄) ((Rd I).payload g r d) := by
  show BI.Storable upEmb (match dec g.2 with | some k => pay I g.1.1 d k | none => iprop(emp))
  split <;> infer_instance

theorem duties_at (c : Dev nD) (k : CI) : (Rd I).duties (gOf c k) 0 = duty c k := by
  dsimp only [Rd]; rw [dec_semOf]; exact if_pos rfl
theorem duties_later (c : Dev nD) (k : CI) : ∀ r, 1 ≤ r → (Rd I).duties (gOf c k) r = ∅ := fun r hr => by
  dsimp only [Rd]; rw [dec_semOf]; exact if_neg (by omega)
theorem amount_at (c : Dev nD) (k : CI) (r : ℕ) (d : Dev nD) : (Rd I).amount (gOf c k) r d = amt k := by
  dsimp only [Rd]; rw [dec_semOf]
theorem payload_at (c : Dev nD) (k : CI) (r : ℕ) (d : Dev nD) : (Rd I).payload (gOf c k) r d = pay I c d k := by
  dsimp only [Rd]; rw [dec_semOf]
theorem expect_at (c : Dev nD) (k : CI) : (Rd I).expect (gOf c k) 0 = (duty c k).card * amt k := by
  unfold Schedule.expect Schedule.amountOf
  rw [duties_at, Finset.sum_congr rfl (fun d _ => amount_at I c k 0 d), Finset.sum_const, smul_eq_mul]
theorem rest_at (c : Dev nD) (k : CI) :
    bigSep ((Rd I).duties (gOf c k) 0 \ ∅) (fun d => (Rd I).payload (gOf c k) 0 d) = bigSep (duty c k) fun d => pay I c d k := by
  rw [Finset.sdiff_empty, duties_at]
  exact bigSep_congr fun d _ => payload_at I c k 0 d

/-! ## What each device owes at launch, and the levels -/

/-- The rest of a sum from its `n`-th term on. -/
def tail {k : ℕ} (f : Fin k → CellTallies nD τ sig Unit) (n : ℕ) : CellTallies nD τ sig Unit :=
  ∑ i ∈ Finset.univ.filter (fun i : Fin k => n ≤ i.val), f i

theorem tail_step {k : ℕ} (f : Fin k → CellTallies nD τ sig Unit) (i : Fin k) : tail f i.val = f i + tail f (i.val + 1) := by
  unfold tail
  rw [show (Finset.univ.filter fun j : Fin k => i.val ≤ j.val) = insert i (Finset.univ.filter fun j : Fin k => i.val + 1 ≤ j.val) from by
    ext j; simp only [Finset.mem_filter, Finset.mem_univ, true_and, Finset.mem_insert, Fin.ext_iff]; omega]
  exact Finset.sum_insert (by simp)

theorem tail_end {k : ℕ} (f : Fin k → CellTallies nD τ sig Unit) : tail f k = 0 := by
  unfold tail
  rw [show (Finset.univ.filter fun j : Fin k => k ≤ j.val) = ∅ from by ext j; simp]
  rfl

/-- The exchange's arrival semaphores in the order they are paid, and their devices. -/
def xs : Fin 6 → Fin 8 := ![1, 2, 3, 7, 6, 5]
def xr : Fin 6 → Fin 3 := ![0, 1, 2, 2, 1, 0]

def tBar (c : Dev nD) (i : Fin 7) : CellTallies nD τ sig Unit := tallyAt (barC (nx c i)) () 1
def tKV (c : Dev nD) (i : Fin 7) : CellTallies nD τ sig Unit := tallyAt (cellD (nx c i) 1 c) () NK + tallyAt (cellD (nx c i) 3 c) () NK
def tX (c : Dev nD) (i : Fin 6) : CellTallies nD τ sig Unit := tallyAt (cellD (px (xr i) c) 5 (xs i)) () (NO (xs i))

def O₀ (c : Dev nD) : CellTallies nD τ sig Unit := tail (tBar c) 0 + (tail (tKV c) 0 + tail (tX c) 0)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvC : CI → ℕ
  | none => 1
  | some (1, _) => 2
  | some (3, _) => 2
  | some (5, s) => (![0, 3, 4, 5, 0, 8, 7, 6] : Fin 8 → ℕ) s
  | _ => 0

def lv (g : GSem nD τ sig) (_ : Unit) : ℕ := match dec g.2 with
  | some k => lvC k
  | none => 0

theorem lv_at (c : Dev nD) (k : CI) (u : Unit) : lv (gOf c k) u = lvC k := by
  unfold lv; dsimp only; rw [dec_semOf]

/-- Everything owed is owed at a level above `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg
theorem above_tally {n : ℕ} (c : Dev nD) (k : CI) (N : ℕ) (h : n < lvC k) : Above n (tallyAt (gOf c k) () N) := fun g u hg => by
  rw [tallyAt_apply] at hg
  split at hg
  · next e =>
    rw [e.1]
    exact ⟨by rw [L_tc]; exact Finset.mem_singleton_self _, by rw [lv_at]; exact h⟩
  · exact absurd hg (Nat.lt_irrefl 0)
theorem above_tail {n m k : ℕ} (f : Fin k → CellTallies nD τ sig Unit) (h : ∀ i : Fin k, m ≤ i.val → Above n (f i)) : Above n (tail f m) := by
  unfold tail
  refine Finset.sum_induction f (Above n) (fun _ _ => above_add) (above_zero n) fun i hi => ?_
  exact h i (Finset.mem_filter.1 hi).2

theorem mayWait_of {n : ℕ} (c : Dev nD) (k : CI) (O : CellTallies nD τ sig Unit) (h : Above n O) (hk : lvC k ≤ n) :
    (levAts L lv : sProp 𝕄) ⊢ MayWait (c : Thread nD τ) (semOf k) () O :=
  MayOwe.of_cut (L := L) (lev := lv) n (fun p hp => by rw [Finset.mem_singleton.mp hp, L_tc]; exact Finset.mem_singleton_self _)
    (fun g u hg => (h g u hg).1)
    (fun p hp => by rw [Finset.mem_singleton.mp hp]; exact (lv_at c k ()).trans_le hk)
    (fun g u hg => (h g u hg).2)

theorem above_X (c : Dev nD) (n : ℕ) (m : ℕ) (h : ∀ i : Fin 6, m ≤ i.val → n < lvC (some (5, xs i))) : Above n (tail (tX c) m) :=
  above_tail _ fun i hi => above_tally _ _ _ (h i hi)
theorem above_KV (c : Dev nD) (m : ℕ) : Above 1 (tail (tKV c) m) :=
  above_tail _ fun i _ => above_add (above_tally _ _ _ (by show _ < 2; decide)) (above_tally _ _ _ (by show _ < 2; decide))
theorem above_O₀ (c : Dev nD) : Above 0 (O₀ c) :=
  above_add (above_tail _ fun i _ => above_tally _ _ _ (by decide))
    (above_add (above_tail _ fun i _ => above_add (above_tally _ _ _ (by show _ < 2; decide)) (above_tally _ _ _ (by show _ < 2; decide)))
      (above_X c 0 0 (by decide)))

end Cert.KernelIdeal.Run

end
-- ==== Proof.Comm.lean ====
/-
The steps of the body that talk: a signal, the handshake's wait, a transfer, a wait for one, each run from what it takes
to what it gives.
-/
module

public import proofs.«01_k».proof.Proof.Common

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families, one member at a time -/

theorem out_of {T : Type} [DecidableEq T] {S : Finset T} {i : T} (h : i ∈ S) (Φ : T → sProp 𝕄) :
    bigSep S Φ ⊢ iprop(Φ i ∗ bigSep (S.erase i) Φ) := Entails.of_eq (bigSep_erase h)
theorem into {T : Type} [DecidableEq T] {S : Finset T} {i : T} (h : i ∈ S) (Φ : T → sProp 𝕄) :
    iprop(Φ i ∗ bigSep (S.erase i) Φ) ⊢ bigSep S Φ := Entails.of_eq (bigSep_erase h).symm

/-- The first `n` members are done. -/
def fam {k : ℕ} (D U : Fin k → sProp 𝕄) (n : ℕ) : sProp 𝕄 :=
  bigSep Finset.univ fun i : Fin k => if i.val < n then D i else U i

theorem fam_zero {k : ℕ} (D U : Fin k → sProp 𝕄) : fam D U 0 = bigSep Finset.univ U := by
  unfold fam
  exact bigSep_congr fun i _ => if_neg (Nat.not_lt_zero _)

theorem fam_end {k : ℕ} (D U : Fin k → sProp 𝕄) : fam D U k = bigSep Finset.univ D := by
  unfold fam
  exact bigSep_congr fun i _ => if_pos i.isLt

theorem fam_step {k : ℕ} (D U : Fin k → sProp 𝕄) (i : Fin k) :
    fam D U i.val ⊢ iprop(U i ∗ (D i -∗ fam D U (i.val + 1))) := by
  have hd : ∀ j ∈ Finset.univ.erase i, (if j.val < i.val then D j else U j) = if j.val < i.val + 1 then D j else U j := fun j hj => by
    have hne : j.val ≠ i.val := fun h => (Finset.mem_erase.1 hj).1 (Fin.ext h)
    exact if_congr (by omega) rfl rfl
  have h1 : fam D U i.val = iprop(U i ∗ bigSep (Finset.univ.erase i) fun j => if j.val < i.val + 1 then D j else U j) := by
    unfold fam
    rw [← bigSep_congr hd]
    refine (bigSep_erase (Finset.mem_univ i)).trans ?_
    rw [if_neg (Nat.lt_irrefl _)]
    rfl
  have h2 : iprop(D i ∗ bigSep (Finset.univ.erase i) fun j => if j.val < i.val + 1 then D j else U j) = fam D U (i.val + 1) := by
    unfold fam
    refine Eq.trans ?_ (bigSep_erase (Finset.mem_univ i)).symm
    rw [if_pos (Nat.lt_succ_self _)]
    rfl
  rw [h1, ← h2]
  iintro ⟨Hi, Hr⟩
  isplitl [Hi]; · iexact Hi
  iintro Hd
  isplitl [Hd] <;> iassumption

/-! ## The rules, at this exchange -/

variable (I : Ins F) (K : GSem nD τ sig → ℕ) (c : Dev nD)

/-- The record of every cell. -/
def allInv : sProp 𝕄 := bigSep Finset.univ fun x : Dev nD × CI => cellInv ER (Rd I) (K (gOf x.1 x.2)) (gOf x.1 x.2)

instance allInv_persistent : Persistent (allInv I K) := by unfold allInv; infer_instance
instance reachedAll_persistent (p : Dev nD) : Persistent (reachedAll (F := F) p) := by unfold reachedAll; infer_instance

theorem inv_at (p : Dev nD) (k : CI) : allInv I K ⊢ cellInv ER (Rd I) (K (gOf p k)) (gOf p k) := by
  unfold allInv
  exact bigSep_elim (i := (p, k)) (Finset.mem_univ _)

theorem reached_at (p : Dev nD) (a : Fin 6) (s : Fin 8) : reachedAll (F := F) p ⊢ reached ER (cellD p a s) 0 := by
  unfold reachedAll
  exact bigSep_elim (i := (a, s)) (Finset.mem_univ _)

/-- What device `c` owes, whatever it has waited for. -/
abbrev owesE (O : CellTallies nD τ sig Unit) : sProp 𝕄 := iprop(∃ W, owes (c : Thread nD τ) O W)

/-- A cell of device `c`, its round `r` open. -/
abbrev posD (a : Fin 6) (s : Fin 8) (r : ℕ) : sProp 𝕄 := atPos ER (cellD c a s) r ∅ 0
abbrev tokD (p : Dev nD) (a : Fin 6) (s : Fin 8) : sProp 𝕄 := dutyTok ER (cellD p a s) 0 c
abbrev credD (a : Fin 6) (s : Fin 8) (N : ℕ) : sProp 𝕄 := cred (tallyAt (cellD c a s) () N)

theorem run_signal (i : Fin 7) (O : CellTallies nD τ sig Unit) (Q : PUnit → sProp 𝕄) :
    iprop(allInv I K ∗ owesE c (tBar c i + O) ∗ dutyTok ER (barC (nx c i)) 0 c ∗ barPay (nx c i) c ∗ reached ER (barC (nx c i)) 0)
      ⊢ iprop((owesE c O -∗ Q ⟨⟩) -∗ W c (signalP c i) Q) := by
  unfold signalP semSignalWord tBar
  rw [sigDev_eq]
  iintro ⟨#HI, ⟨%w, HO⟩, Ht, Hp, #Hr⟩ Hk
  iapply (Rounds.wp_signal 𝒱₀ ER (Rd I) (c : Thread nD τ) none (dst := (nx c i : Thread nD τ)) (sem := barS) (r := 0) (d := c) (κ := K (barC (nx c i)))
    (k' := 1) (by show c ∈ (Rd I).duties (barC (nx c i)) 0; rw [duties_at]; exact Finset.mem_erase.2 ⟨(nx_ne c i).symm, Finset.mem_univ _⟩)
    (amount_at I (nx c i) none 0 c) () O (add_comm _ _)) $$ [HO Ht Hp]
  · isplitr; · iapply (inv_at I K (nx c i) none); iexact HI
    isplitl [HO]; · iexact HO
    isplitl [Ht]; · iexact Ht
    isplitl [Hp]
    · iapply (show barPay (nx c i) c ⊢ (Rd I).payload ((nx c i).tc, SemLoc.reg barS) 0 c from Entails.of_eq (payload_at I (nx c i) none 0 c).symm); iexact Hp
    iexact Hr
  iintro HO
  rw [wp_ret]
  imodintro
  iapply Hk
  iexists w; iexact HO

theorem run_barrier (O : CellTallies nD τ sig Unit) (hO : Above 1 O) (Q : PUnit → sProp 𝕄) :
    iprop(allInv I K ∗ levAts L lv ∗ cred (tallyAt (barC c) () 7) ∗ owesE c O ∗ atPos ER (barC c) 0 ∅ 0)
      ⊢ iprop(((owesE c O ∗ atPos ER (barC c) 1 ∅ 0 ∗ bigSep (Finset.univ.erase c) fun p => barPay (F := F) c p) -∗ Q ⟨⟩)
          -∗ W c (semWaitWord barS 7#32) Q) := by
  unfold semWaitWord
  iintro ⟨#HI, #Hlev, Hc, ⟨%w, HO⟩, Hat⟩ Hk
  iapply (Rounds.wp_wait_rest_token 𝒱₀ ER (Rd I) (c : Thread nD τ) none (κ := K (barC c)) (sm := semOf none) (k' := 7)
      (wpE_semWait_eq 𝒱₀ (c : Thread nD τ) none Set.univ) (Set.mem_univ _) () (O := O) (W := w) (R := 0) (m := 0) (T := ∅)
      ((Nat.zero_add 7).trans (by rw [expect_at I c none]; revert c; decide))) $$ [Hc HO Hat]
  · isplitr; · iapply (inv_at I K c none); iexact HI
    isplitl [Hc]; · iexact Hc
    isplitl [HO]; · iexact HO
    isplitr; · iapply (mayWait_of c none O hO (le_refl 1)); iexact Hlev
    iexact Hat
  iintro ⟨HO, Hat, -, Hp⟩
  ihave Hp := (Entails.of_eq (rest_at I c none)) $$ Hp
  rw [wp_ret]
  imodintro
  iapply Hk
  isplitl [HO]; · iexists _; iexact HO
  isplitl [Hat]; · iexact Hat
  unfold duty pay
  iexact Hp

theorem run_wait {s : Shape} (sm : DmaSem sig) (a : Fin 6) (e : Fin 8) (hs : sm = dsem a e) (A B : Memref sig .tc .vmem s .bf16)
    (h₁ : A.view.WordExact) (h₂ : B.view.WordExact) (N : ℕ) (d : Dev nD) (hN : B.view.dmaCredit = N) (ha : amt (some (a, e)) = N)
    (hd : duty c (some (a, e)) = {d}) (O : CellTallies nD τ sig Unit) (hO : O = 0 ∨ Above (lvC (some (a, e))) O) (Q : PUnit → sProp 𝕄) :
    iprop(allInv I K ∗ levAts L lv ∗ credD c a e N ∗ owesE c O ∗ posD c a e 0)
      ⊢ iprop(((owesE c O ∗ posD c a e 1 ∗ pay I c d (some (a, e))) -∗ Q ⟨⟩) -∗ W c (waitP sm A B h₁ h₂) Q) := by
  subst hs hN
  iintro ⟨#HI, #Hlev, Hc, ⟨%w, HO⟩, Hat⟩ Hk
  iapply (Rounds.wp_wait_rest_token 𝒱₀ ER (Rd I) (c : Thread nD τ) none (κ := K (cellD c a e)) (sm := semOf (some (a, e)))
      (wpE_waitDma2_eq (src := A) (dst := B) 𝒱₀ (c : Thread nD τ) none Set.univ) (Set.mem_univ _) () (O := O) (W := w) (R := 0) (m := 0) (T := ∅)
      ((Nat.zero_add _).trans (by rw [expect_at I c (some (a, e)), hd, Finset.card_singleton, one_mul, ha]))) $$ [Hc HO Hat]
  · isplitr; · iapply (inv_at I K c (some (a, e))); iexact HI
    isplitl [Hc]; · iexact Hc
    isplitl [HO]; · iexact HO
    isplitr
    · rcases hO with rfl | hO
      · rw [MayWait_zero]; iempintro
      · iapply (mayWait_of c (some (a, e)) O hO (le_refl _)); iexact Hlev
    iexact Hat
  iintro ⟨HO, Hat, -, Hp⟩
  ihave Hp := (Entails.of_eq ((rest_at I c (some (a, e))).trans (by rw [hd, bigSep_singleton]))) $$ Hp
  rw [wp_ret]
  imodintro
  iapply Hk
  isplitl [HO]; · iexists _; iexact HO
  isplitl [Hat]; · iexact Hat
  iexact Hp

theorem run_send {s : Shape} (p dst : Dev nD) (hp : dst = p) (src land : Memref sig .tc .vmem s .bf16) (a₁ a₂ : Fin 6) (e₁ e₂ : Fin 8)
    (sS sR : DmaSem sig) (hS : sS = dsem a₁ e₁) (hR : sR = dsem a₂ e₂) (h₁ : src.view.WordExact) (h₂ : land.view.WordExact)
    (hd₁ : c ∈ duty c (some (a₁, e₁))) (hd₂ : c ∈ duty p (some (a₂, e₂)))
    (N : ℕ) (hN : land.view.dmaCredit = N) (ha₁ : amt (some (a₁, e₁)) = N) (ha₂ : amt (some (a₂, e₂)) = N)
    (q : PosShare TreeShare) (fs : src.view.ty.Contents (Elt F)) (fd : land.view.ty.Contents (Elt F)) (O : CellTallies nD τ sig Unit)
    (hpay₁ : on c src q fs ⊢ pay I c c (some (a₁, e₁)))
    (hpay₂ : on p land fullShare (land.view.write (Elt F) fd (src.view.read (Elt F) fs) Finset.univ) ⊢ pay I p c (some (a₂, e₂)))
    (Q : PUnit → sProp 𝕄) :
    iprop(allInv I K ∗ on c src q fs ∗ on p land fullShare fd ∗ owesE c (tallyAt (cellD p a₂ e₂) () N + O) ∗ tokD c c a₁ e₁ ∗ reached ER (cellD c a₁ e₁) 0
        ∗ tokD c p a₂ e₂ ∗ reached ER (cellD p a₂ e₂) 0)
      ⊢ iprop(((credD c a₁ e₁ N ∗ owesE c O) -∗ Q ⟨⟩) -∗ W c (sendP dst src land sS sR h₁ h₂) Q) := by
  subst hp hS hR hN
  iintro ⟨#HI, Hs, Hl, ⟨%w, HO⟩, Ht, Hr, Ht', Hr'⟩ Hk
  iapply (Rounds.wp_send_pointsTo 𝒱₀ ER (Rd I) (c : Thread nD τ) none (c' := (dst : Thread nD τ)) (src := src) (dst := land)
      (sS := semOf (some (a₁, e₁))) (sem := semOf (some (a₂, e₂))) (q := q) (fs := fs) (κ₁ := K (cellD c a₁ e₁)) (κ₂ := K (cellD dst a₂ e₂))
      (r₁ := 0) (r₂ := 0) (d₁ := c) (d₂ := c) (fd := fd)
      (by show c ∈ (Rd I).duties (cellD c a₁ e₁) 0; rw [duties_at]; exact hd₁)
      (by show c ∈ (Rd I).duties (cellD dst a₂ e₂) 0; rw [duties_at]; exact hd₂)
      () () land.view.dmaCredit rfl ((amount_at I c (some (a₁, e₁)) 0 c).trans ha₁) ((amount_at I dst (some (a₂, e₂)) 0 c).trans ha₂) O (add_comm _ _) (W := w)
      (hpay₁.trans (Entails.of_eq (payload_at I c (some (a₁, e₁)) 0 c).symm))
      (hpay₂.trans (Entails.of_eq (payload_at I dst (some (a₂, e₂)) 0 c).symm))) $$ [Hs Hl HO Ht Hr Ht' Hr']
  · isplitr; · iapply (inv_at I K c (some (a₁, e₁))); iexact HI
    isplitr; · iapply (inv_at I K dst (some (a₂, e₂))); iexact HI
    isplitl [Hs]; · iexact Hs
    isplitl [Hl]; · iexact Hl
    isplitl [HO]; · iexact HO
    isplitl [Ht]; · iexact Ht
    isplitl [Hr]; · iexact Hr
    isplitl [Ht']; · iexact Ht'
    iexact Hr'
  iintro ⟨Hc, HO⟩
  rw [wp_ret]
  imodintro
  iapply Hk
  isplitl [Hc]; · iexact Hc
  iexists w; iexact HO

theorem run_send_landing {s : Shape} (p dst : Dev nD) (hp : dst = p) (src land : Memref sig .tc .vmem s .bf16) (a₁ a₂ : Fin 6) (e₁ e₂ : Fin 8)
    (sS sR : DmaSem sig) (hS : sS = dsem a₁ e₁) (hR : sR = dsem a₂ e₂) (h₁ : src.view.WordExact) (h₂ : land.view.WordExact)
    (hd₁ : c ∈ duty c (some (a₁, e₁))) (hd₂ : c ∈ duty p (some (a₂, e₂)))
    (N : ℕ) (hN : land.view.dmaCredit = N) (ha₁ : amt (some (a₁, e₁)) = N) (ha₂ : amt (some (a₂, e₂)) = N)
    (q : PosShare TreeShare) (fs : src.view.ty.Contents (Elt F)) (fd : land.view.ty.Contents (Elt F)) (O : CellTallies nD τ sig Unit)
    (hpay₁ : (emp : sProp 𝕄) ⊢ pay I c c (some (a₁, e₁)))
    (hpay₂ : iprop(on p land fullShare (land.view.write (Elt F) fd (src.view.read (Elt F) fs) Finset.univ) ∗ on c src q fs) ⊢ pay I p c (some (a₂, e₂)))
    (Q : PUnit → sProp 𝕄) :
    iprop(allInv I K ∗ on c src q fs ∗ on p land fullShare fd ∗ owesE c (tallyAt (cellD p a₂ e₂) () N + O) ∗ tokD c c a₁ e₁ ∗ reached ER (cellD c a₁ e₁) 0
        ∗ tokD c p a₂ e₂ ∗ reached ER (cellD p a₂ e₂) 0)
      ⊢ iprop(((credD c a₁ e₁ N ∗ owesE c O) -∗ Q ⟨⟩) -∗ W c (sendP dst src land sS sR h₁ h₂) Q) := by
  subst hp hS hR hN
  iintro ⟨#HI, Hs, Hl, ⟨%w, HO⟩, Ht, Hr, Ht', Hr'⟩ Hk
  iapply (Rounds.wp_send_landing_pointsTo 𝒱₀ ER (Rd I) (c : Thread nD τ) none (c' := (dst : Thread nD τ)) (src := src) (dst := land)
      (sS := semOf (some (a₁, e₁))) (sem := semOf (some (a₂, e₂))) (q := q) (fs := fs) (κ₁ := K (cellD c a₁ e₁)) (κ₂ := K (cellD dst a₂ e₂))
      (r₁ := 0) (r₂ := 0) (d₁ := c) (d₂ := c) (fd := fd)
      (by show c ∈ (Rd I).duties (cellD c a₁ e₁) 0; rw [duties_at]; exact hd₁)
      (by show c ∈ (Rd I).duties (cellD dst a₂ e₂) 0; rw [duties_at]; exact hd₂)
      () () land.view.dmaCredit rfl ((amount_at I c (some (a₁, e₁)) 0 c).trans ha₁) ((amount_at I dst (some (a₂, e₂)) 0 c).trans ha₂) O (add_comm _ _) (W := w)
      (hpay₁.trans (Entails.of_eq (payload_at I c (some (a₁, e₁)) 0 c).symm))
      (hpay₂.trans (Entails.of_eq (payload_at I dst (some (a₂, e₂)) 0 c).symm))) $$ [Hs Hl HO Ht Hr Ht' Hr']
  · isplitr; · iapply (inv_at I K c (some (a₁, e₁))); iexact HI
    isplitr; · iapply (inv_at I K dst (some (a₂, e₂))); iexact HI
    isplitl [Hs]; · iexact Hs
    isplitl [Hl]; · iexact Hl
    isplitl [HO]; · iexact HO
    isplitl [Ht]; · iexact Ht
    isplitl [Hr]; · iexact Hr
    isplitl [Ht']; · iexact Ht'
    iexact Hr'
  iintro ⟨Hc, HO⟩
  rw [wp_ret]
  imodintro
  iapply Hk
  isplitl [Hc]; · iexact Hc
  iexists w; iexact HO

end Cert.KernelIdeal.Run

end
-- ==== Proof.Blocks.lean ====
/-
Which elements each block of a buffer is, what a transfer between two blocks leaves, and the steps that touch one block
only: the device's own slot, and the sums.
-/
module

public import proofs.«01_k».proof.Proof.Comm

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Writing through a view -/

/-- What a view's elements hold after a write through it of what `G` holds there. -/
theorem write_on {s : Shape} {e : EltTy} (M : Memref sig .tc .vmem s e) (f G : M.view.ty.Contents (Elt F)) (w : s.Idx → Elt F e)
    (h : M.view.read (Elt F) G = w) : ∀ j ∈ M.view.set, M.view.write (Elt F) f w Finset.univ j = G j := by
  intro j hj
  obtain ⟨x, -, rfl⟩ := Finset.mem_map.1 hj
  rw [View.write_emb_of_mem f w (Finset.mem_univ x), ← h, View.read_apply, cast_cast, cast_eq]

theorem on_write {s : Shape} {e : EltTy} (c : Dev nD) (M : Memref sig .tc .vmem s e) (q : PosShare TreeShare) (f G : M.view.ty.Contents (Elt F)) (w : s.Idx → Elt F e)
    (h : M.view.read (Elt F) G = w) : on c M q (M.view.write (Elt F) f w Finset.univ) = on c M q G :=
  pointsTo_congr (write_on M f G w h)

theorem whole_setOn (b : Ref sig .tc) (S : Finset b.ty.shape.Idx) : (Memref.whole b).view.setOn S = S :=
  Finset.map_refl

/-! ## The blocks of the gathering buffers and of the staged keys and values -/

theorem off2_eq (c : Dev nD) : k0_off2 c = ![c.val, 0, 0, 0, 0] := by revert c; decide
theorem off5_eq (c : Dev nD) : k0_off5 c = ![c.val, 0, 0, 0, 0] := by revert c; decide
theorem off4_eq (c : Dev nD) : k0_off4 c = ![4 * c.val, 0, 0, 0] := by revert c; decide
theorem off3_eq (c : Dev nD) (i : Fin 7) : k0_off3 c (BitVec.ofNat 32 (1 + i.val)) = ![4 * (nx c i).val, 0, 0, 0] := by revert c i; decide

theorem mem_unit5 (o : Fin 5 → ℕ) (h : ∀ a, o a + S1x4x2x256x64.size a ≤ S8x4x2x256x64.size a) (s : Fin 8) (ho : o = ![s.val, 0, 0, 0, 0]) (j : S8x4x2x256x64.Idx) :
    j ∈ (Rect.unit (s := S8x4x2x256x64) o S1x4x2x256x64.size h).set ↔ (j (0 : Fin 5)).val = s.val := by
  subst ho
  rw [Rect.mem_set_unit]
  have h1 : (j (1 : Fin 5)).val < 4 := (j (1 : Fin 5)).isLt
  have h2 : (j (2 : Fin 5)).val < 2 := (j (2 : Fin 5)).isLt
  have h3 : (j (3 : Fin 5)).val < 256 := (j (3 : Fin 5)).isLt
  have h4 : (j (4 : Fin 5)).val < 64 := (j (4 : Fin 5)).isLt
  constructor
  · intro H
    have := H 0
    simp at this
    omega
  · intro H a
    fin_cases a <;> simp <;> omega

theorem mem_unit4 (o : Fin 4 → ℕ) (h : ∀ a, o a + S4x2x256x64.size a ≤ S32x2x256x64.size a) (s : Fin 8) (ho : o = ![4 * s.val, 0, 0, 0]) (j : S32x2x256x64.Idx) :
    j ∈ (Rect.unit (s := S32x2x256x64) o S4x2x256x64.size h).set ↔ (j (0 : Fin 4)).val / 4 = s.val := by
  subst ho
  rw [Rect.mem_set_unit]
  have h1 : (j (1 : Fin 4)).val < 2 := (j (1 : Fin 4)).isLt
  have h2 : (j (2 : Fin 4)).val < 256 := (j (2 : Fin 4)).isLt
  have h3 : (j (3 : Fin 4)).val < 64 := (j (3 : Fin 4)).isLt
  constructor
  · intro H
    have := H 0
    simp at this
    omega
  · intro H a
    fin_cases a <;> simp <;> omega

/-- The elements of slot `s`, and of the heads that go to device `s`. -/
def slotSet (s : Fin 8) : Finset S8x4x2x256x64.Idx := Finset.univ.filter fun j => (j (0 : Fin 5)).val = s.val
def headSet (s : Fin 8) : Finset S32x2x256x64.Idx := Finset.univ.filter fun j => (j (0 : Fin 4)).val / 4 = s.val

theorem slotK_set (s : Dev nD) : (slotOf kgM s).view.set = slotSet s := by
  refine (View.set_reshape _ _).trans ((View.set_slice_whole cc0_scratch1 _).trans ?_)
  ext j
  exact (mem_unit5 _ _ s (off2_eq s) j).trans (by unfold slotSet; simp)
theorem slotV_set (s : Dev nD) : (slotOf vgM s).view.set = slotSet s := slotK_set s
theorem ownSlot_set (c : Dev nD) : (rOwnSlot c).set = slotSet c := by
  ext j
  exact (mem_unit5 _ _ c (off5_eq c) j).trans (by unfold slotSet; simp)
theorem srcK_set (c : Dev nD) (i : Fin 7) : (srcOf kM c i).view.set = headSet (nx c i) := by
  refine (View.set_slice_whole cc0_stg2_0 _).trans ?_
  ext j
  exact (mem_unit4 _ _ (nx c i) (off3_eq c i) j).trans (by unfold headSet; simp)
theorem srcV_set (c : Dev nD) (i : Fin 7) : (srcOf vM c i).view.set = headSet (nx c i) := srcK_set c i

theorem slot_disj (s : Fin 8) (_ : s ∈ Finset.univ) (t : Fin 8) (_ : t ∈ Finset.univ) (h : s ≠ t) : Disjoint (slotSet s) (slotSet t) := by
  rw [Finset.disjoint_left]
  intro j hs ht
  unfold slotSet at hs ht
  exact h (Fin.ext ((Finset.mem_filter.1 hs).2.symm.trans (Finset.mem_filter.1 ht).2))
theorem slot_union : (Finset.univ : Finset (Fin 8)).biUnion slotSet = Finset.univ := by
  ext j
  simp only [Finset.mem_biUnion, Finset.mem_univ, true_and, iff_true]
  exact ⟨j (0 : Fin 5), by unfold slotSet; simp⟩
theorem head_disj (s : Fin 8) (_ : s ∈ Finset.univ) (t : Fin 8) (_ : t ∈ Finset.univ) (h : s ≠ t) : Disjoint (headSet s) (headSet t) := by
  rw [Finset.disjoint_left]
  intro j hs ht
  unfold headSet at hs ht
  exact h (Fin.ext ((Finset.mem_filter.1 hs).2.symm.trans (Finset.mem_filter.1 ht).2))
theorem head_union : (Finset.univ : Finset (Fin 8)).biUnion headSet = Finset.univ := by
  ext j
  simp only [Finset.mem_biUnion, Finset.mem_univ, true_and, iff_true]
  have h : (j (0 : Fin 4)).val < 32 := (j (0 : Fin 4)).isLt
  exact ⟨⟨(j (0 : Fin 4)).val / 4, by omega⟩, by unfold headSet; simp⟩

theorem idx5 (o : Fin 5 → ℕ) (h : ∀ a, o a + S1x4x2x256x64.size a ≤ S8x4x2x256x64.size a) (s : Fin 8) (ho : o = ![s.val, 0, 0, 0, 0]) (a : Fin 4) (b : Fin 2) (x : Fin 256) (y : Fin 64) :
    (Rect.unit (s := S8x4x2x256x64) o S1x4x2x256x64.size h).toLoadRect.idx (ix5 (n0 := 1) (n1 := 4) (n2 := 2) (n3 := 256) (n4 := 64) 0 a b x y)
      = ix5 (n0 := 8) (n1 := 4) (n2 := 2) (n3 := 256) (n4 := 64) s a b x y := by
  subst ho
  funext d; apply Fin.ext
  show (![s.val, 0, 0, 0, 0] : Fin 5 → ℕ) d + 1 * (ix5 (n0 := 1) (n1 := 4) (n2 := 2) (n3 := 256) (n4 := 64) 0 a b x y d).val = _
  fin_cases d <;> simp

theorem idx4 (o : Fin 4 → ℕ) (h : ∀ a, o a + S4x2x256x64.size a ≤ S32x2x256x64.size a) (s : Fin 8) (ho : o = ![4 * s.val, 0, 0, 0]) (a : Fin 4) (b : Fin 2) (x : Fin 256) (y : Fin 64) :
    (Rect.unit (s := S32x2x256x64) o S4x2x256x64.size h).toLoadRect.idx (ix4 (n0 := 4) (n1 := 2) (n2 := 256) (n3 := 64) a b x y)
      = ix4 (n0 := 32) (n1 := 2) (n2 := 256) (n3 := 64) ⟨4 * s.val + a.val, by omega⟩ b x y := by
  subst ho
  funext d; apply Fin.ext
  show (![4 * s.val, 0, 0, 0] : Fin 4 → ℕ) d + 1 * (ix4 (n0 := 4) (n1 := 2) (n2 := 256) (n3 := 64) a b x y d).val = _
  fin_cases d <;> simp

theorem cast54 {α : Type} (f : S1x4x2x256x64.Idx → α) (h : S1x4x2x256x64.ShapeCasts S4x2x256x64) (a : Fin 4) (b : Fin 2) (x : Fin 256) (y : Fin 64) :
    shapeCast S4x2x256x64 f h (ix4 a b x y) = f (ix5 (n0 := 1) 0 a b x y) :=
  shapeCast_apply f h _ _ (by
    rw [Shape.rowMajor_val_five, Shape.rowMajor_val_four]
    show (((0 * 4 + a.val) * 2 + b.val) * 256 + x.val) * 64 + y.val = ((a.val * 2 + b.val) * 256 + x.val) * 64 + y.val
    omega)
theorem cast45 {α : Type} (f : S4x2x256x64.Idx → α) (h : S4x2x256x64.ShapeCasts S1x4x2x256x64) (z : Fin 1) (a : Fin 4) (b : Fin 2) (x : Fin 256) (y : Fin 64) :
    shapeCast S1x4x2x256x64 f h (ix5 (n0 := 1) z a b x y) = f (ix4 a b x y) :=
  shapeCast_apply f h _ _ (by
    rw [Shape.rowMajor_val_five, Shape.rowMajor_val_four]
    obtain rfl : z = 0 := Subsingleton.elim _ _
    show ((a.val * 2 + b.val) * 256 + x.val) * 64 + y.val = (((0 * 4 + a.val) * 2 + b.val) * 256 + x.val) * 64 + y.val
    omega)

theorem gathered_at (A : Dev nD → Vec F S32x2x256x64 .bf16) (c : Dev nD) (s : Fin 8) (a : Fin 4) (b : Fin 2) (x : Fin 256) (y : Fin 64) :
    gathered A c (ix5 (n0 := 8) (n1 := 4) (n2 := 2) (n3 := 256) (n4 := 64) s a b x y)
      = A s (ix4 (n0 := 32) (n1 := 2) (n2 := 256) (n3 := 64) ⟨4 * c.val + a.val, by have : c.val < 8 := c.isLt; omega⟩ b x y) := rfl

/-- Slot `c` of device `nx c i` is the block device `c` sends it. -/
theorem slot_read (A : Dev nD → Vec F S32x2x256x64 .bf16) (c : Dev nD) (i : Fin 7) :
    (slotOf kgM c).view.read (Elt F) (gathered A (nx c i)) = (srcOf kM c i).view.read (Elt F) (A c) := by
  funext w
  obtain ⟨a, b, x, y, rfl⟩ : ∃ (a : Fin 4) (b : Fin 2) (x : Fin 256) (y : Fin 64), w = ix4 (n0 := 4) (n1 := 2) (n2 := 256) (n3 := 64) a b x y := ⟨w 0, w 1, w 2, w 3, eq_ix4 w⟩
  have h1 := cast54 (kgM.view.readAt (Elt F) (Rect.unit (s := S8x4x2x256x64) (k0_off2 c) S1x4x2x256x64.size (k0_off2_inb c)).toLoadRect (gathered A (nx c i)))
    (by decide) a b x y
  refine Eq.trans h1 ?_
  show gathered A (nx c i) ((Rect.unit (s := S8x4x2x256x64) (k0_off2 c) S1x4x2x256x64.size (k0_off2_inb c)).toLoadRect.idx (ix5 (n0 := 1) 0 a b x y))
    = A c ((Rect.unit (s := S32x2x256x64) (k0_off3 c (BitVec.ofNat 32 (1 + i.val))) S4x2x256x64.size (k0_off3_inb c i)).toLoadRect.idx (ix4 (n0 := 4) a b x y))
  rw [idx5 _ _ c (off2_eq c), idx4 _ _ (nx c i) (off3_eq c i), gathered_at]

theorem own_read (A : Dev nD → Vec F S32x2x256x64 .bf16) (c : Dev nD) :
    kgM.view.readAt (Elt F) (rOwnSlot c).toLoadRect (gathered A c) = k0_pay1 (kM.view.readAt (Elt F) (rOwnSrc c).toLoadRect (A c)) := by
  funext w
  obtain ⟨z, a, b, x, y, rfl⟩ : ∃ (z : Fin 1) (a : Fin 4) (b : Fin 2) (x : Fin 256) (y : Fin 64), w = ix5 (n0 := 1) (n1 := 4) (n2 := 2) (n3 := 256) (n4 := 64) z a b x y :=
    ⟨w 0, w 1, w 2, w 3, w 4, eq_ix5 w⟩
  obtain rfl : z = 0 := Subsingleton.elim _ _
  unfold k0_pay1
  dsimp only
  rw [cast45, shapeCast_self]
  show gathered A c ((rOwnSlot c).toLoadRect.idx (ix5 (n0 := 1) 0 a b x y)) = A c ((rOwnSrc c).toLoadRect.idx (ix4 (n0 := 4) a b x y))
  rw [idx5 _ _ c (off5_eq c), idx4 _ _ c (off4_eq c), gathered_at]

theorem slot_readV (A : Dev nD → Vec F S32x2x256x64 .bf16) (c : Dev nD) (i : Fin 7) :
    (slotOf vgM c).view.read (Elt F) (gathered A (nx c i)) = (srcOf vM c i).view.read (Elt F) (A c) :=
  (show (slotOf vgM c).view.read (Elt F) (gathered A (nx c i)) = (slotOf kgM c).view.read (Elt F) (gathered A (nx c i)) from rfl).trans
    ((slot_read A c i).trans rfl)

theorem own_readV (A : Dev nD → Vec F S32x2x256x64 .bf16) (c : Dev nD) :
    vgM.view.readAt (Elt F) (rOwnSlot c).toLoadRect (gathered A c) = k0_pay2 (vM.view.readAt (Elt F) (rOwnSrc c).toLoadRect (A c)) :=
  (show vgM.view.readAt (Elt F) (rOwnSlot c).toLoadRect (gathered A c) = kgM.view.readAt (Elt F) (rOwnSlot c).toLoadRect (gathered A c) from rfl).trans
    ((own_read A c).trans rfl)

/-! ## The device's own slot -/

variable (I : Ins F) (c : Dev nD)

theorem run_own (Q : PUnit → sProp 𝕄) :
    iprop(pt c cc0_stg2_0 qL (I.k c) ∗ pt c cc0_stg3_0 qL (I.v c) ∗ onAny c (slotOf kgM c) ∗ onAny c (slotOf vgM c))
      ⊢ iprop(((pt c cc0_stg2_0 qL (I.k c) ∗ pt c cc0_stg3_0 qL (I.v c) ∗ on c (slotOf kgM c) fullShare (kgv I c) ∗ on c (slotOf vgM c) fullShare (vgv I c)) -∗ Q ⟨⟩)
          -∗ W c (ownKV c) Q) := by
  have hs : (rOwnSlot c).set ⊆ (slotOf kgM c).view.set := by rw [ownSlot_set, slotK_set]
  have hK : ∀ (f : kgM.view.ty.Contents (Elt F)) (A : Dev nD → Vec F S32x2x256x64 .bf16), ∀ j ∈ (slotOf kgM c).view.set,
      ((kgM.access (rOwnSlot c)).write (Elt F) f (k0_pay1 (kM.view.readAt (Elt F) (rOwnSrc c).toLoadRect (A c))) Finset.univ) j = gathered A c j := fun f A j hj =>
    write_agree cc0_scratch1 (rOwnSlot c) f (gathered A c) _ (fun _ => False) (fun j => j ∈ (rOwnSlot c).set) (fun _ h => h.elim) (own_read A c)
      (fun _ h => .inr h) j (by rw [ownSlot_set, ← slotK_set]; exact hj)
  have hV : ∀ (f : vgM.view.ty.Contents (Elt F)) (A : Dev nD → Vec F S32x2x256x64 .bf16), ∀ j ∈ (slotOf vgM c).view.set,
      ((vgM.access (rOwnSlot c)).write (Elt F) f (k0_pay2 (vM.view.readAt (Elt F) (rOwnSrc c).toLoadRect (A c))) Finset.univ) j = gathered A c j := fun f A j hj =>
    write_agree cc0_scratch2 (rOwnSlot c) f (gathered A c) _ (fun _ => False) (fun j => j ∈ (rOwnSlot c).set) (fun _ h => h.elim) (own_readV A c)
      (fun _ h => .inr h) j (by rw [ownSlot_set, ← slotV_set]; exact hj)
  have hs' : (rOwnSlot c).set ⊆ (slotOf vgM c).view.set := by rw [ownSlot_set, slotV_set]
  unfold ownKV
  simp only [Prog.lift, Prog.bind_op, Prog.bind_ret, Prog.pure_eq_ret]
  iintro ⟨Hk, Hv, ⟨%f, Hkg⟩, ⟨%g, Hvg⟩⟩ HQ
  iapply (wp_load 𝒱₀ (c : Thread nD τ) none Set.univ (m := kM) (q := qL) (f := I.k c) (Finset.subset_univ _)) $$ Hk
  iintro Hk
  iapply (wp_load 𝒱₀ (c : Thread nD τ) none Set.univ (m := kgM) (q := fullShare) (f := f) (S := (slotOf kgM c).view.set) (by rw [whole_setOn]; exact hs)) $$ Hkg
  iintro Hkg
  iapply (wp_store 𝒱₀ (c : Thread nD τ) none Set.univ (m := kgM) (r := rOwnSlot c) (f := f) (S := (slotOf kgM c).view.set) (by rw [View.setOn_univ]; exact (View.set_slice_whole cc0_scratch1 _).le.trans hs)) $$ Hkg
  iintro Hkg
  iapply (wp_load 𝒱₀ (c : Thread nD τ) none Set.univ (m := vM) (q := qL) (f := I.v c) (Finset.subset_univ _)) $$ Hv
  iintro Hv
  iapply (wp_load 𝒱₀ (c : Thread nD τ) none Set.univ (m := vgM) (q := fullShare) (f := g) (S := (slotOf vgM c).view.set) (by rw [whole_setOn]; exact hs')) $$ Hvg
  iintro Hvg
  iapply (wp_store 𝒱₀ (c : Thread nD τ) none Set.univ (m := vgM) (r := rOwnSlot c) (f := g) (S := (slotOf vgM c).view.set) (by rw [View.setOn_univ]; exact (View.set_slice_whole cc0_scratch2 _).le.trans hs')) $$ Hvg
  iintro Hvg
  rw [wp_ret]
  imodintro
  iapply HQ
  isplitl [Hk]; · iexact Hk
  isplitl [Hv]; · iexact Hv
  isplitl [Hkg]
  · iapply (Entails.of_eq (pointsTo_congr (hK f I.k))); iexact Hkg
  · iapply (Entails.of_eq (pointsTo_congr (hV g I.v))); iexact Hvg

/-! ## The blocks of the sums -/

/-- The rows from `o` on, `n` of them. -/
def rows (o n : ℕ) : Finset S2x256x512.Idx := Finset.univ.filter fun j => o ≤ (j (1 : Fin 3)).val ∧ (j (1 : Fin 3)).val < o + n

theorem mem_rows (o n : ℕ) (j : S2x256x512.Idx) : j ∈ rows o n ↔ o ≤ (j (1 : Fin 3)).val ∧ (j (1 : Fin 3)).val < o + n := by unfold rows; simp

theorem set_rows (o : Fin 3 → ℕ) (z : Fin 3 → ℕ) (h : ∀ a, o a + z a ≤ S2x256x512.size a) (r n : ℕ) (ho : o = ![0, r, 0]) (hz : z = ![2, n, 512]) :
    (Rect.unit (s := S2x256x512) o z h).set = rows r n := by
  subst ho hz
  ext j
  rw [Rect.mem_set_unit, mem_rows]
  have h0 : (j (0 : Fin 3)).val < 2 := (j (0 : Fin 3)).isLt
  have h2 : (j (2 : Fin 3)).val < 512 := (j (2 : Fin 3)).isLt
  constructor
  · intro H; simpa using H 1
  · intro H a
    fin_cases a <;> simp <;> omega

/-- The first row a device keeps in each round, and the first it sends. -/
def lo0 (c : Dev nD) : ℕ := 128 * (c.val % 2)
def lo1 (c : Dev nD) : ℕ := lo0 c + 64 * (c.val / 2 % 2)
def lo2 (c : Dev nD) : ℕ := lo1 c + 32 * (c.val / 4 % 2)

theorem off10_eq (c : Dev nD) : k0_off10 c = ![0, lo0 c, 0] := by revert c; decide
theorem off17_eq (c : Dev nD) : k0_off17 c = ![0, lo0 c, 0] := by revert c; decide
theorem off9_eq (c : Dev nD) : k0_off9 c = ![0, lo0 (px 0 c), 0] := by revert c; decide
theorem off12_eq (c : Dev nD) : k0_off12 c = ![0, lo1 c, 0] := by revert c; decide
theorem off16_eq (c : Dev nD) : k0_off16 c = ![0, lo1 c, 0] := by revert c; decide
theorem off11_eq (c : Dev nD) : k0_off11 c = ![0, lo1 (px 1 c), 0] := by revert c; decide
theorem off14_eq (c : Dev nD) : k0_off14 c = ![0, lo2 c, 0] := by revert c; decide
theorem off15_eq (c : Dev nD) : k0_off15 c = ![0, lo2 c, 0] := by revert c; decide
theorem off13_eq (c : Dev nD) : k0_off13 c = ![0, lo2 (px 2 c), 0] := by revert c; decide

theorem size0 : S2x128x512.size = ![2, 128, 512] := rfl
theorem size1 : S2x64x512.size = ![2, 64, 512] := rfl
theorem size2 : S2x32x512.size = ![2, 32, 512] := rfl

theorem accS0_set (c : Dev nD) : (accS0 c).view.set = rows (lo0 (px 0 c)) 128 :=
  (View.set_slice_whole cc0_scratch5 _).trans (set_rows _ _ _ _ _ (off9_eq c) size0)
theorem accS1_set (c : Dev nD) : (accS1 c).view.set = rows (lo1 (px 1 c)) 64 :=
  (View.set_slice_whole cc0_scratch5 _).trans (set_rows _ _ _ _ _ (off11_eq c) size1)
theorem accS2_set (c : Dev nD) : (accS2 c).view.set = rows (lo2 (px 2 c)) 32 :=
  (View.set_slice_whole cc0_scratch5 _).trans (set_rows _ _ _ _ _ (off13_eq c) size2)
theorem gat2_set (c : Dev nD) : (gat2 c).view.set = rows (lo0 c) 128 :=
  (View.set_slice_whole cc0_scratch5 _).trans (set_rows _ _ _ _ _ (off17_eq c) size0)
theorem gat1_set (c : Dev nD) : (gat1 c).view.set = rows (lo1 c) 64 :=
  (View.set_slice_whole cc0_scratch5 _).trans (set_rows _ _ _ _ _ (off16_eq c) size1)
theorem gat0_set (c : Dev nD) : (gat0 c).view.set = rows (lo2 c) 32 :=
  (View.set_slice_whole cc0_scratch5 _).trans (set_rows _ _ _ _ _ (off15_eq c) size2)
theorem keep0_set (c : Dev nD) : (rKeep0 c).set = rows (lo0 c) 128 := set_rows _ _ _ _ _ (off10_eq c) size0
theorem keep1_set (c : Dev nD) : (rKeep1 c).set = rows (lo1 c) 64 := set_rows _ _ _ _ _ (off12_eq c) size1
theorem keep2_set (c : Dev nD) : (rKeep2 c).set = rows (lo2 c) 32 := set_rows _ _ _ _ _ (off14_eq c) size2

theorem lo0_px (c : Dev nD) : (lo0 c = 0 ∧ lo0 (px 0 c) = 128) ∨ (lo0 c = 128 ∧ lo0 (px 0 c) = 0) := by revert c; decide
theorem lo1_px (c : Dev nD) : (lo1 c = lo0 c ∧ lo1 (px 1 c) = lo0 c + 64) ∨ (lo1 c = lo0 c + 64 ∧ lo1 (px 1 c) = lo0 c) := by revert c; decide
theorem lo2_px (c : Dev nD) : (lo2 c = lo1 c ∧ lo2 (px 2 c) = lo1 c + 32) ∨ (lo2 c = lo1 c + 32 ∧ lo2 (px 2 c) = lo1 c) := by revert c; decide

theorem rows_disj (o o' n : ℕ) (h : o + n ≤ o' ∨ o' + n ≤ o) : Disjoint (rows o n) (rows o' n) := by
  rw [Finset.disjoint_left]
  intro j h1 h2
  rw [mem_rows] at h1 h2
  omega
theorem disj0 (c : Dev nD) : Disjoint (rows (lo0 c) 128) (rows (lo0 (px 0 c)) 128) := rows_disj _ _ _ (by have := lo0_px c; omega)
theorem disj1 (c : Dev nD) : Disjoint (rows (lo1 c) 64) (rows (lo1 (px 1 c)) 64) := rows_disj _ _ _ (by have := lo1_px c; omega)
theorem disj2 (c : Dev nD) : Disjoint (rows (lo2 c) 32) (rows (lo2 (px 2 c)) 32) := rows_disj _ _ _ (by have := lo2_px c; omega)
theorem union0 (c : Dev nD) : rows (lo0 c) 128 ∪ rows (lo0 (px 0 c)) 128 = Finset.univ := by
  ext j
  have h1 : (j (1 : Fin 3)).val < 256 := (j (1 : Fin 3)).isLt
  simp only [Finset.mem_union, mem_rows, Finset.mem_univ, iff_true]
  have := lo0_px c; omega
theorem union1 (c : Dev nD) : rows (lo1 c) 64 ∪ rows (lo1 (px 1 c)) 64 = rows (lo0 c) 128 := by
  ext j
  simp only [Finset.mem_union, mem_rows]
  have := lo1_px c; omega
theorem union2 (c : Dev nD) : rows (lo2 c) 32 ∪ rows (lo2 (px 2 c)) 32 = rows (lo1 c) 64 := by
  ext j
  simp only [Finset.mem_union, mem_rows]
  have := lo2_px c; omega

/-! ## A sum -/

theorem readAt_off (o o' z : Fin 3 → ℕ) (h : ∀ a, o a + z a ≤ S2x256x512.size a) (h' : ∀ a, o' a + z a ≤ S2x256x512.size a) (e : o = o') (f : Vec F S2x256x512 .bf16) :
    accM.view.readAt (Elt F) (Rect.unit (s := S2x256x512) o z h).toLoadRect f = accM.view.readAt (Elt F) (Rect.unit (s := S2x256x512) o' z h').toLoadRect f := by
  subst e; rfl

theorem add_val0 (f : Vec F S3x2x128x512 .bf16) (h : land0.view.read (Elt F) f = (accS0 (px 0 c)).view.read (Elt F) (A0 I (px 0 c))) :
    accM.view.readAt (Elt F) (rKeep0 c).toLoadRect (A1 I c)
      = k0_pay198 (accM.view.readAt (Elt F) (rKeep0 c).toLoadRect (A0 I c)) (stM.view.readAt (Elt F) rSt0.toLoadRect f) := by
  unfold k0_pay198
  dsimp only
  rw [shapeCast_self, show shapeCast S2x128x512 (stM.view.readAt (Elt F) rSt0.toLoadRect f) shapeCasts_S1x2x128x512_S2x128x512 = land0.view.read (Elt F) f from rfl, h,
    show (accS0 (px 0 c)).view.read (Elt F) (A0 I (px 0 c)) = accM.view.readAt (Elt F) (rKeep0 c).toLoadRect (A0 I (px 0 c)) from
      readAt_off _ _ _ _ _ ((off9_eq _).trans (by rw [px_px, off10_eq])) _]
  rfl
theorem add_val1 (f : Vec F S3x2x128x512 .bf16) (h : land1.view.read (Elt F) f = (accS1 (px 1 c)).view.read (Elt F) (A1 I (px 1 c))) :
    accM.view.readAt (Elt F) (rKeep1 c).toLoadRect (A2 I c)
      = k0_pay199 (accM.view.readAt (Elt F) (rKeep1 c).toLoadRect (A1 I c)) (stM.view.readAt (Elt F) rSt1.toLoadRect f) := by
  unfold k0_pay199
  dsimp only
  rw [shapeCast_self, show shapeCast S2x64x512 (stM.view.readAt (Elt F) rSt1.toLoadRect f) shapeCasts_S1x2x64x512_S2x64x512 = land1.view.read (Elt F) f from rfl, h,
    show (accS1 (px 1 c)).view.read (Elt F) (A1 I (px 1 c)) = accM.view.readAt (Elt F) (rKeep1 c).toLoadRect (A1 I (px 1 c)) from
      readAt_off _ _ _ _ _ ((off11_eq _).trans (by rw [px_px, off12_eq])) _]
  rfl
theorem add_val2 (f : Vec F S3x2x128x512 .bf16) (h : land2.view.read (Elt F) f = (accS2 (px 2 c)).view.read (Elt F) (A2 I (px 2 c))) :
    accM.view.readAt (Elt F) (rKeep2 c).toLoadRect (A3 I c)
      = k0_pay200 (accM.view.readAt (Elt F) (rKeep2 c).toLoadRect (A2 I c)) (stM.view.readAt (Elt F) rSt2.toLoadRect f) := by
  unfold k0_pay200
  dsimp only
  rw [shapeCast_self, show shapeCast S2x32x512 (stM.view.readAt (Elt F) rSt2.toLoadRect f) shapeCasts_S1x2x32x512_S2x32x512 = land2.view.read (Elt F) f from rfl, h,
    show (accS2 (px 2 c)).view.read (Elt F) (A2 I (px 2 c)) = accM.view.readAt (Elt F) (rKeep2 c).toLoadRect (A2 I (px 2 c)) from
      readAt_off _ _ _ _ _ ((off13_eq _).trans (by rw [px_px, off14_eq])) _]
  rfl

/-- The sum of a block and what landed, put back in place. -/
theorem run_add (rk : Rect S2x256x512) (rs : Rect S3x2x128x512) (S : Finset S2x256x512.Idx) (T : Finset S3x2x128x512.Idx) (hS : rk.set = S) (hT : rs.set ⊆ T)
    (pay : Vec F rk.shape .bf16 → Vec F rs.shape .bf16 → Vec F rk.shape .bf16) (A A' : Vec F S2x256x512 .bf16) (f : Vec F S3x2x128x512 .bf16)
    (hA : accM.view.readAt (Elt F) rk.toLoadRect A' = pay (accM.view.readAt (Elt F) rk.toLoadRect A) (stM.view.readAt (Elt F) rs.toLoadRect f))
    (hl hl' hx hm) (hl'' : accM.view.LoadsAt rk.toLoadRect) (Q : PUnit → sProp 𝕄) :
    iprop((accM.view.loc (c : Thread nD τ) ↦[S]{fullShare} A) ∗ stM.view.loc (c : Thread nD τ) ↦[T]{fullShare} f)
      ⊢ iprop((((accM.view.loc (c : Thread nD τ) ↦[S]{fullShare} A') ∗ stM.view.loc (c : Thread nD τ) ↦[T]{fullShare} f) -∗ Q ⟨⟩)
          -∗ W c (.op (.load accM rk.toLoadRect hl) fun a => .op (.load stM rs.toLoadRect hl') fun t => .op (.load accM rk.toLoadRect hl'') fun _ =>
              .op (.store accM rk (pay a t) Finset.univ hx hm) .ret) Q) := by
  iintro ⟨Ha, Ht⟩ HQ
  iapply (wp_load 𝒱₀ (c : Thread nD τ) none Set.univ (m := accM) (q := fullShare) (f := A) (S := S) (by rw [whole_setOn]; exact hS.le)) $$ Ha
  iintro Ha
  iapply (wp_load 𝒱₀ (c : Thread nD τ) none Set.univ (m := stM) (q := fullShare) (f := f) (S := T) (by rw [whole_setOn]; exact hT)) $$ Ht
  iintro Ht
  iapply (wp_load 𝒱₀ (c : Thread nD τ) none Set.univ (m := accM) (q := fullShare) (f := A) (S := S) (by rw [whole_setOn]; exact hS.le)) $$ Ha
  iintro Ha
  iapply (wp_store 𝒱₀ (c : Thread nD τ) none Set.univ (m := accM) (r := rk) (f := A) (S := S) (by rw [View.setOn_univ]; exact (View.set_slice_whole cc0_scratch5 _).le.trans hS.le)) $$ Ha
  iintro Ha
  rw [wp_ret]
  imodintro
  iapply HQ
  isplitl [Ha]
  · iapply (Entails.of_eq (pointsTo_congr (fun j hj => write_agree cc0_scratch5 rk A A' _ (fun _ => False) (fun j => j ∈ rk.set) (fun _ h => h.elim) hA
      (fun _ h => .inr h) j (hS ▸ hj))))
    iexact Ha
  iexact Ht

end Cert.KernelIdeal.Run

end
-- ==== Proof.Talk.lean ====
/-
The loops of the body that talk, and the six exchanges, each run from what the device holds before to what it holds after.
-/
module

public import proofs.«01_k».proof.Proof.Blocks

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Ins F) (K : GSem nD τ sig → ℕ) (c : Dev nD)

/-! ## Who pays, at the cells the loops use -/

theorem duty_s (a : Fin 6) (ha : a = 0 ∨ a = 2) (i : Fin 7) : duty c (some (a, sucI i)) = {c} := by
  rcases ha with rfl | rfl <;> revert c i <;> decide
theorem duty_r (a : Fin 6) (ha : a = 1 ∨ a = 3) (i : Fin 7) : duty (nx c i) (some (a, c)) = {c} := by
  rcases ha with rfl | rfl <;> revert c i <;> decide
theorem duty_p (a : Fin 6) (ha : a = 1 ∨ a = 3) (i : Fin 7) : duty c (some (a, pv c i)) = {pv c i} := by
  rcases ha with rfl | rfl <;> revert c i <;> decide
theorem duty_x4 (i : Fin 6) : duty c (some (4, xs i)) = {c} := by revert c i; decide
theorem duty_x5 (i : Fin 6) : duty c (some (5, xs i)) = {px (xr i) c} := by revert c i; decide
theorem duty_x5' (i : Fin 6) : c ∈ duty (px (xr i) c) (some (5, xs i)) := by revert c i; decide

theorem x_above5 : ∀ i j : Fin 6, i.val + 1 ≤ j.val → lvC (some (5, xs i)) < lvC (some (5, xs j)) := by decide
theorem x_above4 : ∀ i j : Fin 6, i.val + 1 ≤ j.val → lvC (some (4, xs i)) < lvC (some (5, xs j)) := by decide
theorem pay_k (i : Fin 7) : pay I c c (some (0, sucI i)) = on c (srcOf kM c i) qH (I.k c) := by
  show on c (srcOf kM c (predI (sucI i))) qH (I.k c) = _
  rw [predI_sucI]
theorem pay_v (i : Fin 7) : pay I c c (some (2, sucI i)) = on c (srcOf vM c i) qH (I.v c) := by
  show on c (srcOf vM c (predI (sucI i))) qH (I.v c) = _
  rw [predI_sucI]

/-! ## What every step may use -/

/-- Every cell's record, the levels, and that every barrier cell and every cell of the device's own is open. -/
def env : sProp 𝕄 :=
  iprop(allInv I K ∗ levAts L lv ∗ (bigSep Finset.univ fun p : Dev nD => reached ER (barC p) 0) ∗ reachedAll c)

instance env_persistent : Persistent (env I K c) := by unfold env; infer_instance

theorem barReached_at (p : Dev nD) : (bigSep Finset.univ fun p : Dev nD => reached ER (barC p) 0 : sProp 𝕄) ⊢ reached ER (barC p) 0 :=
  bigSep_elim (Finset.mem_univ p)

/-- Every other device's cells are open. -/
def peers : sProp 𝕄 := bigSep (Finset.univ.erase c) fun p : Dev nD => reachedAll (F := F) p

instance peers_persistent : Persistent (peers (F := F) c) := by unfold peers; infer_instance

theorem peers_at (p : Dev nD) (hp : p ≠ c) (a : Fin 6) (s : Fin 8) : peers (F := F) c ⊢ reached ER (cellD p a s) 0 := by
  unfold peers
  exact (bigSep_elim (i := p) (Finset.mem_erase.2 ⟨hp, Finset.mem_univ _⟩)).trans (reached_at p a s)

/-! ## The signals -/

def sigU (i : Fin 7) : sProp 𝕄 := iprop(dutyTok ER (barC (nx c i)) 0 c ∗ barPay (nx c i) c)

def invSig (R : CellTallies nD τ sig Unit) (n : ℕ) : sProp 𝕄 :=
  iprop(env I K c ∗ fam (fun _ => iprop(emp)) (sigU (F := F) c) n ∗ owesE c (tail (tBar c) n + R))

theorem step_signal (R : CellTallies nD τ sig Unit) (i : Fin 7) (Q : PUnit → sProp 𝕄) :
    invSig I K c R i.val ⊢ iprop((invSig I K c R (i.val + 1) -∗ Q ⟨⟩) -∗ W c (signalP c i) Q) := by
  unfold invSig
  rw [tail_step, add_assoc]
  iintro ⟨#He, Hf, HO⟩ Hk
  ihave Hf := (fam_step _ _ i) $$ Hf
  icases Hf with ⟨Hu, Hf⟩
  unfold sigU
  icases Hu with ⟨Ht, Hp⟩
  iapply (run_signal I K c i (tail (tBar c) (i.val + 1) + R) Q) $$ [HO Ht Hp]
  · unfold env
    icases He with ⟨HI, -, Hb, -⟩
    isplitr; · iexact HI
    isplitl [HO]; · iexact HO
    isplitl [Ht]; · iexact Ht
    isplitl [Hp]; · iexact Hp
    iapply (barReached_at (nx c i)); iexact Hb
  iintro HO
  iapply Hk
  isplitr; · iexact He
  isplitr [HO]
  · iapply Hf; iempintro
  iexact HO

/-! ## The key and value blocks out -/

def kvU (i : Fin 7) : sProp 𝕄 :=
  iprop(on c (srcOf kM c i) qH (I.k c) ∗ on c (srcOf vM c i) qH (I.v c) ∗ onAny (nx c i) (slotOf kgM c) ∗ onAny (nx c i) (slotOf vgM c)
    ∗ tokD c c 0 (sucI i) ∗ tokD c c 2 (sucI i) ∗ tokD c (nx c i) 1 c ∗ tokD c (nx c i) 3 c)
def kvD (i : Fin 7) : sProp 𝕄 := iprop(credD c 0 (sucI i) NK ∗ credD c 2 (sucI i) NK)

def invKV (R : CellTallies nD τ sig Unit) (n : ℕ) : sProp 𝕄 :=
  iprop(env I K c ∗ peers c ∗ fam (kvD (F := F) c) (kvU I c) n ∗ owesE c (tail (tKV c) n + R))

theorem step_kv (R : CellTallies nD τ sig Unit) (i : Fin 7) (Q : PUnit → sProp 𝕄) :
    invKV I K c R i.val ⊢ iprop((invKV I K c R (i.val + 1) -∗ Q ⟨⟩) -∗ W c (sendKV c i) Q) := by
  unfold invKV sendKV
  rw [tail_step]
  simp only [tKV, add_assoc]
  rw [W_bind]
  iintro ⟨#He, #Hp, Hf, HO⟩ Hk
  ihave Hf := (fam_step _ _ i) $$ Hf
  icases Hf with ⟨Hu, Hf⟩
  unfold kvU
  icases Hu with ⟨Hsk, Hsv, ⟨%fk, Hdk⟩, ⟨%fv, Hdv⟩, Htk, Htv, Htk', Htv'⟩
  iapply (run_send I K c (nx c i) (devK c i) (devK_eq c i) (srcOf kM c i) (slotOf kgM c) 0 1 (sucI i) c _ _ (sem7 (sucI i)) (sem8 c) (srcK_we c i) (slotK_we c)
    (by rw [duty_s c 0 (.inl rfl)]; exact Finset.mem_singleton_self _) (by rw [duty_r c 1 (.inl rfl)]; exact Finset.mem_singleton_self _)
    NK rfl rfl rfl qH (I.k c) fk _
    (Entails.of_eq (pay_k I c i).symm) (by rw [on_write (nx c i) (slotOf kgM c) fullShare fk (kgv I (nx c i)) _ (slot_read I.k c i)]; exact .refl) _)
    $$ [Hsk Hdk HO Htk Htk']
  · isplitr; · unfold env; icases He with ⟨HI, -⟩; iexact HI
    isplitl [Hsk]; · iexact Hsk
    isplitl [Hdk]; · iexact Hdk
    isplitl [HO]; · iexact HO
    isplitl [Htk]; · iexact Htk
    isplitr; · unfold env; icases He with ⟨-, -, -, Ho⟩; iapply (reached_at c 0 (sucI i)); iexact Ho
    isplitl [Htk']; · iexact Htk'
    iapply (peers_at c (nx c i) (nx_ne c i) 1 c); iexact Hp
  iintro ⟨Hck, HO⟩
  iapply (run_send I K c (nx c i) (devV c i) (devV_eq c i) (srcOf vM c i) (slotOf vgM c) 2 3 (sucI i) c _ _ (sem9 (sucI i)) (sem10 c) (srcV_we c i) (slotV_we c)
    (by rw [duty_s c 2 (.inr rfl)]; exact Finset.mem_singleton_self _) (by rw [duty_r c 3 (.inr rfl)]; exact Finset.mem_singleton_self _)
    NK rfl rfl rfl qH (I.v c) fv _
    (Entails.of_eq (pay_v I c i).symm) (by rw [on_write (nx c i) (slotOf vgM c) fullShare fv (vgv I (nx c i)) _ (slot_readV I.v c i)]; exact .refl) _)
    $$ [Hsv Hdv HO Htv Htv']
  · isplitr; · unfold env; icases He with ⟨HI, -⟩; iexact HI
    isplitl [Hsv]; · iexact Hsv
    isplitl [Hdv]; · iexact Hdv
    isplitl [HO]; · iexact HO
    isplitl [Htv]; · iexact Htv
    isplitr; · unfold env; icases He with ⟨-, -, -, Ho⟩; iapply (reached_at c 2 (sucI i)); iexact Ho
    isplitl [Htv']; · iexact Htv'
    iapply (peers_at c (nx c i) (nx_ne c i) 3 c); iexact Hp
  iintro ⟨Hcv, HO⟩
  iapply Hk
  isplitr; · iexact He
  isplitr; · iexact Hp
  isplitr [HO]
  · iapply Hf
    unfold kvD
    isplitl [Hck]; · iexact Hck
    iexact Hcv
  iexact HO

/-! ## The key and value blocks in -/

def recvU (i : Fin 7) : sProp 𝕄 := iprop(credD c 1 (pv c i) NK ∗ credD c 3 (pv c i) NK ∗ posD c 1 (pv c i) 0 ∗ posD c 3 (pv c i) 0)
def recvD (i : Fin 7) : sProp 𝕄 :=
  iprop(posD c 1 (pv c i) 1 ∗ posD c 3 (pv c i) 1 ∗ on c (slotOf kgM (pv c i)) fullShare (kgv I c) ∗ on c (slotOf vgM (pv c i)) fullShare (vgv I c))

def invRecv (O : CellTallies nD τ sig Unit) (n : ℕ) : sProp 𝕄 := iprop(env I K c ∗ fam (recvD I c) (recvU (F := F) c) n ∗ owesE c O)

theorem step_recv (O : CellTallies nD τ sig Unit) (hO : Above 2 O) (i : Fin 7) (Q : PUnit → sProp 𝕄) :
    invRecv I K c O i.val ⊢ iprop((invRecv I K c O (i.val + 1) -∗ Q ⟨⟩) -∗ W c (recvKV c i) Q) := by
  unfold invRecv recvKV
  rw [W_bind]
  iintro ⟨#He, Hf, HO⟩ Hk
  ihave Hf := (fam_step _ _ i) $$ Hf
  icases Hf with ⟨Hu, Hf⟩
  unfold recvU
  icases Hu with ⟨Hck, Hcv, Hpk, Hpv⟩
  iapply (run_wait I K c _ 1 (pv c i) (sem8' c i) (inSrcOf kM c i) (inSlotOf kgM c i) (inSrcK_we c i) (inSlotK_we c i) NK (pv c i) rfl rfl
    (duty_p c 1 (.inl rfl) i) O (.inr hO) _) $$ [Hck HO Hpk]
  · unfold env; icases He with ⟨HI, Hl, -, -⟩
    isplitr; · iexact HI
    isplitr; · iexact Hl
    isplitl [Hck]; · iexact Hck
    isplitl [HO]; · iexact HO
    iexact Hpk
  iintro ⟨HO, Hpk, Hk1⟩
  iapply (run_wait I K c _ 3 (pv c i) (sem10' c i) (inSrcOf vM c i) (inSlotOf vgM c i) (inSrcV_we c i) (inSlotV_we c i) NK (pv c i) rfl rfl
    (duty_p c 3 (.inr rfl) i) O (.inr hO) _) $$ [Hcv HO Hpv]
  · unfold env; icases He with ⟨HI, Hl, -, -⟩
    isplitr; · iexact HI
    isplitr; · iexact Hl
    isplitl [Hcv]; · iexact Hcv
    isplitl [HO]; · iexact HO
    iexact Hpv
  iintro ⟨HO, Hpv, Hv1⟩
  iapply Hk
  isplitr; · iexact He
  isplitr [HO]
  · iapply Hf
    unfold recvD
    isplitl [Hpk]; · iexact Hpk
    isplitl [Hpv]; · iexact Hpv
    isplitl [Hk1]
    · iapply (show pay I c (pv c i) (some (1, pv c i)) ⊢ on c (slotOf kgM (pv c i)) fullShare (kgv I c) from .refl); iexact Hk1
    · iapply (show pay I c (pv c i) (some (3, pv c i)) ⊢ on c (slotOf vgM (pv c i)) fullShare (vgv I c) from .refl); iexact Hv1
  iexact HO

/-! ## The sends' ends -/

def drainU (i : Fin 7) : sProp 𝕄 := iprop(credD c 0 (sucI i) NK ∗ credD c 2 (sucI i) NK ∗ posD c 0 (sucI i) 0 ∗ posD c 2 (sucI i) 0)
def drainD (i : Fin 7) : sProp 𝕄 :=
  iprop(posD c 0 (sucI i) 1 ∗ posD c 2 (sucI i) 1 ∗ on c (srcOf kM c i) qH (I.k c) ∗ on c (srcOf vM c i) qH (I.v c))

def invDrain (n : ℕ) : sProp 𝕄 := iprop(env I K c ∗ fam (drainD I c) (drainU (F := F) c) n ∗ owesE c 0)

theorem step_drain (i : Fin 7) (Q : PUnit → sProp 𝕄) :
    invDrain I K c i.val ⊢ iprop((invDrain I K c (i.val + 1) -∗ Q ⟨⟩) -∗ W c (drainKV c i) Q) := by
  unfold invDrain drainKV
  rw [W_bind]
  iintro ⟨#He, Hf, HO⟩ Hk
  ihave Hf := (fam_step _ _ i) $$ Hf
  icases Hf with ⟨Hu, Hf⟩
  unfold drainU
  icases Hu with ⟨Hck, Hcv, Hpk, Hpv⟩
  iapply (run_wait I K c _ 0 (sucI i) (sem7 (sucI i)) (slotOf kgM c) (srcOf kM c i) (slotK_we c) (srcK_we c i) NK c rfl rfl
    (duty_s c 0 (.inl rfl) i) 0 (.inl rfl) _) $$ [Hck HO Hpk]
  · unfold env; icases He with ⟨HI, Hl, -, -⟩
    isplitr; · iexact HI
    isplitr; · iexact Hl
    isplitl [Hck]; · iexact Hck
    isplitl [HO]; · iexact HO
    iexact Hpk
  iintro ⟨HO, Hpk, Hk1⟩
  iapply (run_wait I K c _ 2 (sucI i) (sem9 (sucI i)) (slotOf vgM c) (srcOf vM c i) (slotV_we c) (srcV_we c i) NK c rfl rfl
    (duty_s c 2 (.inr rfl) i) 0 (.inl rfl) _) $$ [Hcv HO Hpv]
  · unfold env; icases He with ⟨HI, Hl, -, -⟩
    isplitr; · iexact HI
    isplitr; · iexact Hl
    isplitl [Hcv]; · iexact Hcv
    isplitl [HO]; · iexact HO
    iexact Hpv
  iintro ⟨HO, Hpv, Hv1⟩
  iapply Hk
  isplitr; · iexact He
  isplitr [HO]
  · iapply Hf
    unfold drainD
    isplitl [Hpk]; · iexact Hpk
    isplitl [Hpv]; · iexact Hpv
    isplitl [Hk1]
    · iapply (Entails.of_eq (pay_k I c i)); iexact Hk1
    · iapply (Entails.of_eq (pay_v I c i)); iexact Hv1
  iexact HO

/-! ## The exchanges -/

def xU (i : Fin 6) : sProp 𝕄 :=
  iprop(tokD c c 4 (xs i) ∗ tokD c (px (xr i) c) 5 (xs i) ∗ credD c 5 (xs i) (NO (xs i)) ∗ posD c 4 (xs i) 0 ∗ posD c 5 (xs i) 0)
def xD (i : Fin 6) : sProp 𝕄 := iprop(posD c 4 (xs i) 1 ∗ posD c 5 (xs i) 1)

/-- The exchanges before the `n`-th done. -/
def invX (n : ℕ) : sProp 𝕄 := iprop(env I K c ∗ peers c ∗ fam (xD (F := F) c) (xU c) n ∗ owesE c (tail (tX c) n))

theorem px_ne (r : Fin 3) (c : Dev nD) : px r c ≠ c := by revert r c; decide

/-- An exchange by a rule for its send. -/
theorem step_x (i : Fin 6) {s : Shape} (dst : Dev nD) (src land : Memref sig .tc .vmem s .bf16) (sS sR : DmaSem sig)
    (hS : sS = dsem 4 (xs i)) (hR : sR = dsem 5 (xs i)) (h₁ : src.view.WordExact) (h₂ : land.view.WordExact)
    (hN : land.view.dmaCredit = NO (xs i)) (hN' : src.view.dmaCredit = NO (xs i)) (X : sProp 𝕄)
    (hsend : ∀ Q : PUnit → sProp 𝕄,
      iprop(allInv I K ∗ X ∗ owesE c (tallyAt (cellD (px (xr i) c) 5 (xs i)) () (NO (xs i)) + tail (tX c) (i.val + 1)) ∗ tokD c c 4 (xs i) ∗ reached ER (cellD c 4 (xs i)) 0
          ∗ tokD c (px (xr i) c) 5 (xs i) ∗ reached ER (cellD (px (xr i) c) 5 (xs i)) 0)
        ⊢ iprop(((credD c 4 (xs i) (NO (xs i)) ∗ owesE c (tail (tX c) (i.val + 1))) -∗ Q ⟨⟩) -∗ W c (sendP dst src land sS sR h₁ h₂) Q))
    (Y : sProp 𝕄) (hY : iprop(pay I c c (some (4, xs i)) ∗ pay I c (px (xr i) c) (some (5, xs i))) ⊢ Y)
    (Q : PUnit → sProp 𝕄) :
    iprop(invX I K c i.val ∗ X)
      ⊢ iprop(((invX I K c (i.val + 1) ∗ Y) -∗ Q ⟨⟩)
          -∗ W c (exchP dst src land sS sR h₁ h₂) Q) := by
  unfold invX exchP
  rw [tail_step]
  simp only [tX]
  rw [W_bind]
  iintro ⟨⟨#He, #Hp, Hf, HO⟩, HX⟩ Hk
  ihave Hf := (fam_step _ _ i) $$ Hf
  icases Hf with ⟨Hu, Hf⟩
  unfold xU
  icases Hu with ⟨Ht, Ht', Hc, Hp4, Hp5⟩
  iapply (hsend _) $$ [HX HO Ht Ht']
  · isplitr; · unfold env; icases He with ⟨HI, -⟩; iexact HI
    isplitl [HX]; · iexact HX
    isplitl [HO]; · iexact HO
    isplitl [Ht]; · iexact Ht
    isplitr; · unfold env; icases He with ⟨-, -, -, Ho⟩; iapply (reached_at c 4 (xs i)); iexact Ho
    isplitl [Ht']; · iexact Ht'
    iapply (peers_at c (px (xr i) c) (px_ne (xr i) c) 5 (xs i)); iexact Hp
  iintro ⟨Hc4, HO⟩
  rw [W_bind]
  have hab : Above (lvC (some (5, xs i))) (tail (tX c) (i.val + 1)) := above_X c _ _ (x_above5 i)
  have hab' : Above (lvC (some (4, xs i))) (tail (tX c) (i.val + 1)) := above_X c _ _ (x_above4 i)
  iapply (run_wait I K c sS 4 (xs i) hS land src h₂ h₁ (NO (xs i)) c hN' rfl (duty_x4 c i) _ (.inr hab') _) $$ [Hc4 HO Hp4]
  · unfold env; icases He with ⟨HI, Hl, -, -⟩
    isplitr; · iexact HI
    isplitr; · iexact Hl
    isplitl [Hc4]; · iexact Hc4
    isplitl [HO]; · iexact HO
    iexact Hp4
  iintro ⟨HO, Hp4, Hy4⟩
  iapply (run_wait I K c sR 5 (xs i) hR src land h₁ h₂ (NO (xs i)) (px (xr i) c) hN rfl (duty_x5 c i) _ (.inr hab) _) $$ [Hc HO Hp5]
  · unfold env; icases He with ⟨HI, Hl, -, -⟩
    isplitr; · iexact HI
    isplitr; · iexact Hl
    isplitl [Hc]; · iexact Hc
    isplitl [HO]; · iexact HO
    iexact Hp5
  iintro ⟨HO, Hp5, Hy5⟩
  iapply Hk
  isplitr [Hy4 Hy5]
  · isplitr; · iexact He
    isplitr; · iexact Hp
    isplitr [HO]
    · iapply Hf
      unfold xD
      isplitl [Hp4]; · iexact Hp4
      iexact Hp5
    iexact HO
  iapply hY
  isplitl [Hy4]; · iexact Hy4
  iexact Hy5

/-- An exchange of the first kind: the block sent stays with its receiver, for it to write there later. -/
theorem step_red (i : Fin 6) {s : Shape} (dst : Dev nD) (hdst : dst = px (xr i) c) (src land : Memref sig .tc .vmem s .bf16) (sS sR : DmaSem sig)
    (hS : sS = dsem 4 (xs i)) (hR : sR = dsem 5 (xs i)) (h₁ : src.view.WordExact) (h₂ : land.view.WordExact)
    (hN : land.view.dmaCredit = NO (xs i)) (hN' : src.view.dmaCredit = NO (xs i)) (A : src.view.ty.Contents (Elt F))
    (hpay₁ : (emp : sProp 𝕄) ⊢ pay I c c (some (4, xs i)))
    (hpay₂ : iprop((∃ f, ⌜land.view.read (Elt F) f = src.view.read (Elt F) A⌝ ∗ on (px (xr i) c) land fullShare f) ∗ onAny c src) ⊢ pay I (px (xr i) c) c (some (5, xs i)))
    (Y : sProp 𝕄) (hY : iprop(pay I c c (some (4, xs i)) ∗ pay I c (px (xr i) c) (some (5, xs i))) ⊢ Y)
    (Q : PUnit → sProp 𝕄) :
    iprop(invX I K c i.val ∗ on c src fullShare A ∗ onAny (px (xr i) c) land)
      ⊢ iprop(((invX I K c (i.val + 1) ∗ Y) -∗ Q ⟨⟩)
          -∗ W c (exchP dst src land sS sR h₁ h₂) Q) :=
  step_x I K c i dst src land sS sR hS hR h₁ h₂ hN hN' iprop(on c src fullShare A ∗ onAny (px (xr i) c) land) (fun Q => by
    iintro ⟨#HI, ⟨Hs, ⟨%f, Hl⟩⟩, HO, Ht, Hr, Ht', Hr'⟩ Hk
    iapply (run_send_landing I K c (px (xr i) c) dst hdst src land 4 5 (xs i) (xs i) sS sR hS hR h₁ h₂
      (by rw [duty_x4]; exact Finset.mem_singleton_self _) (duty_x5' c i) (NO (xs i)) hN rfl rfl fullShare A f (tail (tX c) (i.val + 1)) hpay₁
      ((show _ ⊢ _ from by
        iintro ⟨Hl, Hs⟩
        isplitl [Hl]
        · iexists _
          isplitr; swap
          · iexact Hl
          · ipureintro; exact View.read_write_univ _ _
        iexists A; iexact Hs).trans hpay₂) Q) $$ [Hs Hl HO Ht Hr Ht' Hr']
    · isplitr; · iexact HI
      isplitl [Hs]; · iexact Hs
      isplitl [Hl]; · iexact Hl
      isplitl [HO]; · iexact HO
      isplitl [Ht]; · iexact Ht
      isplitl [Hr]; · iexact Hr
      isplitl [Ht']; · iexact Ht'
      iexact Hr'
    iexact Hk) Y hY Q

/-- An exchange of the second kind: the block is written in place at the partner. -/
theorem step_gat (i : Fin 6) {s : Shape} (dst : Dev nD) (hdst : dst = px (xr i) c) (src : Memref sig .tc .vmem s .bf16) (sS sR : DmaSem sig)
    (hS : sS = dsem 4 (xs i)) (hR : sR = dsem 5 (xs i)) (h₁ : src.view.WordExact)
    (hN : src.view.dmaCredit = NO (xs i)) (A : src.view.ty.Contents (Elt F))
    (hpay₁ : on c src fullShare A ⊢ pay I c c (some (4, xs i)))
    (hpay₂ : on (px (xr i) c) src fullShare A ⊢ pay I (px (xr i) c) c (some (5, xs i)))
    (Y : sProp 𝕄) (hY : iprop(pay I c c (some (4, xs i)) ∗ pay I c (px (xr i) c) (some (5, xs i))) ⊢ Y)
    (Q : PUnit → sProp 𝕄) :
    iprop(invX I K c i.val ∗ on c src fullShare A ∗ onAny (px (xr i) c) src)
      ⊢ iprop(((invX I K c (i.val + 1) ∗ Y) -∗ Q ⟨⟩)
          -∗ W c (exchP dst src src sS sR h₁ h₁) Q) :=
  step_x I K c i dst src src sS sR hS hR h₁ h₁ hN hN iprop(on c src fullShare A ∗ onAny (px (xr i) c) src) (fun Q => by
    iintro ⟨#HI, ⟨Hs, ⟨%f, Hl⟩⟩, HO, Ht, Hr, Ht', Hr'⟩ Hk
    iapply (run_send I K c (px (xr i) c) dst hdst src src 4 5 (xs i) (xs i) sS sR hS hR h₁ h₁
      (by rw [duty_x4]; exact Finset.mem_singleton_self _) (duty_x5' c i) (NO (xs i)) hN rfl rfl fullShare A f (tail (tX c) (i.val + 1)) hpay₁
      ((Entails.of_eq (on_write (px (xr i) c) src fullShare f A _ rfl)).trans hpay₂) Q) $$ [Hs Hl HO Ht Hr Ht' Hr']
    · isplitr; · iexact HI
      isplitl [Hs]; · iexact Hs
      isplitl [Hl]; · iexact Hl
      isplitl [HO]; · iexact HO
      isplitl [Ht]; · iexact Ht
      isplitl [Hr]; · iexact Hr
      isplitl [Ht']; · iexact Ht'
      iexact Hr'
    iexact Hk) Y hY Q

end Cert.KernelIdeal.Run

end
-- ==== Proof.Reduce.lean ====
/-
The six exchanges and the three sums of the body, from each device's own sum to the whole one.
-/
module

public import proofs.«01_k».proof.Proof.Talk

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Ins F) (K : GSem nD τ sig → ℕ) (c : Dev nD)

/-- Rows of the summing buffer. -/
abbrev acc (c : Dev nD) (S : Finset S2x256x512.Idx) (f : Vec F S2x256x512 .bf16) : sProp 𝕄 := accM.view.loc (c : Thread nD τ) ↦[S]{fullShare} f

theorem on_accS0 (p d : Dev nD) (f : Vec F S2x256x512 .bf16) : on p (accS0 d) fullShare f = acc p (rows (lo0 (px 0 d)) 128) f := by
  show acc p (accS0 d).view.set f = _
  rw [accS0_set]
theorem on_accS1 (p d : Dev nD) (f : Vec F S2x256x512 .bf16) : on p (accS1 d) fullShare f = acc p (rows (lo1 (px 1 d)) 64) f := by
  show acc p (accS1 d).view.set f = _
  rw [accS1_set]
theorem on_accS2 (p d : Dev nD) (f : Vec F S2x256x512 .bf16) : on p (accS2 d) fullShare f = acc p (rows (lo2 (px 2 d)) 32) f := by
  show acc p (accS2 d).view.set f = _
  rw [accS2_set]
theorem on_gat0 (p d : Dev nD) (f : Vec F S2x256x512 .bf16) : on p (gat0 d) fullShare f = acc p (rows (lo2 d) 32) f := by
  show acc p (gat0 d).view.set f = _
  rw [gat0_set]
theorem on_gat1 (p d : Dev nD) (f : Vec F S2x256x512 .bf16) : on p (gat1 d) fullShare f = acc p (rows (lo1 d) 64) f := by
  show acc p (gat1 d).view.set f = _
  rw [gat1_set]
theorem on_gat2 (p d : Dev nD) (f : Vec F S2x256x512 .bf16) : on p (gat2 d) fullShare f = acc p (rows (lo0 d) 128) f := by
  show acc p (gat2 d).view.set f = _
  rw [gat2_set]

/-- Two disjoint parts are their union. -/
theorem acc_union {S T U : Finset S2x256x512.Idx} (h : Disjoint S T) (hU : S ∪ T = U) (p : Dev nD) (f : Vec F S2x256x512 .bf16) :
    acc p U f ⊣⊢ iprop(acc p S f ∗ acc p T f) := by
  subst hU; exact pointsTo_union h

/-! ## Halving -/

theorem step_ex0 (Q : PUnit → sProp 𝕄) :
    iprop(invX I K c 0 ∗ acc c Finset.univ (A0 I c) ∗ onAny (px 0 c) land0)
      ⊢ iprop(((invX I K c 1 ∗ acc c (rows (lo0 c) 128) (A0 I c) ∗ redPay c (px 0 c) land0 (accS0 (px 0 c)) (A0 I (px 0 c))) -∗ Q ⟨⟩)
          -∗ W c (exchP (devX0 c) (accS0 c) land0 (semI cc0_scratch11 1) (semI cc0_scratch12 1) (accS0_we c) land0_we) Q) := by
  iintro ⟨HX, Ha, Hl⟩ Hk
  ihave Ha := (acc_union (disj0 c) (union0 c) c (A0 I c)).1 $$ Ha
  icases Ha with ⟨Ha, Hs⟩
  iapply (step_red I K c 0 (devX0 c) (devX0_eq c) (accS0 c) land0 _ _ (sem11 1) (sem12 1) (accS0_we c) land0_we rfl rfl (A0 I c) .refl
    (show _ ⊢ redPay (px 0 c) (px 0 (px 0 c)) land0 (accS0 (px 0 (px 0 c))) (A0 I (px 0 (px 0 c))) by rw [px_px]; exact .refl)
    (redPay c (px 0 c) land0 (accS0 (px 0 c)) (A0 I (px 0 c))) (show iprop(emp ∗ redPay c (px 0 c) land0 (accS0 (px 0 c)) (A0 I (px 0 c))) ⊢ redPay c (px 0 c) land0 (accS0 (px 0 c)) (A0 I (px 0 c)) from BIClass.emp_sep.1) Q) $$ [HX Hs Hl]
  · isplitl [HX]; · iexact HX
    isplitl [Hs]; · iapply (Entails.of_eq (on_accS0 c c (A0 I c)).symm); iexact Hs
    iexact Hl
  iintro ⟨HX, Hr⟩
  iapply Hk
  isplitl [HX]; · iexact HX
  isplitl [Ha]; · iexact Ha
  iexact Hr

theorem step_ex1 (Q : PUnit → sProp 𝕄) :
    iprop(invX I K c 1 ∗ acc c (rows (lo0 c) 128) (A1 I c) ∗ onAny (px 1 c) land1)
      ⊢ iprop(((invX I K c 2 ∗ acc c (rows (lo1 c) 64) (A1 I c) ∗ redPay c (px 1 c) land1 (accS1 (px 1 c)) (A1 I (px 1 c))) -∗ Q ⟨⟩)
          -∗ W c (exchP (devX1 c) (accS1 c) land1 (semI cc0_scratch11 2) (semI cc0_scratch12 2) (accS1_we c) land1_we) Q) := by
  iintro ⟨HX, Ha, Hl⟩ Hk
  ihave Ha := (acc_union (disj1 c) (union1 c) c (A1 I c)).1 $$ Ha
  icases Ha with ⟨Ha, Hs⟩
  iapply (step_red I K c 1 (devX1 c) (devX1_eq c) (accS1 c) land1 _ _ (sem11 2) (sem12 2) (accS1_we c) land1_we rfl rfl (A1 I c) .refl
    (show _ ⊢ redPay (px 1 c) (px 1 (px 1 c)) land1 (accS1 (px 1 (px 1 c))) (A1 I (px 1 (px 1 c))) by rw [px_px]; exact .refl)
    (redPay c (px 1 c) land1 (accS1 (px 1 c)) (A1 I (px 1 c))) (show iprop(emp ∗ redPay c (px 1 c) land1 (accS1 (px 1 c)) (A1 I (px 1 c))) ⊢ redPay c (px 1 c) land1 (accS1 (px 1 c)) (A1 I (px 1 c)) from BIClass.emp_sep.1) Q) $$ [HX Hs Hl]
  · isplitl [HX]; · iexact HX
    isplitl [Hs]; · iapply (Entails.of_eq (on_accS1 c c (A1 I c)).symm); iexact Hs
    iexact Hl
  iintro ⟨HX, Hr⟩
  iapply Hk
  isplitl [HX]; · iexact HX
  isplitl [Ha]; · iexact Ha
  iexact Hr

theorem step_ex2 (Q : PUnit → sProp 𝕄) :
    iprop(invX I K c 2 ∗ acc c (rows (lo1 c) 64) (A2 I c) ∗ onAny (px 2 c) land2)
      ⊢ iprop(((invX I K c 3 ∗ acc c (rows (lo2 c) 32) (A2 I c) ∗ redPay c (px 2 c) land2 (accS2 (px 2 c)) (A2 I (px 2 c))) -∗ Q ⟨⟩)
          -∗ W c (exchP (devX2 c) (accS2 c) land2 (semI cc0_scratch11 3) (semI cc0_scratch12 3) (accS2_we c) land2_we) Q) := by
  iintro ⟨HX, Ha, Hl⟩ Hk
  ihave Ha := (acc_union (disj2 c) (union2 c) c (A2 I c)).1 $$ Ha
  icases Ha with ⟨Ha, Hs⟩
  iapply (step_red I K c 2 (devX2 c) (devX2_eq c) (accS2 c) land2 _ _ (sem11 3) (sem12 3) (accS2_we c) land2_we rfl rfl (A2 I c) .refl
    (show _ ⊢ redPay (px 2 c) (px 2 (px 2 c)) land2 (accS2 (px 2 (px 2 c))) (A2 I (px 2 (px 2 c))) by rw [px_px]; exact .refl)
    (redPay c (px 2 c) land2 (accS2 (px 2 c)) (A2 I (px 2 c))) (show iprop(emp ∗ redPay c (px 2 c) land2 (accS2 (px 2 c)) (A2 I (px 2 c))) ⊢ redPay c (px 2 c) land2 (accS2 (px 2 c)) (A2 I (px 2 c)) from BIClass.emp_sep.1) Q) $$ [HX Hs Hl]
  · isplitl [HX]; · iexact HX
    isplitl [Hs]; · iapply (Entails.of_eq (on_accS2 c c (A2 I c)).symm); iexact Hs
    iexact Hl
  iintro ⟨HX, Hr⟩
  iapply Hk
  isplitl [HX]; · iexact HX
  isplitl [Ha]; · iexact Ha
  iexact Hr

/-! ## The sums -/

theorem land0_set : rSt0.set ⊆ land0.view.set := ((View.set_reshape _ _).trans (View.set_slice_whole cc0_scratch6 _)).ge
theorem land1_set : rSt1.set ⊆ land1.view.set := ((View.set_reshape _ _).trans (View.set_slice_whole cc0_scratch6 _)).ge
theorem land2_set : rSt2.set ⊆ land2.view.set := ((View.set_reshape _ _).trans (View.set_slice_whole cc0_scratch6 _)).ge

theorem step_add0 (Q : PUnit → sProp 𝕄) :
    iprop(acc c (rows (lo0 c) 128) (A0 I c) ∗ redPay c (px 0 c) land0 (accS0 (px 0 c)) (A0 I (px 0 c)))
      ⊢ iprop(((acc c (rows (lo0 c) 128) (A1 I c) ∗ onAny (F := F) c land0 ∗ onAny (px 0 c) (accS0 (px 0 c))) -∗ Q ⟨⟩) -∗ W c (add0 c) Q) := by
  unfold add0 redPay
  simp only [Prog.lift, Prog.bind_op, Prog.bind_ret, Prog.pure_eq_ret]
  iintro ⟨Ha, ⟨%f, %hf, Hl⟩, Hp⟩ Hk
  iapply (run_add c (rKeep0 c) rSt0 (rows (lo0 c) 128) land0.view.set (keep0_set c) land0_set k0_pay198 (A0 I c) (A1 I c) f (add_val0 I c f hf) _ _ _ _ _ Q) $$ [Ha Hl]
  · isplitl [Ha]; · iexact Ha
    iexact Hl
  iintro ⟨Ha, Hl⟩
  iapply Hk
  isplitl [Ha]; · iexact Ha
  isplitl [Hl]; · iexists f; iexact Hl
  iexact Hp

theorem step_add1 (Q : PUnit → sProp 𝕄) :
    iprop(acc c (rows (lo1 c) 64) (A1 I c) ∗ redPay c (px 1 c) land1 (accS1 (px 1 c)) (A1 I (px 1 c)))
      ⊢ iprop(((acc c (rows (lo1 c) 64) (A2 I c) ∗ onAny (F := F) c land1 ∗ onAny (px 1 c) (accS1 (px 1 c))) -∗ Q ⟨⟩) -∗ W c (add1 c) Q) := by
  unfold add1 redPay
  simp only [Prog.lift, Prog.bind_op, Prog.bind_ret, Prog.pure_eq_ret]
  iintro ⟨Ha, ⟨%f, %hf, Hl⟩, Hp⟩ Hk
  iapply (run_add c (rKeep1 c) rSt1 (rows (lo1 c) 64) land1.view.set (keep1_set c) land1_set k0_pay199 (A1 I c) (A2 I c) f (add_val1 I c f hf) _ _ _ _ _ Q) $$ [Ha Hl]
  · isplitl [Ha]; · iexact Ha
    iexact Hl
  iintro ⟨Ha, Hl⟩
  iapply Hk
  isplitl [Ha]; · iexact Ha
  isplitl [Hl]; · iexists f; iexact Hl
  iexact Hp

theorem step_add2 (Q : PUnit → sProp 𝕄) :
    iprop(acc c (rows (lo2 c) 32) (A2 I c) ∗ redPay c (px 2 c) land2 (accS2 (px 2 c)) (A2 I (px 2 c)))
      ⊢ iprop(((acc c (rows (lo2 c) 32) (A3 I c) ∗ onAny (F := F) c land2 ∗ onAny (px 2 c) (accS2 (px 2 c))) -∗ Q ⟨⟩) -∗ W c (add2 c) Q) := by
  unfold add2 redPay
  simp only [Prog.lift, Prog.bind_op, Prog.bind_ret, Prog.pure_eq_ret]
  iintro ⟨Ha, ⟨%f, %hf, Hl⟩, Hp⟩ Hk
  iapply (run_add c (rKeep2 c) rSt2 (rows (lo2 c) 32) land2.view.set (keep2_set c) land2_set k0_pay200 (A2 I c) (A3 I c) f (add_val2 I c f hf) _ _ _ _ _ Q) $$ [Ha Hl]
  · isplitl [Ha]; · iexact Ha
    iexact Hl
  iintro ⟨Ha, Hl⟩
  iapply Hk
  isplitl [Ha]; · iexact Ha
  isplitl [Hl]; · iexists f; iexact Hl
  iexact Hp

/-! ## Gathering -/

theorem owner_of (c : Dev nD) (j : S2x256x512.Idx) (h : j ∈ rows (lo2 c) 32) : owner (j 1) = c := by
  rw [mem_rows] at h
  have hc : c.val < 8 := c.isLt
  have hj : (j (1 : Fin 3)).val < 256 := (j (1 : Fin 3)).isLt
  apply Fin.ext
  show (j (1 : Fin 3)).val / 128 + 2 * ((j (1 : Fin 3)).val / 64 % 2) + 4 * ((j (1 : Fin 3)).val / 32 % 2) = c.val
  have h8 : c.val = 0 ∨ c.val = 1 ∨ c.val = 2 ∨ c.val = 3 ∨ c.val = 4 ∨ c.val = 5 ∨ c.val = 6 ∨ c.val = 7 := by omega
  unfold lo2 lo1 lo0 at h
  rcases h8 with e | e | e | e | e | e | e | e <;> rw [e] at h ⊢ <;> omega

theorem acc_total : acc c (rows (lo2 c) 32) (A3 I c) = acc c (rows (lo2 c) 32) (total I) :=
  pointsTo_congr fun j hj => by
    show A3 I c j = A3 I (owner (j 1)) j
    rw [owner_of c j hj]

theorem step_ex3 (Q : PUnit → sProp 𝕄) :
    iprop(invX I K c 3 ∗ acc c (rows (lo2 c) 32) (A3 I c) ∗ onAny (px 2 c) (accS2 (px 2 c)))
      ⊢ iprop(((invX I K c 4 ∗ acc c (rows (lo1 c) 64) (total I)) -∗ Q ⟨⟩)
          -∗ W c (exchP (devX3 c) (gat0 c) (gat0 c) (semI cc0_scratch11 7) (semI cc0_scratch12 7) (gat0_we c) (gat0_we c)) Q) := by
  iintro ⟨HX, Ha, ⟨%f, Hp⟩⟩ Hk
  iapply (step_gat I K c 3 (devX3 c) (devX3_eq c) (gat0 c) _ _ (sem11 7) (sem12 7) (gat0_we c) rfl (total I) .refl
    (show _ ⊢ on (px 2 c) (gat0 (px 2 (px 2 c))) fullShare (total I) by rw [px_px]; exact .refl)
    iprop(on c (gat0 c) fullShare (total I) ∗ on c (gat0 (px 2 c)) fullShare (total I)) .refl Q) $$ [HX Ha Hp]
  · isplitl [HX]; · iexact HX
    isplitl [Ha]; · iapply (Entails.of_eq ((acc_total I c).trans (on_gat0 c c (total I)).symm)); iexact Ha
    iexists f
    iapply (Entails.of_eq ((on_accS2 (px 2 c) (px 2 c) f).trans (by rw [px_px, on_gat0]; rfl))); iexact Hp
  iintro ⟨HX, Ha, Hb⟩
  iapply Hk
  isplitl [HX]; · iexact HX
  iapply (acc_union (disj2 c) (union2 c) c (total I)).2
  isplitl [Ha]
  · iapply (Entails.of_eq (on_gat0 c c (total I))); iexact Ha
  · iapply (Entails.of_eq (on_gat0 c (px 2 c) (total I))); iexact Hb

theorem step_ex4 (Q : PUnit → sProp 𝕄) :
    iprop(invX I K c 4 ∗ acc c (rows (lo1 c) 64) (total I) ∗ onAny (px 1 c) (accS1 (px 1 c)))
      ⊢ iprop(((invX I K c 5 ∗ acc c (rows (lo0 c) 128) (total I)) -∗ Q ⟨⟩)
          -∗ W c (exchP (devX4 c) (gat1 c) (gat1 c) (semI cc0_scratch11 6) (semI cc0_scratch12 6) (gat1_we c) (gat1_we c)) Q) := by
  iintro ⟨HX, Ha, ⟨%f, Hp⟩⟩ Hk
  iapply (step_gat I K c 4 (devX4 c) (devX4_eq c) (gat1 c) _ _ (sem11 6) (sem12 6) (gat1_we c) rfl (total I) .refl
    (show _ ⊢ on (px 1 c) (gat1 (px 1 (px 1 c))) fullShare (total I) by rw [px_px]; exact .refl)
    iprop(on c (gat1 c) fullShare (total I) ∗ on c (gat1 (px 1 c)) fullShare (total I)) .refl Q) $$ [HX Ha Hp]
  · isplitl [HX]; · iexact HX
    isplitl [Ha]; · iapply (Entails.of_eq (on_gat1 c c (total I)).symm); iexact Ha
    iexists f
    iapply (Entails.of_eq ((on_accS1 (px 1 c) (px 1 c) f).trans (by rw [px_px, on_gat1]; rfl))); iexact Hp
  iintro ⟨HX, Ha, Hb⟩
  iapply Hk
  isplitl [HX]; · iexact HX
  iapply (acc_union (disj1 c) (union1 c) c (total I)).2
  isplitl [Ha]
  · iapply (Entails.of_eq (on_gat1 c c (total I))); iexact Ha
  · iapply (Entails.of_eq (on_gat1 c (px 1 c) (total I))); iexact Hb

theorem step_ex5 (Q : PUnit → sProp 𝕄) :
    iprop(invX I K c 5 ∗ acc c (rows (lo0 c) 128) (total I) ∗ onAny (px 0 c) (accS0 (px 0 c)))
      ⊢ iprop(((invX I K c 6 ∗ acc c Finset.univ (total I)) -∗ Q ⟨⟩)
          -∗ W c (exchP (devX5 c) (gat2 c) (gat2 c) (semI cc0_scratch11 5) (semI cc0_scratch12 5) (gat2_we c) (gat2_we c)) Q) := by
  iintro ⟨HX, Ha, ⟨%f, Hp⟩⟩ Hk
  iapply (step_gat I K c 5 (devX5 c) (devX5_eq c) (gat2 c) _ _ (sem11 5) (sem12 5) (gat2_we c) rfl (total I) .refl
    (show _ ⊢ on (px 0 c) (gat2 (px 0 (px 0 c))) fullShare (total I) by rw [px_px]; exact .refl)
    iprop(on c (gat2 c) fullShare (total I) ∗ on c (gat2 (px 0 c)) fullShare (total I)) .refl Q) $$ [HX Ha Hp]
  · isplitl [HX]; · iexact HX
    isplitl [Ha]; · iapply (Entails.of_eq (on_gat2 c c (total I)).symm); iexact Ha
    iexists f
    iapply (Entails.of_eq ((on_accS0 (px 0 c) (px 0 c) f).trans (by rw [px_px, on_gat2]; rfl))); iexact Hp
  iintro ⟨HX, Ha, Hb⟩
  iapply Hk
  isplitl [HX]; · iexact HX
  iapply (acc_union (disj0 c) (union0 c) c (total I)).2
  isplitl [Ha]
  · iapply (Entails.of_eq (on_gat2 c c (total I))); iexact Ha
  · iapply (Entails.of_eq (on_gat2 c (px 0 c) (total I))); iexact Hb

end Cert.KernelIdeal.Run

end
-- ==== Proof.Setup.lean ====
/-
The buffers cut into what is lent out, and put together again.
-/
module

public import proofs.«01_k».proof.Proof.Reduce

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Ins F) (c : Dev nD)

/-! ## Families over the other devices -/

def nxE (c : Dev nD) : Fin 7 ↪ Dev nD := ⟨nx c, by revert c; decide⟩
def pvE (c : Dev nD) : Fin 7 ↪ Dev nD := ⟨pv c, by revert c; decide⟩
theorem nxE_univ (c : Dev nD) : (Finset.univ : Finset (Fin 7)).map (nxE c) = Finset.univ.erase c := by revert c; decide
theorem pvE_univ (c : Dev nD) : (Finset.univ : Finset (Fin 7)).map (pvE c) = Finset.univ.erase c := by revert c; decide

theorem around_nx (Φ : Dev nD → sProp 𝕄) : bigSep (Finset.univ.erase c) Φ = bigSep Finset.univ fun i : Fin 7 => Φ (nx c i) := by
  rw [← nxE_univ, bigSep_map]; rfl
theorem around_pv (Φ : Dev nD → sProp 𝕄) : bigSep (Finset.univ.erase c) Φ = bigSep Finset.univ fun i : Fin 7 => Φ (pv c i) := by
  rw [← pvE_univ, bigSep_map]; rfl

theorem all_nx (Φ : Dev nD → sProp 𝕄) : bigSep Finset.univ Φ = iprop(Φ c ∗ bigSep Finset.univ fun i : Fin 7 => Φ (nx c i)) := by
  rw [bigSep_erase (Finset.mem_univ c), around_nx]; rfl
theorem all_pv (Φ : Dev nD → sProp 𝕄) : bigSep Finset.univ Φ = iprop(Φ c ∗ bigSep Finset.univ fun i : Fin 7 => Φ (pv c i)) := by
  rw [bigSep_erase (Finset.mem_univ c), around_pv]; rfl

theorem each_mono {n : ℕ} {Φ Ψ : Fin n → sProp 𝕄} (h : ∀ i, Φ i ⊢ Ψ i) : bigSep Finset.univ Φ ⊢ bigSep Finset.univ Ψ := bigSep_mono fun i _ => h i

/-! ## The gathering buffers -/

theorem slots_eq (q : PosShare TreeShare) (f : Vec F S8x4x2x256x64 .bf16) :
    pt c cc0_scratch1 q f = bigSep Finset.univ fun s : Dev nD => on c (slotOf kgM s) q f := by
  show ((Memref.whole cc0_scratch1).view.loc (c : Thread nD τ) ↦[Finset.univ]{q} f) = _
  rw [← slot_union, pointsTo_biUnion _ _ slot_disj]
  exact bigSep_congr fun s _ => by rw [← slotK_set s]
theorem slotsV_eq (q : PosShare TreeShare) (f : Vec F S8x4x2x256x64 .bf16) :
    pt c cc0_scratch2 q f = bigSep Finset.univ fun s : Dev nD => on c (slotOf vgM s) q f := by
  show ((Memref.whole cc0_scratch2).view.loc (c : Thread nD τ) ↦[Finset.univ]{q} f) = _
  rw [← slot_union, pointsTo_biUnion _ _ slot_disj]
  exact bigSep_congr fun s _ => by rw [← slotV_set s]

theorem any_of {s : Shape} {e : EltTy} (M : Memref sig .tc .vmem s e) (f : M.view.ty.Contents (Elt F)) : on c M fullShare f ⊢ onAny c M := by
  iintro H; iexists f; iexact H

theorem split_slots : iprop(∃ f, pt (F := F) c cc0_scratch1 fullShare f)
    ⊢ iprop(onAny (F := F) c (slotOf kgM c) ∗ bigSep Finset.univ fun i : Fin 7 => onAny c (slotOf kgM (nx c i))) := by
  iintro ⟨%f, H⟩
  ihave H := (Entails.of_eq ((slots_eq c fullShare f).trans (all_nx c _))) $$ H
  icases H with ⟨H1, H2⟩
  isplitl [H1]; · iexists f; iexact H1
  iapply (each_mono fun i => any_of c (slotOf kgM (nx c i)) f); iexact H2
theorem split_slotsV : iprop(∃ f, pt (F := F) c cc0_scratch2 fullShare f)
    ⊢ iprop(onAny (F := F) c (slotOf vgM c) ∗ bigSep Finset.univ fun i : Fin 7 => onAny c (slotOf vgM (nx c i))) := by
  iintro ⟨%f, H⟩
  ihave H := (Entails.of_eq ((slotsV_eq c fullShare f).trans (all_nx c _))) $$ H
  icases H with ⟨H1, H2⟩
  isplitl [H1]; · iexists f; iexact H1
  iapply (each_mono fun i => any_of c (slotOf vgM (nx c i)) f); iexact H2

theorem join_slots (f : Vec F S8x4x2x256x64 .bf16) :
    iprop(on c (slotOf kgM c) fullShare f ∗ bigSep Finset.univ fun i : Fin 7 => on c (slotOf kgM (pv c i)) fullShare f) = pt c cc0_scratch1 fullShare f :=
  ((slots_eq c fullShare f).trans (all_pv c _)).symm
theorem join_slotsV (f : Vec F S8x4x2x256x64 .bf16) :
    iprop(on c (slotOf vgM c) fullShare f ∗ bigSep Finset.univ fun i : Fin 7 => on c (slotOf vgM (pv c i)) fullShare f) = pt c cc0_scratch2 fullShare f :=
  ((slotsV_eq c fullShare f).trans (all_pv c _)).symm

/-! ## The staged keys and values -/

theorem heads_eq (f : Vec F S32x2x256x64 .bf16) : pt c cc0_stg2_0 qH f
    = iprop((kM.view.loc (c : Thread nD τ) ↦[headSet c]{qH} f) ∗ bigSep Finset.univ fun i : Fin 7 => on c (srcOf kM c i) qH f) := by
  show (kM.view.loc (c : Thread nD τ) ↦[Finset.univ]{qH} f) = _
  rw [← head_union, pointsTo_biUnion _ _ head_disj]
  refine (all_nx c (fun s => kM.view.loc (c : Thread nD τ) ↦[headSet s]{qH} f)).trans ?_
  rw [bigSep_congr fun (i : Fin 7) _ => show (kM.view.loc (c : Thread nD τ) ↦[headSet (nx c i)]{qH} f : sProp 𝕄) = on c (srcOf kM c i) qH f from by
    rw [← srcK_set c i]]
theorem headsV_eq (f : Vec F S32x2x256x64 .bf16) : pt c cc0_stg3_0 qH f
    = iprop((vM.view.loc (c : Thread nD τ) ↦[headSet c]{qH} f) ∗ bigSep Finset.univ fun i : Fin 7 => on c (srcOf vM c i) qH f) := by
  show (vM.view.loc (c : Thread nD τ) ↦[Finset.univ]{qH} f) = _
  rw [← head_union, pointsTo_biUnion _ _ head_disj]
  refine (all_nx c (fun s => vM.view.loc (c : Thread nD τ) ↦[headSet s]{qH} f)).trans ?_
  rw [bigSep_congr fun (i : Fin 7) _ => show (vM.view.loc (c : Thread nD τ) ↦[headSet (nx c i)]{qH} f : sProp 𝕄) = on c (srcOf vM c i) qH f from by
    rw [← srcV_set c i]]

theorem halves (b : Ref sig .tc) (f : b.ty.Contents (Elt F)) : pt c b fullShare f ⊣⊢ iprop(pt c b qL f ∗ pt c b qH f) :=
  pointsTo_share (PosShare.mem_left_op_right fullShare)

/-! ## The landing blocks -/

def stSet (r : ℕ) (n : ℕ) : Finset S3x2x128x512.Idx := Finset.univ.filter fun j => (j (0 : Fin 4)).val = r ∧ (j (2 : Fin 4)).val < n

theorem mem_st (o : Fin 4 → ℕ) (z : Fin 4 → ℕ) (h : ∀ a, o a + z a ≤ S3x2x128x512.size a) (r n : ℕ) (ho : o = ![r, 0, 0, 0]) (hz : z = ![1, 2, n, 512]) :
    (Rect.unit (s := S3x2x128x512) o z h).set = stSet r n := by
  subst ho hz
  ext j
  unfold stSet
  rw [Rect.mem_set_unit]
  simp only [Finset.mem_filter, Finset.mem_univ, true_and]
  have h1 : (j (1 : Fin 4)).val < 2 := (j (1 : Fin 4)).isLt
  have h3 : (j (3 : Fin 4)).val < 512 := (j (3 : Fin 4)).isLt
  constructor
  · intro hj
    have a0 : r ≤ (j (0 : Fin 4)).val ∧ (j (0 : Fin 4)).val < r + 1 := hj 0
    have a2 : 0 ≤ (j (2 : Fin 4)).val ∧ (j (2 : Fin 4)).val < 0 + n := hj 2
    omega
  · intro hj a
    fin_cases a
    · show r ≤ (j (0 : Fin 4)).val ∧ (j (0 : Fin 4)).val < r + 1; omega
    · show 0 ≤ (j (1 : Fin 4)).val ∧ (j (1 : Fin 4)).val < 0 + 2; omega
    · show 0 ≤ (j (2 : Fin 4)).val ∧ (j (2 : Fin 4)).val < 0 + n; omega
    · show 0 ≤ (j (3 : Fin 4)).val ∧ (j (3 : Fin 4)).val < 0 + 512; omega

theorem st0_set : land0.view.set = stSet 0 128 :=
  ((View.set_reshape _ _).trans (View.set_slice_whole cc0_scratch6 _)).trans (mem_st _ _ _ _ _ rfl rfl)
theorem st1_set : land1.view.set = stSet 1 64 :=
  ((View.set_reshape _ _).trans (View.set_slice_whole cc0_scratch6 _)).trans (mem_st _ _ _ _ _ rfl rfl)
theorem st2_set : land2.view.set = stSet 2 32 :=
  ((View.set_reshape _ _).trans (View.set_slice_whole cc0_scratch6 _)).trans (mem_st _ _ _ _ _ rfl rfl)

def stRest : Finset S3x2x128x512.Idx := Finset.univ \ (stSet 0 128 ∪ (stSet 1 64 ∪ stSet 2 32))

theorem st_disj (r r' n n' : ℕ) (h : r ≠ r') : Disjoint (stSet r n) (stSet r' n') := by
  rw [Finset.disjoint_left]
  intro j h1 h2
  unfold stSet at h1 h2
  exact h ((Finset.mem_filter.1 h1).2.1.symm.trans (Finset.mem_filter.1 h2).2.1)
theorem st_disj12 : Disjoint (stSet 1 64) (stSet 2 32) := st_disj 1 2 64 32 (by decide)
theorem st_disj0 : Disjoint (stSet 0 128) (stSet 1 64 ∪ stSet 2 32) :=
  Finset.disjoint_union_right.2 ⟨st_disj 0 1 128 64 (by decide), st_disj 0 2 128 32 (by decide)⟩
theorem st_disjR : Disjoint (stSet 0 128 ∪ (stSet 1 64 ∪ stSet 2 32)) stRest := Finset.disjoint_sdiff
theorem st_union : (stSet 0 128 ∪ (stSet 1 64 ∪ stSet 2 32)) ∪ stRest = Finset.univ := Finset.union_sdiff_of_subset (Finset.subset_univ _)

abbrev stp (c : Dev nD) (S : Finset S3x2x128x512.Idx) (f : Vec F S3x2x128x512 .bf16) : sProp 𝕄 := stM.view.loc (c : Thread nD τ) ↦[S]{fullShare} f

theorem split_st : iprop(∃ f, pt (F := F) c cc0_scratch6 fullShare f)
    ⊢ iprop(onAny (F := F) c land0 ∗ onAny (F := F) c land1 ∗ onAny (F := F) c land2 ∗ ∃ f, stp (F := F) c stRest f) := by
  iintro ⟨%f, H⟩
  ihave H := (show (pt c cc0_scratch6 fullShare f : sProp 𝕄) ⊢ iprop(stp c (stSet 0 128 ∪ (stSet 1 64 ∪ stSet 2 32)) f ∗ stp c stRest f) from by
    show stp c Finset.univ f ⊢ _
    rw [← st_union]; exact (pointsTo_union st_disjR).1) $$ H
  icases H with ⟨H, HR⟩
  ihave H := (pointsTo_union st_disj0).1 $$ H
  icases H with ⟨H0, H⟩
  ihave H := (pointsTo_union st_disj12).1 $$ H
  icases H with ⟨H1, H2⟩
  isplitl [H0]; · iexists f; iapply (Entails.of_eq (show stp c (stSet 0 128) f = on c land0 fullShare f from by rw [← st0_set])); iexact H0
  isplitl [H1]; · iexists f; iapply (Entails.of_eq (show stp c (stSet 1 64) f = on c land1 fullShare f from by rw [← st1_set])); iexact H1
  isplitl [H2]; · iexists f; iapply (Entails.of_eq (show stp c (stSet 2 32) f = on c land2 fullShare f from by rw [← st2_set])); iexact H2
  iexists f; iexact HR

theorem stp_join {S T : Finset S3x2x128x512.Idx} (h : Disjoint S T) (f g : Vec F S3x2x128x512 .bf16) :
    iprop(stp c S f ∗ stp c T g) ⊢ iprop(∃ f, stp (F := F) c (S ∪ T) f) := by
  iintro H
  iexists _
  iapply (pointsTo_join h); iexact H

theorem join_st : iprop(onAny (F := F) c land0 ∗ onAny (F := F) c land1 ∗ onAny (F := F) c land2 ∗ ∃ f, stp (F := F) c stRest f)
    ⊢ iprop(∃ f, pt (F := F) c cc0_scratch6 fullShare f) := by
  iintro ⟨⟨%f0, H0⟩, ⟨%f1, H1⟩, ⟨%f2, H2⟩, ⟨%f, HR⟩⟩
  ihave H0 := (Entails.of_eq (show on c land0 fullShare f0 = stp c (stSet 0 128) f0 from by rw [← st0_set])) $$ H0
  ihave H1 := (Entails.of_eq (show on c land1 fullShare f1 = stp c (stSet 1 64) f1 from by rw [← st1_set])) $$ H1
  ihave H2 := (Entails.of_eq (show on c land2 fullShare f2 = stp c (stSet 2 32) f2 from by rw [← st2_set])) $$ H2
  ihave H := (stp_join c st_disj12 f1 f2) $$ [H1 H2]
  · isplitl [H1]; · iexact H1
    iexact H2
  icases H with ⟨%g, H⟩
  ihave H := (stp_join c st_disj0 f0 g) $$ [H0 H]
  · isplitl [H0]; · iexact H0
    iexact H
  icases H with ⟨%g', H⟩
  ihave H := (stp_join c st_disjR g' f) $$ [HR H]
  · isplitl [H]; · iexact H
    iexact HR
  icases H with ⟨%g'', H⟩
  iexists g''
  iapply (Entails.of_eq (show stp c ((stSet 0 128 ∪ (stSet 1 64 ∪ stSet 2 32)) ∪ stRest) g'' = pt c cc0_scratch6 fullShare g'' from by rw [st_union]))
  iexact H

/-! ## The landing blocks given and got at the barrier -/

theorem px_flip (r : Fin 3) (c p : Dev nD) : (c = px r p) ↔ (p = px r c) := by revert r c p; decide
theorem px01 (c : Dev nD) : px 1 c ≠ px 0 c := by revert c; decide
theorem px02 (c : Dev nD) : px 2 c ≠ px 0 c := by revert c; decide
theorem px12 (c : Dev nD) : px 2 c ≠ px 1 c := by revert c; decide

/-- A family over the other devices that is only at the three partners. -/
theorem partners (Φ : Dev nD → sProp 𝕄) (h : ∀ p, p ≠ px 0 c → p ≠ px 1 c → p ≠ px 2 c → Φ p = iprop(emp)) :
    bigSep (Finset.univ.erase c) Φ = iprop(Φ (px 0 c) ∗ Φ (px 1 c) ∗ Φ (px 2 c)) := by
  rw [bigSep_erase (Finset.mem_erase.2 ⟨px_ne 0 c, Finset.mem_univ _⟩),
    bigSep_erase (Finset.mem_erase.2 ⟨px01 c, Finset.mem_erase.2 ⟨px_ne 1 c, Finset.mem_univ _⟩⟩),
    bigSep_erase (Finset.mem_erase.2 ⟨px12 c, Finset.mem_erase.2 ⟨px02 c, Finset.mem_erase.2 ⟨px_ne 2 c, Finset.mem_univ _⟩⟩⟩),
    bigSep_congr (Ψ := fun _ => (BI.emp : sProp 𝕄)) (fun p hp => by
      simp only [Finset.mem_erase, Finset.mem_univ, and_true] at hp
      exact h p hp.2.2.1 hp.2.1 hp.1), bigSep_emp_const]
  have : ∀ A B C : sProp 𝕄, iprop(A ∗ B ∗ C ∗ BI.emp) = iprop(A ∗ B ∗ C) := fun A B C => by
    rw [show iprop(C ∗ BI.emp) = C from BI.equiv_iff.mp BI.sep_emp]
  exact this _ _ _

theorem stPay_got : bigSep (Finset.univ.erase c) (fun p => stPay (F := F) c p) = iprop(onAny (px 0 c) land0 ∗ onAny (px 1 c) land1 ∗ onAny (px 2 c) land2) := by
  rw [partners c _ fun p h0 h1 h2 => by unfold stPay; rw [if_neg h0, if_neg h1, if_neg h2]]
  unfold stPay
  rw [if_pos rfl, if_neg (px01 c), if_pos rfl, if_neg (px02 c), if_neg (px12 c), if_pos rfl]

theorem stPay_give : bigSep (Finset.univ.erase c) (fun p => stPay (F := F) p c) = iprop(onAny c land0 ∗ onAny c land1 ∗ onAny c land2) := by
  have e : ∀ p, stPay (F := F) p c = if p = px 0 c then onAny c land0 else if p = px 1 c then onAny c land1 else if p = px 2 c then onAny c land2 else iprop(emp) := fun p => by
    unfold stPay
    simp only [px_flip _ c p]
  rw [partners c _ fun p h0 h1 h2 => by rw [e, if_neg h0, if_neg h1, if_neg h2], e, e, e]
  rw [if_pos rfl, if_neg (px01 c), if_pos rfl, if_neg (px02 c), if_neg (px12 c), if_pos rfl]

end Cert.KernelIdeal.Run

end
-- ==== Proof.Body.lean ====
/-
The whole body, run at any device.
-/
module

public import proofs.«01_k».proof.Proof.Setup

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Ins F) (K : GSem nD τ sig → ℕ) (c : Dev nD)

/-! ## The device's own cells -/

abbrev Slots : Type := (Fin 7 ⊕ Fin 7 ⊕ Fin 7 ⊕ Fin 7) ⊕ (Fin 6 ⊕ Fin 6)

/-- The cells device `c` waits on, beside its barrier. -/
def slotIx (c : Dev nD) : Slots → Fin 6 × Fin 8
  | .inl (.inl i) => (0, sucI i)
  | .inl (.inr (.inl i)) => (2, sucI i)
  | .inl (.inr (.inr (.inl i))) => (1, pv c i)
  | .inl (.inr (.inr (.inr i))) => (3, pv c i)
  | .inr (.inl i) => (4, xs i)
  | .inr (.inr i) => (5, xs i)

theorem sucI_inj : Function.Injective sucI := by decide
theorem xs_inj : Function.Injective xs := by decide

theorem slotIx_inj (c : Dev nD) : Function.Injective (slotIx c) := by
  have hp : Function.Injective (pv c) := (pvE c).injective
  rintro ((i | i | i | i) | (i | i)) ((j | j | j | j) | (j | j)) h <;> simp only [slotIx, Prod.mk.injEq] at h <;>
    first
    | exact absurd h.1 (by decide)
    | rw [sucI_inj h.2]
    | rw [hp h.2]
    | rw [xs_inj h.2]

def used (c : Dev nD) : Finset (Fin 6 × Fin 8) := (Finset.univ : Finset Slots).map ⟨slotIx c, slotIx_inj c⟩

theorem used_split (Φ : Fin 6 × Fin 8 → sProp 𝕄) : bigSep (used c) Φ
    = iprop(((bigSep Finset.univ fun i : Fin 7 => Φ (0, sucI i)) ∗ (bigSep Finset.univ fun i : Fin 7 => Φ (2, sucI i))
        ∗ (bigSep Finset.univ fun i : Fin 7 => Φ (1, pv c i)) ∗ (bigSep Finset.univ fun i : Fin 7 => Φ (3, pv c i)))
      ∗ (bigSep Finset.univ fun i : Fin 6 => Φ (4, xs i)) ∗ (bigSep Finset.univ fun i : Fin 6 => Φ (5, xs i))) := by
  unfold used
  rw [bigSep_map, bigSep_univ_sum, bigSep_univ_sum, bigSep_univ_sum, bigSep_univ_sum, bigSep_univ_sum]
  rfl

theorem used_rest (Φ : Fin 6 × Fin 8 → sProp 𝕄) : bigSep Finset.univ Φ = iprop(bigSep (used c) Φ ∗ bigSep (Finset.univ \ used c) Φ) :=
  bigSep_sdiff_split (Finset.subset_univ (used c))

theorem rest_duty : ∀ (c : Dev nD) (k : Fin 6 × Fin 8), k ∉ used c → duty c (some k) = ∅ := by
  have h : ∀ (c : Dev nD) (k : Fin 6 × Fin 8), (∀ j : Fin 7, slotIx c (.inl (.inl j)) ≠ k ∧ slotIx c (.inl (.inr (.inl j))) ≠ k
      ∧ slotIx c (.inl (.inr (.inr (.inl j)))) ≠ k ∧ slotIx c (.inl (.inr (.inr (.inr j)))) ≠ k)
      → (∀ j : Fin 6, slotIx c (.inr (.inl j)) ≠ k ∧ slotIx c (.inr (.inr j)) ≠ k) → duty c (some k) = ∅ := by decide
  intro c k hk
  have hk' : ∀ j, slotIx c j ≠ k := fun j e => hk (e ▸ Finset.mem_map_of_mem ⟨slotIx c, slotIx_inj c⟩ (Finset.mem_univ j))
  exact h c k (fun j => ⟨hk' _, hk' _, hk' _, hk' _⟩) (fun j => ⟨hk' _, hk' _⟩)

theorem close_used (k : CI) : iprop(allInv I K ∗ atPos ER (gOf c k) 1 ∅ 0) ⊢ (|={Set.univ}=> semVal (gOf c k) 0 : sProp 𝕄) :=
  (sep_mono_left (inv_at I K c k)).trans (Rounds.cell_close ER (Rd I) (Set.mem_univ _) id (duties_later I c k))

theorem close_rest (k : CI) (h : duty c k = ∅) : iprop(allInv I K ∗ atPos ER (gOf c k) 0 ∅ 0) ⊢ (|={Set.univ}=> semVal (gOf c k) 0 : sProp 𝕄) :=
  (sep_mono_left (inv_at I K c k)).trans (Rounds.cell_close ER (Rd I) (Set.mem_univ _) id (fun r _ => by
    rcases Nat.eq_zero_or_pos r with rfl | hr
    · rw [duties_at, h]
    · exact duties_later I c k r hr))

theorem close_all :
    iprop(allInv I K ∗ bigSep (used c) (fun k => posD (F := F) c k.1 k.2 1) ∗ bigSep (Finset.univ \ used c) (fun k => posD (F := F) c k.1 k.2 0))
      ⊢ (|={Set.univ}=> bigSep Finset.univ (fun k : Fin 6 × Fin 8 => semVal (gOf c (some k)) 0) : sProp 𝕄) := by
  iintro ⟨#HI, Hu, Hr⟩
  ihave Hu := ((bigSep_with_persistent (R := allInv I K) (S := used c) (Φ := fun k => posD (F := F) c k.1 k.2 1)
    (Ψ := fun k => iprop(|={Set.univ}=> semVal (gOf c (some k)) 0)) (fun k _ => close_used I K c (some k))).trans (bigSep_fupd _ _)) $$ [Hu]
  · isplitr; · iexact HI
    iexact Hu
  ihave Hr := ((bigSep_with_persistent (R := allInv I K) (S := Finset.univ \ used c) (Φ := fun k => posD (F := F) c k.1 k.2 0)
    (Ψ := fun k => iprop(|={Set.univ}=> semVal (gOf c (some k)) 0)) (fun k hk => close_rest I K c (some k) (rest_duty c k (Finset.mem_sdiff.1 hk).2))).trans (bigSep_fupd _ _)) $$ [Hr]
  · isplitr; · iexact HI
    iexact Hr
  imod Hu
  imod Hr
  imodintro
  iapply (Entails.of_eq (used_rest c _).symm)
  isplitl [Hu]; · iexact Hu
  iexact Hr

/-! ## Before and after -/

/-- The leave to pay that device `c` holds. -/
def toksOf (c : Dev nD) : sProp 𝕄 :=
  iprop((bigSep Finset.univ fun i : Fin 7 => dutyTok ER (barC (nx c i)) 0 c)
    ∗ (bigSep Finset.univ fun i : Fin 7 => tokD c c 0 (sucI i)) ∗ (bigSep Finset.univ fun i : Fin 7 => tokD c c 2 (sucI i))
    ∗ (bigSep Finset.univ fun i : Fin 7 => tokD c (nx c i) 1 c) ∗ (bigSep Finset.univ fun i : Fin 7 => tokD c (nx c i) 3 c)
    ∗ (bigSep Finset.univ fun i : Fin 6 => tokD c c 4 (xs i)) ∗ (bigSep Finset.univ fun i : Fin 6 => tokD c (px (xr i) c) 5 (xs i)))

/-- What device `c` will be paid. -/
def credsOf (c : Dev nD) : sProp 𝕄 :=
  iprop(cred (tallyAt (barC c) () 7) ∗ (bigSep Finset.univ fun i : Fin 7 => credD (F := F) c 1 (pv c i) NK) ∗ (bigSep Finset.univ fun i : Fin 7 => credD (F := F) c 3 (pv c i) NK)
    ∗ (bigSep Finset.univ fun i : Fin 6 => credD (F := F) c 5 (xs i) (NO (xs i))))

/-- The scratch buffers, at contents not chosen. -/
def scratches (c : Dev nD) : sProp 𝕄 :=
  iprop((∃ f, pt (F := F) c cc0_scratch0 fullShare f) ∗ (∃ f, pt (F := F) c cc0_scratch1 fullShare f) ∗ (∃ f, pt (F := F) c cc0_scratch2 fullShare f)
    ∗ (∃ f, pt (F := F) c cc0_scratch3 fullShare f) ∗ (∃ f, pt (F := F) c cc0_scratch4 fullShare f) ∗ (∃ f, pt (F := F) c cc0_scratch5 fullShare f)
    ∗ (∃ f, pt (F := F) c cc0_scratch6 fullShare f))

/-- The staged arguments. -/
def staged (c : Dev nD) : sProp 𝕄 :=
  iprop(pt c cc0_stg0_0 fullShare (I.x c) ∗ pt c cc0_stg1_0 fullShare (I.wq c) ∗ pt c cc0_stg2_0 fullShare (I.k c) ∗ pt c cc0_stg3_0 fullShare (I.v c)
    ∗ pt c cc0_stg4_0 fullShare (I.wo c))

def bodyPre : sProp 𝕄 :=
  iprop(env I K c ∗ atPos ER (barC c) 0 ∅ 0 ∗ (bigSep Finset.univ fun k : Fin 6 × Fin 8 => posD (F := F) c k.1 k.2 0) ∗ toksOf (F := F) c ∗ credsOf (F := F) c
    ∗ staged I c ∗ (∃ f, pt (F := F) c cc0_stg5_0 fullShare f) ∗ scratches (F := F) c ∗ owesE c (O₀ c))

def bodyPost : sProp 𝕄 :=
  iprop(semVal (barC c) 0 ∗ (bigSep Finset.univ fun k : Fin 6 × Fin 8 => semVal (gOf c (some k)) 0)
    ∗ staged I c ∗ pt c cc0_stg5_0 fullShare (outv (total I)) ∗ scratches (F := F) c ∗ owesE c 0)

/-! ## The run, in two halves -/

/-- What is left beside the gathered keys and values when they are gathered. -/
def mid : sProp 𝕄 :=
  iprop(env I K c ∗ peers (F := F) c ∗ atPos ER (barC c) 1 ∅ 0 ∗ bigSep (Finset.univ \ used c) (fun k => posD (F := F) c k.1 k.2 0)
    ∗ (bigSep Finset.univ fun i : Fin 7 => posD (F := F) c 1 (pv c i) 1) ∗ (bigSep Finset.univ fun i : Fin 7 => posD (F := F) c 3 (pv c i) 1) ∗ (bigSep Finset.univ (drainU (F := F) c)) ∗ (bigSep Finset.univ (xU (F := F) c))
    ∗ (onAny (px 0 c) land0 ∗ onAny (px 1 c) land1 ∗ onAny (px 2 c) land2) ∗ (∃ f, stp (F := F) c stRest f)
    ∗ pt c cc0_stg0_0 fullShare (I.x c) ∗ pt c cc0_stg1_0 fullShare (I.wq c) ∗ pt c cc0_stg2_0 qL (I.k c) ∗ pt c cc0_stg3_0 qL (I.v c)
    ∗ pt c cc0_stg4_0 fullShare (I.wo c)
    ∗ (kM.view.loc (c : Thread nD τ) ↦[headSet c]{qH} I.k c) ∗ (vM.view.loc (c : Thread nD τ) ↦[headSet c]{qH} I.v c)
    ∗ (∃ f, pt (F := F) c cc0_stg5_0 fullShare f)
    ∗ pt c cc0_scratch0 fullShare (qv I c) ∗ pt c cc0_scratch1 fullShare (kgv I c) ∗ pt c cc0_scratch2 fullShare (vgv I c)
    ∗ (∃ f, pt (F := F) c cc0_scratch3 fullShare f) ∗ (∃ f, pt (F := F) c cc0_scratch4 fullShare f) ∗ (∃ f, pt (F := F) c cc0_scratch5 fullShare f)
    ∗ owesE c (tail (tX c) 0))

/-- The body up to the gathered keys and values, then `rest`. -/
def firstP (d : Dev nD) (rest : P (F := F) PUnit) : P (F := F) PUnit := do
  each (signalP d) [0, 1, 2, 3, 4, 5, 6]
  semWaitWord barS 7#32
  each (sendKV d) [0, 1, 2, 3, 4, 5, 6]
  ownKV d
  each queryP [0, 1]
  each (recvKV d) [0, 1, 2, 3, 4, 5, 6]
  rest

def secondP (d : Dev nD) : P (F := F) PUnit := do
  each headP [(0, 0), (0, 1), (0, 2), (0, 3), (1, 0), (1, 1), (1, 2), (1, 3)]
  projP
  exchP (devX0 d) (accS0 d) land0 (semI cc0_scratch11 1) (semI cc0_scratch12 1) (accS0_we d) land0_we
  add0 d
  exchP (devX1 d) (accS1 d) land1 (semI cc0_scratch11 2) (semI cc0_scratch12 2) (accS1_we d) land1_we
  add1 d
  exchP (devX2 d) (accS2 d) land2 (semI cc0_scratch11 3) (semI cc0_scratch12 3) (accS2_we d) land2_we
  add2 d
  exchP (devX3 d) (gat0 d) (gat0 d) (semI cc0_scratch11 7) (semI cc0_scratch12 7) (gat0_we d) (gat0_we d)
  exchP (devX4 d) (gat1 d) (gat1 d) (semI cc0_scratch11 6) (semI cc0_scratch12 6) (gat1_we d) (gat1_we d)
  exchP (devX5 d) (gat2 d) (gat2 d) (semI cc0_scratch11 5) (semI cc0_scratch12 5) (gat2_we d) (gat2_we d)
  each outP [0, 1]
  each (drainKV d) [0, 1, 2, 3, 4, 5, 6]

theorem bodyP_eq (d : Dev nD) : bodyP (F := F) d = firstP d (secondP d) := rfl

/-- What is signalled to the others. -/
theorem give_all :
    iprop(reachedAll (F := F) c ∗ (bigSep Finset.univ fun i : Fin 7 => onAny (F := F) c (slotOf kgM (nx c i))) ∗ (bigSep Finset.univ fun i : Fin 7 => onAny (F := F) c (slotOf vgM (nx c i)))
        ∗ (onAny (F := F) c land0 ∗ onAny (F := F) c land1 ∗ onAny (F := F) c land2) ∗ (bigSep Finset.univ fun i : Fin 7 => dutyTok ER (barC (nx c i)) 0 c))
      ⊢ bigSep Finset.univ (sigU (F := F) c) := by
  iintro ⟨#Hr, Hk, Hv, Hs, Ht⟩
  ihave Hs := (Entails.of_eq ((stPay_give c).symm.trans (around_nx c _))) $$ Hs
  ihave H := (Entails.of_eq (bigSep_sep' Finset.univ _ _).symm) $$ [Hv Hs]
  · isplitl [Hv]; · iexact Hv
    iexact Hs
  ihave H := (Entails.of_eq (bigSep_sep' Finset.univ _ _).symm) $$ [Hk H]
  · isplitl [Hk]; · iexact Hk
    iexact H
  ihave H := (Entails.of_eq (bigSep_sep' Finset.univ _ _).symm) $$ [Ht H]
  · isplitl [Ht]; · iexact Ht
    iexact H
  iapply (bigSep_with_persistent (R := reachedAll (F := F) c) (Φ := fun i : Fin 7 => iprop(dutyTok ER (barC (nx c i)) 0 c ∗ onAny (F := F) c (slotOf kgM (nx c i)) ∗ onAny (F := F) c (slotOf vgM (nx c i)) ∗ stPay (F := F) (nx c i) c)) (fun i _ => show _ ⊢ sigU (F := F) c i from by
    unfold sigU barPay
    iintro ⟨Hr, Ht, Hk, Hv, Hs⟩
    isplitl [Ht]; · iexact Ht
    isplitl [Hk]; · iexact Hk
    isplitl [Hv]; · iexact Hv
    isplitl [Hs]; · iexact Hs
    iexact Hr))
  isplitr; · iexact Hr
  iexact H

/-- What the others signalled. -/
theorem got_all : bigSep (Finset.univ.erase c) (fun p => barPay (F := F) c p)
    ⊢ iprop((bigSep Finset.univ fun i : Fin 7 => onAny (F := F) (nx c i) (slotOf kgM c)) ∗ (bigSep Finset.univ fun i : Fin 7 => onAny (F := F) (nx c i) (slotOf vgM c))
        ∗ (onAny (F := F) (px 0 c) land0 ∗ onAny (F := F) (px 1 c) land1 ∗ onAny (F := F) (px 2 c) land2) ∗ peers (F := F) c) := by
  unfold barPay peers
  rw [bigSep_sep', bigSep_sep', bigSep_sep', stPay_got, around_nx c fun p => onAny (F := F) p (slotOf kgM c), around_nx c fun p => onAny (F := F) p (slotOf vgM c)]

theorem kv_all :
    iprop((bigSep Finset.univ fun i : Fin 7 => on c (srcOf kM c i) qH (I.k c)) ∗ (bigSep Finset.univ fun i : Fin 7 => on c (srcOf vM c i) qH (I.v c))
        ∗ (bigSep Finset.univ fun i : Fin 7 => onAny (F := F) (nx c i) (slotOf kgM c)) ∗ (bigSep Finset.univ fun i : Fin 7 => onAny (F := F) (nx c i) (slotOf vgM c))
        ∗ (bigSep Finset.univ fun i : Fin 7 => tokD c c 0 (sucI i)) ∗ (bigSep Finset.univ fun i : Fin 7 => tokD c c 2 (sucI i))
        ∗ (bigSep Finset.univ fun i : Fin 7 => tokD c (nx c i) 1 c) ∗ (bigSep Finset.univ fun i : Fin 7 => tokD c (nx c i) 3 c))
      = bigSep Finset.univ (kvU I c) := by
  unfold kvU
  simp only [bigSep_sep']

theorem recv_all :
    iprop((bigSep Finset.univ fun i : Fin 7 => credD (F := F) c 1 (pv c i) NK) ∗ (bigSep Finset.univ fun i : Fin 7 => credD (F := F) c 3 (pv c i) NK)
        ∗ (bigSep Finset.univ fun i : Fin 7 => posD (F := F) c 1 (pv c i) 0) ∗ (bigSep Finset.univ fun i : Fin 7 => posD (F := F) c 3 (pv c i) 0))
      = bigSep Finset.univ (recvU (F := F) c) := by
  unfold recvU
  simp only [bigSep_sep']

theorem recv_done : bigSep Finset.univ (recvD I c)
    = iprop((bigSep Finset.univ fun i : Fin 7 => posD (F := F) c 1 (pv c i) 1) ∗ (bigSep Finset.univ fun i : Fin 7 => posD (F := F) c 3 (pv c i) 1)
        ∗ (bigSep Finset.univ fun i : Fin 7 => on c (slotOf kgM (pv c i)) fullShare (kgv I c)) ∗ (bigSep Finset.univ fun i : Fin 7 => on c (slotOf vgM (pv c i)) fullShare (vgv I c))) := by
  unfold recvD
  simp only [bigSep_sep']

theorem drain_all :
    iprop(bigSep Finset.univ (kvD (F := F) c) ∗ (bigSep Finset.univ fun i : Fin 7 => posD (F := F) c 0 (sucI i) 0) ∗ (bigSep Finset.univ fun i : Fin 7 => posD (F := F) c 2 (sucI i) 0))
      ⊢ bigSep Finset.univ (drainU (F := F) c) := by
  unfold drainU kvD
  simp only [bigSep_sep']
  iintro ⟨⟨H1, H2⟩, H3, H4⟩
  isplitl [H1]; · iexact H1
  isplitl [H2]; · iexact H2
  isplitl [H3]; · iexact H3
  iexact H4

theorem drain_done : bigSep Finset.univ (drainD I c)
    = iprop((bigSep Finset.univ fun i : Fin 7 => posD (F := F) c 0 (sucI i) 1) ∗ (bigSep Finset.univ fun i : Fin 7 => posD (F := F) c 2 (sucI i) 1)
        ∗ (bigSep Finset.univ fun i : Fin 7 => on c (srcOf kM c i) qH (I.k c)) ∗ (bigSep Finset.univ fun i : Fin 7 => on c (srcOf vM c i) qH (I.v c))) := by
  unfold drainD
  simp only [bigSep_sep']

theorem x_all :
    iprop((bigSep Finset.univ fun i : Fin 6 => tokD c c 4 (xs i)) ∗ (bigSep Finset.univ fun i : Fin 6 => tokD c (px (xr i) c) 5 (xs i))
        ∗ (bigSep Finset.univ fun i : Fin 6 => credD (F := F) c 5 (xs i) (NO (xs i)))
        ∗ (bigSep Finset.univ fun i : Fin 6 => posD (F := F) c 4 (xs i) 0) ∗ (bigSep Finset.univ fun i : Fin 6 => posD (F := F) c 5 (xs i) 0))
      = bigSep Finset.univ (xU (F := F) c) := by
  unfold xU
  simp only [bigSep_sep']

theorem x_done : bigSep Finset.univ (xD (F := F) c)
    = iprop((bigSep Finset.univ fun i : Fin 6 => posD (F := F) c 4 (xs i) 1) ∗ (bigSep Finset.univ fun i : Fin 6 => posD (F := F) c 5 (xs i) 1)) := by
  unfold xD
  simp only [bigSep_sep']

set_option maxHeartbeats 800000 in
theorem run_first (rest : P (F := F) PUnit) (Q : PUnit → sProp 𝕄) :
    bodyPre I K c ⊢ iprop((mid I K c -∗ W c rest Q) -∗ W c (firstP c rest) Q) := by
  unfold bodyPre toksOf credsOf scratches staged
  iintro ⟨#He, HpB, Hpos, ⟨Tb, T0, T2, T1, T3, T4, T5⟩, ⟨Cb, C1, C3, C5⟩, ⟨Hx, Hwq, Hk, Hv, Hwo⟩, Ho, ⟨S0, S1, S2, S3, S4, S5, S6⟩, HO⟩ HQ
  ihave Hpos := (Entails.of_eq (used_rest c _)) $$ Hpos
  icases Hpos with ⟨Hpos, HposR⟩
  ihave Hpos := (Entails.of_eq (used_split c _)) $$ Hpos
  icases Hpos with ⟨⟨P0, P2, P1, P3⟩, P4, P5⟩
  ihave Hk := (halves c cc0_stg2_0 (I.k c)).1 $$ Hk
  icases Hk with ⟨HkL, HkH⟩
  ihave HkH := (Entails.of_eq (heads_eq c (I.k c))) $$ HkH
  icases HkH with ⟨HkO, HkH⟩
  ihave Hv := (halves c cc0_stg3_0 (I.v c)).1 $$ Hv
  icases Hv with ⟨HvL, HvH⟩
  ihave HvH := (Entails.of_eq (headsV_eq c (I.v c))) $$ HvH
  icases HvH with ⟨HvO, HvH⟩
  ihave S1 := (split_slots c) $$ S1
  icases S1 with ⟨Hkg, S1⟩
  ihave S2 := (split_slotsV c) $$ S2
  icases S2 with ⟨Hvg, S2⟩
  ihave S6 := (split_st c) $$ S6
  icases S6 with ⟨L0, L1, L2, LR⟩
  ihave Hsig := (give_all c) $$ [S1 S2 L0 L1 L2 Tb]
  · isplitr; · unfold env; icases He with ⟨-, -, -, Hr⟩; iexact Hr
    isplitl [S1]; · iexact S1
    isplitl [S2]; · iexact S2
    isplitl [L0 L1 L2]
    · isplitl [L0]; · iexact L0
      isplitl [L1]; · iexact L1
      iexact L2
    iexact Tb
  unfold firstP
  rw [W_bind]
  iapply (each_fin c 7 id (signalP c) (invSig I K c (tail (tKV c) 0 + tail (tX c) 0)) _ rfl (step_signal I K c _) _) $$ [Hsig HO]
  · unfold invSig
    isplitr; · iexact He
    isplitl [Hsig]; · iapply (Entails.of_eq (fam_zero _ _).symm); iexact Hsig
    iexact HO
  unfold invSig
  iintro ⟨-, -, HO⟩
  ihave HO := (Entails.of_eq (show (owesE c (tail (tBar c) 7 + (tail (tKV c) 0 + tail (tX c) 0)) : sProp 𝕄) = owesE c (tail (tKV c) 0 + tail (tX c) 0) from by
    rw [tail_end, zero_add])) $$ HO
  rw [W_bind]
  iapply (run_barrier I K c _ (above_add (above_KV c 0) (above_X c 1 0 (by decide))) _) $$ [Cb HO HpB]
  · unfold env; icases He with ⟨HI, Hl, -, -⟩
    isplitr; · iexact HI
    isplitr; · iexact Hl
    isplitl [Cb]; · iexact Cb
    isplitl [HO]; · iexact HO
    iexact HpB
  iintro ⟨HO, HpB, Hgot⟩
  ihave Hgot := (got_all c) $$ Hgot
  icases Hgot with ⟨Gk, Gv, GL, #Hp⟩
  ihave Hkv := (Entails.of_eq (kv_all I c)) $$ [HkH HvH Gk Gv T0 T2 T1 T3]
  · isplitl [HkH]; · iexact HkH
    isplitl [HvH]; · iexact HvH
    isplitl [Gk]; · iexact Gk
    isplitl [Gv]; · iexact Gv
    isplitl [T0]; · iexact T0
    isplitl [T2]; · iexact T2
    isplitl [T1]; · iexact T1
    iexact T3
  rw [W_bind]
  iapply (each_fin c 7 id (sendKV c) (invKV I K c (tail (tX c) 0)) _ rfl (step_kv I K c _) _) $$ [Hkv HO]
  · unfold invKV
    isplitr; · iexact He
    isplitr; · iexact Hp
    isplitl [Hkv]; · iapply (Entails.of_eq (fam_zero _ _).symm); iexact Hkv
    iexact HO
  unfold invKV
  iintro ⟨-, -, Hkv, HO⟩
  ihave HO := (Entails.of_eq (show (owesE c (tail (tKV c) 7 + tail (tX c) 0) : sProp 𝕄) = owesE c (tail (tX c) 0) from by
    rw [tail_end, zero_add])) $$ HO
  ihave Hkv := (Entails.of_eq (fam_end _ _)) $$ Hkv
  rw [W_bind]
  iapply (run_own I c _) $$ [HkL HvL Hkg Hvg]
  · isplitl [HkL]; · iexact HkL
    isplitl [HvL]; · iexact HvL
    isplitl [Hkg]; · iexact Hkg
    iexact Hvg
  iintro ⟨HkL, HvL, Hkg, Hvg⟩
  rw [W_bind]
  iapply (each_fin c 2 id queryP (invQ I c fullShare) _ rfl (run_query I c fullShare) _) $$ [Hx Hwq S0]
  · unfold invQ
    isplitl [Hx]; · iexact Hx
    isplitl [Hwq]; · iexact Hwq
    icases S0 with ⟨%f, S0⟩
    iexists f
    isplitr; · ipureintro; exact fun j h => absurd h (Nat.not_lt_zero _)
    iexact S0
  unfold invQ
  iintro ⟨Hx, Hwq, ⟨%fq, %hq, S0⟩⟩
  ihave S0 := (Entails.of_eq (show (pt c cc0_scratch0 fullShare fq : sProp 𝕄) = pt c cc0_scratch0 fullShare (qv I c) from by
    rw [show fq = qv I c from funext fun j => hq j (j (0 : Fin 3)).isLt])) $$ S0
  rw [W_bind]
  ihave Hrc := (Entails.of_eq (recv_all c)) $$ [C1 C3 P1 P3]
  · isplitl [C1]; · iexact C1
    isplitl [C3]; · iexact C3
    isplitl [P1]; · iexact P1
    iexact P3
  iapply (each_fin c 7 id (recvKV c) (invRecv I K c (tail (tX c) 0)) _ rfl (step_recv I K c _ (above_X c 2 0 (by decide))) _) $$ [Hrc HO]
  · unfold invRecv
    isplitr; · iexact He
    isplitl [Hrc]; · iapply (Entails.of_eq (fam_zero _ _).symm); iexact Hrc
    iexact HO
  unfold invRecv
  iintro ⟨-, Hrc, HO⟩
  ihave Hrc := (Entails.of_eq ((fam_end _ _).trans (recv_done I c))) $$ Hrc
  icases Hrc with ⟨P1, P3, Gk, Gv⟩
  iapply HQ
  unfold mid
  isplitr; · iexact He
  isplitr; · iexact Hp
  isplitl [HpB]; · iexact HpB
  isplitl [HposR]; · iexact HposR
  isplitl [P1]; · iexact P1
  isplitl [P3]; · iexact P3
  isplitl [Hkv P0 P2]
  · iapply (drain_all c)
    isplitl [Hkv]; · iexact Hkv
    isplitl [P0]; · iexact P0
    iexact P2
  isplitl [T4 T5 C5 P4 P5]
  · iapply (Entails.of_eq (x_all c))
    isplitl [T4]; · iexact T4
    isplitl [T5]; · iexact T5
    isplitl [C5]; · iexact C5
    isplitl [P4]; · iexact P4
    iexact P5
  isplitl [GL]; · iexact GL
  isplitl [LR]; · iexact LR
  isplitl [Hx]; · iexact Hx
  isplitl [Hwq]; · iexact Hwq
  isplitl [HkL]; · iexact HkL
  isplitl [HvL]; · iexact HvL
  isplitl [Hwo]; · iexact Hwo
  isplitl [HkO]; · iexact HkO
  isplitl [HvO]; · iexact HvO
  isplitl [Ho]; · iexact Ho
  isplitl [S0]; · iexact S0
  isplitl [Hkg Gk]
  · iapply (Entails.of_eq (join_slots c (kgv I c)))
    isplitl [Hkg]; · iexact Hkg
    iexact Gk
  isplitl [Hvg Gv]
  · iapply (Entails.of_eq (join_slotsV c (vgv I c)))
    isplitl [Hvg]; · iexact Hvg
    iexact Gv
  isplitl [S3]; · iexact S3
  isplitl [S4]; · iexact S4
  isplitl [S5]; · iexact S5
  iexact HO

set_option maxHeartbeats 800000 in
theorem run_second (Q : PUnit → sProp 𝕄) : mid I K c ⊢ iprop((bodyPost I c -∗ Q ⟨⟩) -∗ W c (secondP c) Q) := by
  rw [show (secondP (F := F) c) = (secondP (F := F) c >>= pure) from (bind_pure _).symm, W_bind]
  unfold mid
  iintro ⟨#He, #Hp, HpB, HposR, P1, P3, Hdr, Hxc, GL, LR, Hx, Hwq, HkL, HvL, Hwo, HkO, HvO, Ho, S0, S1, S2, S3, S4, ⟨%fa, S5⟩, HO⟩ HQ
  icases GL with ⟨G0, G1, G2⟩
  unfold secondP
  rw [W_bind]
  iapply (each_fin c 8 headOf headP (invH I c fullShare) _ rfl (run_head I c fullShare) _) $$ [S0 S1 S2 S3 S4]
  · unfold invH
    isplitl [S0]; · iexact S0
    isplitl [S1]; · iexact S1
    isplitl [S2]; · iexact S2
    isplitl [S3]; · iexact S3
    icases S4 with ⟨%f, S4⟩
    iexists f
    isplitr; · ipureintro; exact fun j h => absurd h (Nat.not_lt_zero _)
    iexact S4
  unfold invH
  iintro ⟨S0, S1, S2, S3, ⟨%fc, %hc, S4⟩⟩
  ihave S4 := (Entails.of_eq (show (pt c cc0_scratch4 fullShare fc : sProp 𝕄) = pt c cc0_scratch4 fullShare (ctxv I c) from by
    rw [show fc = ctxv I c from funext fun j => hc j (by
      have h0 : (j (0 : Fin 3)).val < 2 := (j (0 : Fin 3)).isLt
      have h2 : (j (2 : Fin 3)).val < 256 := (j (2 : Fin 3)).isLt
      omega)])) $$ S4
  rw [W_bind]
  iapply (run_proj I c fullShare fa _) $$ [S4 Hwo S5]
  · isplitl [S4]; · iexact S4
    isplitl [Hwo]; · iexact Hwo
    iexact S5
  iintro ⟨S4, Hwo, S5⟩
  rw [W_bind]
  iapply (step_ex0 I K c _) $$ [Hxc HO S5 G0]
  · isplitl [Hxc HO]
    · unfold invX
      isplitr; · iexact He
      isplitr; · iexact Hp
      isplitl [Hxc]; · iapply (Entails.of_eq (fam_zero _ _).symm); iexact Hxc
      iexact HO
    isplitl [S5]; · iexact S5
    iexact G0
  iintro ⟨HX, Ha, Hr⟩
  rw [W_bind]
  iapply (step_add0 I c _) $$ [Ha Hr]
  · isplitl [Ha]; · iexact Ha
    iexact Hr
  iintro ⟨Ha, L0, D0⟩
  rw [W_bind]
  iapply (step_ex1 I K c _) $$ [HX Ha G1]
  · isplitl [HX]; · iexact HX
    isplitl [Ha]; · iexact Ha
    iexact G1
  iintro ⟨HX, Ha, Hr⟩
  rw [W_bind]
  iapply (step_add1 I c _) $$ [Ha Hr]
  · isplitl [Ha]; · iexact Ha
    iexact Hr
  iintro ⟨Ha, L1, D1⟩
  rw [W_bind]
  iapply (step_ex2 I K c _) $$ [HX Ha G2]
  · isplitl [HX]; · iexact HX
    isplitl [Ha]; · iexact Ha
    iexact G2
  iintro ⟨HX, Ha, Hr⟩
  rw [W_bind]
  iapply (step_add2 I c _) $$ [Ha Hr]
  · isplitl [Ha]; · iexact Ha
    iexact Hr
  iintro ⟨Ha, L2, D2⟩
  rw [W_bind]
  iapply (step_ex3 I K c _) $$ [HX Ha D2]
  · isplitl [HX]; · iexact HX
    isplitl [Ha]; · iexact Ha
    iexact D2
  iintro ⟨HX, Ha⟩
  rw [W_bind]
  iapply (step_ex4 I K c _) $$ [HX Ha D1]
  · isplitl [HX]; · iexact HX
    isplitl [Ha]; · iexact Ha
    iexact D1
  iintro ⟨HX, Ha⟩
  rw [W_bind]
  iapply (step_ex5 I K c _) $$ [HX Ha D0]
  · isplitl [HX]; · iexact HX
    isplitl [Ha]; · iexact Ha
    iexact D0
  iintro ⟨HX, Ha⟩
  unfold invX
  icases HX with ⟨-, -, Hxc, HO⟩
  ihave HO := (Entails.of_eq (show (owesE c (tail (tX c) 6) : sProp 𝕄) = owesE c 0 from by rw [tail_end])) $$ HO
  ihave Hxc := (Entails.of_eq ((fam_end _ _).trans (x_done c))) $$ Hxc
  icases Hxc with ⟨P4, P5⟩
  rw [W_bind]
  iapply (each_fin c 2 id outP (invO c (total I)) _ rfl (run_out c (total I)) _) $$ [Ha Ho]
  · unfold invO
    isplitl [Ha]; · iexact Ha
    icases Ho with ⟨%f, Ho⟩
    iexists f
    isplitr; · ipureintro; exact fun j h => absurd h (Nat.not_lt_zero _)
    iexact Ho
  unfold invO
  iintro ⟨Ha, ⟨%fo, %ho, Ho⟩⟩
  ihave Ho := (Entails.of_eq (show (pt c cc0_stg5_0 fullShare fo : sProp 𝕄) = pt c cc0_stg5_0 fullShare (outv (total I)) from by
    rw [show fo = outv (total I) from funext fun j => ho j (j (0 : Fin 3)).isLt])) $$ Ho
  iapply (each_fin c 7 id (drainKV c) (invDrain I K c) _ rfl (step_drain I K c) _) $$ [Hdr HO]
  · unfold invDrain
    isplitr; · iexact He
    isplitl [Hdr]; · iapply (Entails.of_eq (fam_zero _ _).symm); iexact Hdr
    iexact HO
  unfold invDrain
  iintro ⟨-, Hdr, HO⟩
  ihave Hdr := (Entails.of_eq ((fam_end _ _).trans (drain_done I c))) $$ Hdr
  icases Hdr with ⟨P0, P2, HkH, HvH⟩
  rw [W_pure]
  imod (close_used I K c none) $$ [HpB] with HsB
  · isplitr; · unfold env; icases He with ⟨HI, -⟩; iexact HI
    iexact HpB
  imod (close_all I K c) $$ [P0 P1 P2 P3 P4 P5 HposR] with Hsem
  · isplitr; · unfold env; icases He with ⟨HI, -⟩; iexact HI
    isplitr [HposR]
    · iapply (Entails.of_eq (used_split c _).symm)
      isplitl [P0 P1 P2 P3]
      · isplitl [P0]; · iexact P0
        isplitl [P2]; · iexact P2
        isplitl [P1]; · iexact P1
        iexact P3
      isplitl [P4]; · iexact P4
      iexact P5
    iexact HposR
  imodintro
  iapply HQ
  unfold bodyPost staged scratches
  isplitl [HsB]; · iexact HsB
  isplitl [Hsem]; · iexact Hsem
  isplitl [Hx Hwq HkL HvL Hwo HkO HvO HkH HvH]
  · isplitl [Hx]; · iexact Hx
    isplitl [Hwq]; · iexact Hwq
    isplitl [HkL HkO HkH]
    · iapply (halves c cc0_stg2_0 (I.k c)).2
      isplitl [HkL]; · iexact HkL
      iapply (Entails.of_eq (heads_eq c (I.k c)).symm)
      isplitl [HkO]; · iexact HkO
      iexact HkH
    isplitl [HvL HvO HvH]
    · iapply (halves c cc0_stg3_0 (I.v c)).2
      isplitl [HvL]; · iexact HvL
      iapply (Entails.of_eq (headsV_eq c (I.v c)).symm)
      isplitl [HvO]; · iexact HvO
      iexact HvH
    iexact Hwo
  isplitl [Ho]; · iexact Ho
  isplitr [HO]
  · isplitl [S0]; · iexists _; iexact S0
    isplitl [S1]; · iexists _; iexact S1
    isplitl [S2]; · iexists _; iexact S2
    isplitl [S3]; · iexact S3
    isplitl [S4]; · iexists _; iexact S4
    isplitl [Ha]; · iexists _; iexact Ha
    iapply (join_st c)
    isplitl [L0]; · iexact L0
    isplitl [L1]; · iexact L1
    isplitl [L2]; · iexact L2
    iexact LR
  iexact HO

/-- The whole body, at device `c`. -/
theorem run_body (Q : PUnit → sProp 𝕄) : bodyPre I K c ⊢ iprop((bodyPost I c -∗ Q ⟨⟩) -∗ W c wholeP Q) := by
  unfold wholeP
  simp only [Prog.lift, Prog.bind_op, Prog.bind_ret, wp_deviceId]
  rw [bodyP_eq]
  iintro H HQ
  iapply (run_first I K c (secondP c) Q) $$ H
  iintro H
  iapply (run_second I K c Q) $$ H
  iexact HQ

end Cert.KernelIdeal.Run

end
-- ==== Proof.Deal.lean ====
/-
What the launch hands each device: the records of the cells, the leave to pay, and the credit of what it will be paid.
-/
module

public import proofs.«01_k».proof.Proof.Body
public import Idealize.ShloMosaic.Lib.Pipeline.RegionTalk

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Ins F) (K : GSem nD τ sig → ℕ) (c : Dev nD)

/-! ## The cells -/

theorem gOf_inj : Function.Injective (fun x : Dev nD × CI => gOf x.1 x.2) := fun a b h =>
  Prod.ext (congrArg (fun g : GSem nD τ sig => g.1.1) h) (semOf_inj (congrArg Prod.snd h))

theorem gOf_eq (p q : Dev nD) (k l : CI) : gOf p k = gOf q l ↔ (p, k) = (q, l) :=
  ⟨fun h => gOf_inj (a₁ := (p, k)) (a₂ := (q, l)) h, fun h => by cases h; rfl⟩

noncomputable def barEmb : Dev nD ↪ GSem nD τ sig := ⟨fun p => barC p, fun _ _ h => congrArg (fun g : GSem nD τ sig => g.1.1) h⟩
noncomputable def arrEmb : Dev nD × (Fin 6 × Fin 8) ↪ GSem nD τ sig :=
  ⟨fun x => gOf x.1 (some x.2), fun a b h => by
    have e := (gOf_eq a.1 b.1 (some a.2) (some b.2)).1 h
    exact Prod.ext (congrArg (fun x : Dev nD × CI => x.1) e) (Option.some.inj (congrArg (fun x : Dev nD × CI => x.2) e))⟩

/-- The barriers, and the cells of the six arrays. -/
noncomputable abbrev barCells : Finset (GSem nD τ sig) := Finset.univ.map barEmb
noncomputable abbrev arrCells : Finset (GSem nD τ sig) := Finset.univ.map arrEmb

theorem disjoint_cells : Disjoint barCells arrCells := by
  rw [Finset.disjoint_left]
  rintro g h₁ h₂
  obtain ⟨p, -, rfl⟩ := Finset.mem_map.mp h₁
  obtain ⟨x, -, h⟩ := Finset.mem_map.mp h₂
  have e := (gOf_eq x.1 p (some x.2) none).1 h
  exact absurd (congrArg Prod.snd e) (by simp)

theorem cell_mem (x : Dev nD × CI) : gOf x.1 x.2 ∈ barCells ∪ arrCells := by
  obtain ⟨p, _ | k⟩ := x
  · exact Finset.mem_union_left _ (Finset.mem_map_of_mem barEmb (Finset.mem_univ p))
  · exact Finset.mem_union_right _ (Finset.mem_map_of_mem arrEmb (Finset.mem_univ (p, k)))

/-! ## The leave to pay -/

abbrev Pays : Type := Fin 7 ⊕ Slots

/-- The cells device `d` pays. -/
def payIx (d : Dev nD) : Pays → Dev nD × CI
  | .inl i => (nx d i, none)
  | .inr (.inl (.inl i)) => (d, some (0, sucI i))
  | .inr (.inl (.inr (.inl i))) => (d, some (2, sucI i))
  | .inr (.inl (.inr (.inr (.inl i)))) => (nx d i, some (1, d))
  | .inr (.inl (.inr (.inr (.inr i)))) => (nx d i, some (3, d))
  | .inr (.inr (.inl i)) => (d, some (4, xs i))
  | .inr (.inr (.inr i)) => (px (xr i) d, some (5, xs i))

theorem payIx_inj (d : Dev nD) : Function.Injective (payIx d) := by
  have hn : Function.Injective (nx d) := (nxE d).injective
  rintro (i | (i | i | i | i) | (i | i)) (j | (j | j | j | j) | (j | j)) h <;> simp only [payIx, Prod.mk.injEq, Option.some.injEq] at h <;>
    first
    | exact absurd h.2.1 (by decide)
    | rw [sucI_inj h.2.2]
    | rw [xs_inj h.2.2]
    | (rw [hn h.1]; done)
    | exact absurd h.2 (fun e => nomatch e)

noncomputable def tokEmb : Dev nD × Pays ↪ GSem nD τ sig × ℕ × Dev nD :=
  ⟨fun x => (gOf (payIx x.1 x.2).1 (payIx x.1 x.2).2, 0, x.1), fun a b h => by
    obtain ⟨d, j⟩ := a
    obtain ⟨d', j'⟩ := b
    have e : d = d' := congrArg (fun t : GSem nD τ sig × ℕ × Dev nD => t.2.2) h
    subst e
    have e := gOf_inj (congrArg Prod.fst h : gOf (payIx d j).1 (payIx d j).2 = gOf (payIx d j').1 (payIx d j').2)
    exact congrArg (Prod.mk d) (payIx_inj d e)⟩

theorem tok_assoc_l (A B C D E G H : sProp 𝕄) : iprop(A ∗ (B ∗ C ∗ D ∗ E) ∗ G ∗ H) ⊢ iprop(A ∗ B ∗ C ∗ D ∗ E ∗ G ∗ H) := by
  iintro ⟨H0, ⟨H1, H2, H3, H4⟩, H5, H6⟩
  isplitl [H0]; · iexact H0
  isplitl [H1]; · iexact H1
  isplitl [H2]; · iexact H2
  isplitl [H3]; · iexact H3
  isplitl [H4]; · iexact H4
  isplitl [H5]; · iexact H5
  iexact H6

theorem tok_assoc_r (A B C D E G H : sProp 𝕄) : iprop(A ∗ B ∗ C ∗ D ∗ E ∗ G ∗ H) ⊢ iprop(A ∗ (B ∗ C ∗ D ∗ E) ∗ G ∗ H) := by
  iintro ⟨H0, H1, H2, H3, H4, H5, H6⟩
  isplitl [H0]; · iexact H0
  isplitl [H1 H2 H3 H4]
  · isplitl [H1]; · iexact H1
    isplitl [H2]; · iexact H2
    isplitl [H3]; · iexact H3
    iexact H4
  isplitl [H5]; · iexact H5
  iexact H6

noncomputable abbrev allToks : Finset (GSem nD τ sig × ℕ × Dev nD) := Finset.univ.map tokEmb

theorem toks_deal : bigSep allToks (fun x => (dutyTok ER x.1 x.2.1 x.2.2 : sProp 𝕄)) = bigSep Finset.univ fun d : Dev nD => toksOf (F := F) d := by
  rw [bigSep_map, bigSep_univ_prod]
  refine bigSep_congr fun d _ => ?_
  unfold toksOf
  rw [bigSep_univ_sum, bigSep_univ_sum, bigSep_univ_sum, bigSep_univ_sum, bigSep_univ_sum, bigSep_univ_sum]
  exact BI.equiv_iff.mp ⟨tok_assoc_l _ _ _ _ _ _ _, tok_assoc_r _ _ _ _ _ _ _⟩

/-! ## The credit -/

/-- How often the barrier, the arrivals of keys and of values, and an arrival of the exchange are owed at a cell. -/
noncomputable def cntB (c : Dev nD) (k : CI) : ℕ := ∑ d : Dev nD, ∑ i : Fin 7, if (c, k) = (nx d i, none) then 1 else 0
noncomputable def cntA (a : Fin 6) (c : Dev nD) (k : CI) : ℕ := ∑ d : Dev nD, ∑ i : Fin 7, if (c, k) = (nx d i, some (a, d)) then 1 else 0
noncomputable def cntX (i : Fin 6) (c : Dev nD) (k : CI) : ℕ := ∑ d : Dev nD, if (c, k) = (px (xr i) d, some (5, xs i)) then 1 else 0

theorem tail_zero {k : ℕ} (f : Fin k → CellTallies nD τ sig Unit) : tail f 0 = ∑ i, f i := by
  unfold tail
  rw [Finset.filter_true_of_mem fun _ _ => Nat.zero_le _]

theorem sum_at {ι : Type} (s : Finset ι) (f : ι → CellTallies nD τ sig Unit) (g : GSem nD τ sig) (u : Unit) :
    (∑ i ∈ s, f i) g u = ∑ i ∈ s, f i g u := by
  classical
  induction s using Finset.induction_on with
  | empty => rfl
  | insert a s ha ih => rw [Finset.sum_insert ha, Finset.sum_insert ha, ← ih]; rfl

theorem tally_at (p : Dev nD) (l : CI) (N : ℕ) (k : CI) : tallyAt (gOf p l) () N (gOf c k) () = (if (c, k) = (p, l) then 1 else 0) * N := by
  rw [tallyAt_apply, ite_mul, one_mul, zero_mul]
  exact if_congr (by rw [gOf_eq]; exact and_iff_left rfl) rfl rfl

theorem owed_at (k : CI) : ∑ d : Dev nD, O₀ d (gOf c k) () = cntB c k + ((cntA 1 c k * NK + cntA 3 c k * NK) + ∑ i, cntX i c k * NO (xs i)) := by
  unfold cntB cntA cntX
  simp only [Finset.sum_mul]
  rw [Finset.sum_comm (s := (Finset.univ : Finset (Fin 6))), ← Finset.sum_add_distrib, ← Finset.sum_add_distrib, ← Finset.sum_add_distrib]
  refine Finset.sum_congr rfl fun d _ => ?_
  unfold O₀
  rw [tail_zero, tail_zero, tail_zero]
  show (∑ i, tBar d i) (gOf c k) () + ((∑ i, tKV d i) (gOf c k) () + (∑ i, tX d i) (gOf c k) ()) = _
  rw [sum_at, sum_at, sum_at, ← Finset.sum_add_distrib]
  refine congrArg₂ _ ?_ (congrArg₂ _ ?_ ?_) <;> refine Finset.sum_congr rfl fun i _ => ?_
  · unfold tBar; rw [tally_at, mul_one]
  · unfold tKV
    show tallyAt _ () _ _ _ + tallyAt _ () _ _ _ = _
    rw [tally_at, tally_at]
  · unfold tX; rw [tally_at]

theorem cnt_bar : ∀ c : Dev nD, cntB c none = 7 ∧ cntA 1 c none = 0 ∧ cntA 3 c none = 0 ∧ ∀ i, cntX i c none = 0 := by decide
theorem cnt_k : ∀ (c : Dev nD) (j : Fin 7), cntB c (some (1, pv c j)) = 0 ∧ cntA 1 c (some (1, pv c j)) = 1 ∧ cntA 3 c (some (1, pv c j)) = 0
    ∧ ∀ i, cntX i c (some (1, pv c j)) = 0 := by decide +kernel
theorem cnt_v : ∀ (c : Dev nD) (j : Fin 7), cntB c (some (3, pv c j)) = 0 ∧ cntA 1 c (some (3, pv c j)) = 0 ∧ cntA 3 c (some (3, pv c j)) = 1
    ∧ ∀ i, cntX i c (some (3, pv c j)) = 0 := by decide +kernel
theorem cnt_x : ∀ (c : Dev nD) (j : Fin 6), cntB c (some (5, xs j)) = 0 ∧ cntA 1 c (some (5, xs j)) = 0 ∧ cntA 3 c (some (5, xs j)) = 0
    ∧ ∀ i, cntX i c (some (5, xs j)) = if i = j then 1 else 0 := by decide +kernel

abbrev Gets : Type := Unit ⊕ (Fin 7 ⊕ Fin 7 ⊕ Fin 6)

/-- The cells device `c` is paid at by others. -/
def getIx (c : Dev nD) : Gets → CI
  | .inl _ => none
  | .inr (.inl i) => some (1, pv c i)
  | .inr (.inr (.inl i)) => some (3, pv c i)
  | .inr (.inr (.inr i)) => some (5, xs i)

noncomputable def getN : Gets → ℕ
  | .inl _ => 7
  | .inr (.inl i) => NK
  | .inr (.inr (.inl i)) => NK
  | .inr (.inr (.inr i)) => NO (xs i)

theorem getIx_inj : Function.Injective (getIx c) := by
  have hp : Function.Injective (pv c) := (pvE c).injective
  rintro (i | i | i | i) (j | j | j | j) h <;> simp only [getIx, Prod.mk.injEq, Option.some.injEq] at h <;>
    first
    | rfl
    | exact absurd h.1 (by decide)
    | rw [hp h.2]
    | rw [xs_inj h.2]
    | exact absurd h (fun e => nomatch e)

theorem owed_get (j : Gets) : ∑ d : Dev nD, O₀ d (gOf c (getIx c j)) () = getN j := by
  rw [owed_at]
  rcases j with j | j | j | j <;> dsimp only [getIx, getN]
  · obtain ⟨h1, h2, h3, h4⟩ := cnt_bar c
    rw [h1, h2, h3, Finset.sum_eq_zero fun i _ => by rw [h4 i, zero_mul]]; simp
  · obtain ⟨h1, h2, h3, h4⟩ := cnt_k c j
    rw [h1, h2, h3, Finset.sum_eq_zero fun i _ => by rw [h4 i, zero_mul]]; simp
  · obtain ⟨h1, h2, h3, h4⟩ := cnt_v c j
    rw [h1, h2, h3, Finset.sum_eq_zero fun i _ => by rw [h4 i, zero_mul]]; simp
  · obtain ⟨h1, h2, h3, h4⟩ := cnt_x c j
    rw [h1, h2, h3, Finset.sum_congr rfl fun i _ => by rw [h4 i, ite_mul, one_mul, zero_mul], Finset.sum_ite_eq' Finset.univ j fun i => NO (xs i),
      if_pos (Finset.mem_univ _)]
    simp

theorem launch_get (j : Gets) :
    tallyOn (gOf c (getIx c j)) (launchCredit (Pipeline.owing O₀) 0 (gOf c (getIx c j))) = (tallyAt (gOf c (getIx c j)) () (getN j) : CellTallies nD τ sig Unit) := by
  unfold tallyAt
  refine congrArg _ (Finsupp.ext fun u => ?_)
  cases u
  rw [Pipeline.launchCredit_owing, Finsupp.single_eq_same, owed_get]

theorem creds_deal : (Pipeline.launchCred O₀ c : sProp 𝕄) ⊢ credsOf (F := F) c := by
  unfold Pipeline.launchCred
  refine (bigSep_subset (Finset.subset_univ (Finset.univ.map ⟨fun j => semOf (getIx c j), fun a b h => getIx_inj c (semOf_inj h)⟩))).trans ?_
  rw [bigSep_map]
  refine (Entails.of_eq (bigSep_congr (Ψ := fun j : Gets => (cred (tallyAt (gOf c (getIx c j)) () (getN j)) : sProp 𝕄))
    fun j _ => congrArg cred (launch_get c j))).trans ?_
  rw [bigSep_univ_sum, bigSep_univ_sum, bigSep_univ_sum]
  unfold credsOf
  exact sep_mono_left (bigSep_elim (i := ()) (Finset.mem_univ _))

end Cert.KernelIdeal.Run

end
-- ==== Proof.Launch.lean ====
/-
The whole program, run from any memory: the host's two transposes, then the kernel on every device.
-/
module

public import proofs.«01_k».proof.Proof.Deal
public import proofs.«01_k».proof.Proof.Gen.KernelIdeal.Frame

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The values -/

/-- Device `c`'s buffers at launch, when the kernel starts, and when it has ended. -/
def V₀ (c : Dev nD) : Valuation τ sig (Elt F) := fun b => m (c, b)
def V₁ (c : Dev nD) : Valuation τ sig (Elt F) := StableHlo.after hostOps0 (V₀ m c)

/-- What the kernel is given. -/
def ins : Ins F where
  x c := V₁ m c (Proc.devRef .tc main_arg0)
  wq c := V₁ m c (Proc.devRef .tc main_arg1)
  k c := V₁ m c (Proc.devRef .tc main_v1)
  v c := V₁ m c (Proc.devRef .tc main_v2)
  wo c := V₁ m c (Proc.devRef .tc main_arg4)

/-- What it leaves. -/
def res : Vec F S2x256x512 .f32 := outv (total (ins m))

def V₂ (c : Dev nD) : Valuation τ sig (Elt F) := Function.update (V₁ m c) (Proc.devRef .tc main_v3) (res m)

/-! ## The kernel's own semaphores -/

def osem (k : Fin 6 × Fin 8) : SemLoc sig := semOf (some k)

theorem ownSemFacts : Pipeline.OwnSemFacts spec0 osem := by decide +kernel

theorem ownSems0_eq (c : Dev nD) : (Pipeline.ownSems0 osem c : sProp 𝕄) = bigSep Finset.univ fun k : Fin 6 × Fin 8 => semVal (gOf c (some k)) 0 := rfl

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]
  rfl

theorem unscoped_eq : ∀ sm : SemLoc sig, sm.isScoped .tc = false → sm = .reg barS := by decide

/-! ## What a device holds before its kernel opens its cells, and after -/

/-- The kernel's cells known, not yet open. -/
def shut (c : Dev nD) : sProp 𝕄 :=
  iprop(∃ K, allInv (ins m) K ∗ (bigSep Finset.univ fun p : Dev nD => reached ER (barC p) 0) ∗ atPos ER (barC c) 0 ∅ 0
    ∗ (bigSep Finset.univ fun k : Fin 6 × Fin 8 => openTok ER (gOf c (some k))) ∗ toksOf (F := F) c)

def Tk (c : Dev nD) : sProp 𝕄 := iprop(shut m c ∗ credsOf (F := F) c)
def Xk (c : Dev nD) : sProp 𝕄 :=
  iprop((∃ K, env (ins m) K c ∗ atPos ER (barC c) 0 ∅ 0 ∗ (bigSep Finset.univ fun k : Fin 6 × Fin 8 => posD (F := F) c k.1 k.2 0) ∗ toksOf (F := F) c)
    ∗ credsOf (F := F) c)
def Yk (c : Dev nD) : sProp 𝕄 := semVal (barC c) 0

theorem open_one (K : GSem nD τ sig → ℕ) (c : Dev nD) (k : Fin 6 × Fin 8) :
    iprop(allInv (ins m) K ∗ (openTok ER (gOf c (some k)) ∗ semVal (gOf c (some k)) 0))
      ⊢ (|={Set.univ}=> iprop(posD (F := F) c k.1 k.2 0 ∗ reached ER (gOf c (some k)) 0) : sProp 𝕄) :=
  (sep_mono_left (inv_at (ins m) K c (some k))).trans (Rounds.cell_open ER (Rd (ins m)) (g := gOf c (some k)) (Set.mem_univ _))

theorem open_all (K : GSem nD τ sig → ℕ) (c : Dev nD) :
    iprop(allInv (ins m) K ∗ (bigSep Finset.univ fun k : Fin 6 × Fin 8 => openTok ER (gOf c (some k))) ∗ bigSep Finset.univ fun k : Fin 6 × Fin 8 => semVal (gOf c (some k)) 0)
      ⊢ (|={Set.univ}=> iprop((bigSep Finset.univ fun k : Fin 6 × Fin 8 => posD (F := F) c k.1 k.2 0) ∗ reachedAll (F := F) c) : sProp 𝕄) := by
  unfold reachedAll
  rw [← bigSep_sep', ← bigSep_sep']
  exact (bigSep_with_persistent (R := allInv (ins m) K) (S := Finset.univ)
    (Φ := fun k : Fin 6 × Fin 8 => iprop(openTok ER (gOf c (some k)) ∗ semVal (gOf c (some k)) 0))
    (Ψ := fun k => iprop(|={Set.univ}=> (posD (F := F) c k.1 k.2 0 ∗ reached ER (gOf c (some k)) 0))) (fun k _ => open_one m K c k)).trans (bigSep_fupd _ _)

theorem hopen (c : Dev nD) : iprop(Tk m c ∗ Pipeline.ownSems0 osem c ∗ levAts L lv) ⊢ (|={Set.univ}=> Xk m c : sProp 𝕄) := by
  rw [ownSems0_eq]
  unfold Tk Xk shut env
  iintro ⟨⟨⟨%K, #HI, #HR, HB, Ho, Ht⟩, Hc⟩, Hs, #Hl⟩
  imod (open_all m K c) $$ [Ho Hs] with ⟨HP, #HA⟩
  · isplitr; · iexact HI
    isplitl [Ho]; · iexact Ho
    iexact Hs
  imodintro
  isplitr [Hc]
  · iexists K
    isplitr
    · isplitr; · iexact HI
      isplitr; · iexact Hl
      isplitr; · iexact HR
      iexact HA
    isplitl [HB]; · iexact HB
    isplitl [HP]; · iexact HP
    iexact Ht
  iexact Hc

/-! ## The kernel's proof data -/

def stage (c : Dev nD) : (w : Fin cfg0.W) → (cfg0.win w).block.Idx → Elt F (cfg0.win w).elt
  | ⟨0, _⟩ => (ins m).x c
  | ⟨1, _⟩ => (ins m).wq c
  | ⟨2, _⟩ => (ins m).k c
  | ⟨3, _⟩ => (ins m).v c
  | ⟨4, _⟩ => (ins m).wo c
  | ⟨5, _⟩ => res m

def dat (c : Dev nD) : Dat τ (Elt F) Unit ℕ UU ℕ cfg0 c where
  A w := V₁ m c (Proc.devRef .tc (Pipeline.arrRef spec0 w))
  after w _ := stage m c w
  Φ t := if t.val = 0 then iprop(Xk m c ∗ scratches (F := F) c ∗ ∃ r, prngReg c r)
    else iprop(Yk (F := F) c ∗ (bigSep Finset.univ fun k : Fin 6 × Fin 8 => semVal (gOf c (some k)) 0) ∗ scratches (F := F) c ∗ ∃ r, prngReg c r)
  q _ := fullShare
  owed t := if t.val = 0 then O₀ c else 0

theorem share_eq (c : Dev nD) (w : Fin cfg0.W) : (dat m c).share w = fullShare := by unfold Dat.share; split <;> rfl

/-- An argument's window is its whole array. -/
theorem block_0 (c : Dev nD) (t : Fin cfg0.N) : ((cfg0.win 0).blk t).view.read (Elt F) (V₁ m c (Proc.devRef .tc main_arg0)) = (ins m).x c :=
  Memref.read_access_unit_zero (Elt F) main_arg0 (funext fun a => Nat.zero_mul _) _ _
theorem block_1 (c : Dev nD) (t : Fin cfg0.N) : ((cfg0.win 1).blk t).view.read (Elt F) (V₁ m c (Proc.devRef .tc main_arg1)) = (ins m).wq c :=
  Memref.read_access_unit_zero (Elt F) main_arg1 (funext fun a => Nat.zero_mul _) _ _
theorem block_2 (c : Dev nD) (t : Fin cfg0.N) : ((cfg0.win 2).blk t).view.read (Elt F) (V₁ m c (Proc.devRef .tc main_v1)) = (ins m).k c :=
  Memref.read_access_unit_zero (Elt F) main_v1 (funext fun a => Nat.zero_mul _) _ _
theorem block_3 (c : Dev nD) (t : Fin cfg0.N) : ((cfg0.win 3).blk t).view.read (Elt F) (V₁ m c (Proc.devRef .tc main_v2)) = (ins m).v c :=
  Memref.read_access_unit_zero (Elt F) main_v2 (funext fun a => Nat.zero_mul _) _ _
theorem block_4 (c : Dev nD) (t : Fin cfg0.N) : ((cfg0.win 4).blk t).view.read (Elt F) (V₁ m c (Proc.devRef .tc main_arg4)) = (ins m).wo c :=
  Memref.read_access_unit_zero (Elt F) main_arg4 (funext fun a => Nat.zero_mul _) _ _

theorem before_0 (c : Dev nD) (t : Fin cfg0.N) (d) : (dat m c).before 0 t d = (ins m).x c :=
  ((dat m c).before_in_eq_fetched 0 rfl (fun _ => rfl) (fun _ _ _ => rfl) (fun t => (block_0 m c t).symm) t d).trans (block_0 m c t)
theorem before_1 (c : Dev nD) (t : Fin cfg0.N) (d) : (dat m c).before 1 t d = (ins m).wq c :=
  ((dat m c).before_in_eq_fetched 1 rfl (fun _ => rfl) (fun _ _ _ => rfl) (fun t => (block_1 m c t).symm) t d).trans (block_1 m c t)
theorem before_2 (c : Dev nD) (t : Fin cfg0.N) (d) : (dat m c).before 2 t d = (ins m).k c :=
  ((dat m c).before_in_eq_fetched 2 rfl (fun _ => rfl) (fun _ _ _ => rfl) (fun t => (block_2 m c t).symm) t d).trans (block_2 m c t)
theorem before_3 (c : Dev nD) (t : Fin cfg0.N) (d) : (dat m c).before 3 t d = (ins m).v c :=
  ((dat m c).before_in_eq_fetched 3 rfl (fun _ => rfl) (fun _ _ _ => rfl) (fun t => (block_3 m c t).symm) t d).trans (block_3 m c t)
theorem before_4 (c : Dev nD) (t : Fin cfg0.N) (d) : (dat m c).before 4 t d = (ins m).wo c :=
  ((dat m c).before_in_eq_fetched 4 rfl (fun _ => rfl) (fun _ _ _ => rfl) (fun t => (block_4 m c t).symm) t d).trans (block_4 m c t)

/-- The result's array is written whole. -/
theorem arr_out (c : Dev nD) : (dat m c).arrAt 5 cfg0.N = res m := by
  rw [show cfg0.N = 0 + 1 from N_0]
  simp only [Dat.arrAt]
  rw [dif_pos (by rw [show cfg0.N = 1 from N_0]; decide), if_pos (flush0_5 _)]
  exact Memref.write_access_unit_zero_univ (Elt F) main_v3 (funext fun a => Nat.zero_mul _) _ _ _

theorem V₂_out (c : Dev nD) : V₂ m c (Proc.devRef .tc main_v3) = res m := Function.update_self ..
theorem V₂_ne (c : Dev nD) (b : DevRef τ sig) (h : b ≠ Proc.devRef .tc main_v3) : V₂ m c b = V₁ m c b := Function.update_of_ne h ..

theorem arr_end (c : Dev nD) (w : Fin cfg0.W) : (dat m c).arrAt w cfg0.N = V₂ m c (Proc.devRef .tc (Pipeline.arrRef spec0 w)) := by
  fin_cases w
  · exact ((dat m c).arrAt_in (0 : Fin 6) rfl _).trans (V₂_ne m c (Proc.devRef .tc main_arg0) (by decide)).symm
  · exact ((dat m c).arrAt_in (1 : Fin 6) rfl _).trans (V₂_ne m c (Proc.devRef .tc main_arg1) (by decide)).symm
  · exact ((dat m c).arrAt_in (2 : Fin 6) rfl _).trans (V₂_ne m c (Proc.devRef .tc main_v1) (by decide)).symm
  · exact ((dat m c).arrAt_in (3 : Fin 6) rfl _).trans (V₂_ne m c (Proc.devRef .tc main_v2) (by decide)).symm
  · exact ((dat m c).arrAt_in (4 : Fin 6) rfl _).trans (V₂_ne m c (Proc.devRef .tc main_arg4) (by decide)).symm
  · exact (arr_out m c).trans (V₂_out m c).symm

/-! ## The body's duty to the pipeline -/

theorem owned (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ pt (F := F) c b fullShare f) := by
  unfold owns; simp only [Memref.view_whole, View.read_whole, View.set_whole]

/-- A staging buffer at chosen contents. -/
abbrev stg (c : Dev nD) (b : Ref sig .tc) (X : b.ty.Contents (Elt F)) : sProp 𝕄 :=
  iprop(∃ f : Buf (Elt F) (((c : Dev nD) : Thread nD τ).loc b), ⌜f = X⌝ ∗ pt (F := F) c b fullShare f)

theorem stg_intro (c : Dev nD) (b : Ref sig .tc) (X : b.ty.Contents (Elt F)) : pt (F := F) c b fullShare X ⊢ stg c b X := by
  iintro H; iexists _; isplitr; · ipureintro; rfl
  iexact H
theorem stg_elim (c : Dev nD) (b : Ref sig .tc) (X Y : b.ty.Contents (Elt F)) (h : X = Y) : stg c b X ⊢ pt (F := F) c b fullShare Y := by
  subst h
  iintro ⟨%f, %hf, H⟩; subst hf; iexact H

def before (c : Dev nD) : sProp 𝕄 :=
  iprop((Xk m c ∗ scratches (F := F) c ∗ ∃ r, prngReg c r) ∗ (dat m c).owesAt () t0_0.castSucc
    ∗ (∃ d, stg c cc0_stg0_0 ((dat m c).before (0 : Fin 6) t0_0 d)) ∗ (∃ d, stg c cc0_stg1_0 ((dat m c).before (1 : Fin 6) t0_0 d))
    ∗ (∃ d, stg c cc0_stg2_0 ((dat m c).before (2 : Fin 6) t0_0 d)) ∗ (∃ d, stg c cc0_stg3_0 ((dat m c).before (3 : Fin 6) t0_0 d))
    ∗ (∃ d, stg c cc0_stg4_0 ((dat m c).before (4 : Fin 6) t0_0 d)) ∗ (∃ d, stg c cc0_stg5_0 ((dat m c).before (5 : Fin 6) t0_0 d)))

def behind (c : Dev nD) : sProp 𝕄 :=
  iprop((Yk (F := F) c ∗ (bigSep Finset.univ fun k : Fin 6 × Fin 8 => semVal (gOf c (some k)) 0) ∗ scratches (F := F) c ∗ ∃ r, prngReg c r) ∗ (dat m c).owesAt () t0_0.succ
    ∗ stg c cc0_stg0_0 ((ins m).x c) ∗ stg c cc0_stg1_0 ((ins m).wq c) ∗ stg c cc0_stg2_0 ((ins m).k c) ∗ stg c cc0_stg3_0 ((ins m).v c)
    ∗ stg c cc0_stg4_0 ((ins m).wo c) ∗ stg c cc0_stg5_0 (res m))

theorem owesAt_intro (c : Dev nD) (t : Fin (cfg0.N + 1)) (O : CellTallies nD τ sig Unit) (h0 : (dat m c).owed t = O) :
    owesE (F := F) c O ⊢ (dat m c).owesAt () t := by
  unfold Dat.owesAt Pipeline.owesWithin Dat.bound; rw [h0]
  iintro ⟨%W, HO⟩; iexists W; isplitr; · ipureintro; exact fun _ _ => Or.inl trivial
  iexact HO
theorem owesAt_elim (c : Dev nD) (t : Fin (cfg0.N + 1)) (O : CellTallies nD τ sig Unit) (h0 : (dat m c).owed t = O) :
    (dat m c).owesAt () t ⊢ owesE (F := F) c O := by
  unfold Dat.owesAt Pipeline.owesWithin; rw [h0]
  iintro ⟨%W, -, HO⟩; iexists W; iexact HO

theorem owed_first (c : Dev nD) : (dat m c).owed t0_0.castSucc = O₀ c := by
  show (if (t0_0.castSucc : Fin (cfg0.N + 1)).val = 0 then O₀ c else 0) = O₀ c; exact if_pos rfl
theorem owed_zero (c : Dev nD) : (dat m c).owed 0 = O₀ c := by
  show (if (0 : Fin (cfg0.N + 1)).val = 0 then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]

theorem body_run (c : Dev nD) : before m c ⊢ W c wholeP (fun _ => behind m c) := by
  unfold before Xk
  iintro ⟨⟨⟨⟨%K, He, HB, HP, Ht⟩, Hc⟩, Hs, Hr⟩, HO, ⟨%d0, H0⟩, ⟨%d1, H1⟩, ⟨%d2, H2⟩, ⟨%d3, H3⟩, ⟨%d4, H4⟩, ⟨%d5, H5⟩⟩
  ihave HO := (owesAt_elim m c _ (O₀ c) (owed_first m c)) $$ HO
  ihave H0 := (stg_elim c cc0_stg0_0 _ _ (before_0 m c t0_0 d0)) $$ H0
  ihave H1 := (stg_elim c cc0_stg1_0 _ _ (before_1 m c t0_0 d1)) $$ H1
  ihave H2 := (stg_elim c cc0_stg2_0 _ _ (before_2 m c t0_0 d2)) $$ H2
  ihave H3 := (stg_elim c cc0_stg3_0 _ _ (before_3 m c t0_0 d3)) $$ H3
  ihave H4 := (stg_elim c cc0_stg4_0 _ _ (before_4 m c t0_0 d4)) $$ H4
  ihave H5 := (stg_elim c cc0_stg5_0 _ _ rfl) $$ H5
  iapply (run_body (ins m) K c (fun _ => behind m c)) $$ [He HB HP Ht Hc Hs HO H0 H1 H2 H3 H4 H5]
  · unfold bodyPre staged
    isplitl [He]; · iexact He
    isplitl [HB]; · iexact HB
    isplitl [HP]; · iexact HP
    isplitl [Ht]; · iexact Ht
    isplitl [Hc]; · iexact Hc
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [Hs]; · iexact Hs
    iexact HO
  unfold bodyPost staged behind Yk
  iintro ⟨HB, HS, ⟨H0, H1, H2, H3, H4⟩, H5, Hs, HO⟩
  isplitl [HB HS Hs Hr]
  · isplitl [HB]; · iexact HB
    isplitl [HS]; · iexact HS
    isplitl [Hs]; · iexact Hs
    iexact Hr
  isplitl [HO]; · iapply (owesAt_intro m c t0_0.succ 0 (owed_last m c)); iexact HO
  isplitl [H0]; · iapply (stg_intro c cc0_stg0_0 ((ins m).x c)); iexact H0
  isplitl [H1]; · iapply (stg_intro c cc0_stg1_0 ((ins m).wq c)); iexact H1
  isplitl [H2]; · iapply (stg_intro c cc0_stg2_0 ((ins m).k c)); iexact H2
  isplitl [H3]; · iapply (stg_intro c cc0_stg3_0 ((ins m).v c)); iexact H3
  isplitl [H4]; · iapply (stg_intro c cc0_stg4_0 ((ins m).wo c)); iexact H4
  iapply (stg_intro c cc0_stg5_0 (res m)); iexact H5

theorem body_run' (c : Dev nD) : before m c ⊢ W c (bodyAt0 t0_0) (fun _ => behind m c) :=
  (body_eq (F := F) t0_0).symm ▸ body_run m c

set_option maxRecDepth 65536 in
theorem body_obligation (c : Dev nD) : BodyObligation (dat m c) (defs₀ (F := F)) 𝒱₀ () Set.univ := fun t => by
  obtain rfl := fin_N0 t
  rw [bigSep_W0, bigSep_W0]
  simp only [owned]
  show before m c ⊢ W c (bodyAt0 t0_0) (fun _ => behind m c)
  exact body_run' m c

end Cert.KernelIdeal.Run

end
-- ==== Proof.Main.lean ====
/-
The run of the whole program, on every device.
-/
module

public import proofs.«01_k».proof.Proof.Launch
public import Idealize.ShloMosaic.Harness.Basic

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The program's buffers -/

def bufs : Finset (DevRef τ sig) := (StableHlo.tcRefs τ sig).filter fun b => ¬ b.isScoped

/-- The kernel's arrays, and the others. -/
abbrev arrs : Finset (DevRef τ sig) := Pipeline.arrRefs (τ := τ) (pcfgs (F := F) 0).spec
abbrev others : Finset (DevRef τ sig) := bufs \ arrs (F := F)

theorem arrs_sub : arrs (F := F) ⊆ bufs := show Pipeline.arrRefs (τ := τ) spec0 ⊆ bufs from by decide
theorem out_arr : Proc.devRef .tc main_v3 ∈ arrs (F := F) := show _ ∈ Pipeline.arrRefs (τ := τ) spec0 from by decide

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_split (c : Dev nD) (W : Valuation τ sig (Elt F)) : (StableHlo.held (c : Thread nD τ) bufs W : sProp 𝕄)
    = iprop(StableHlo.held (c : Thread nD τ) (arrs (F := F)) W ∗ StableHlo.held (c : Thread nD τ) (others (F := F)) W) :=
  StableHlo.held_sub_split (c.tc : Thread nD τ) arrs_sub W

theorem bufs_eq (c : Dev nD) (W : Valuation τ sig (Elt F)) : (StableHlo.held (c : Thread nD τ) bufs W : sProp 𝕄)
    = iprop(pt (F := F) c main_arg0 fullShare (W main_arg0) ∗ pt (F := F) c main_arg1 fullShare (W main_arg1) ∗ pt (F := F) c main_arg2 fullShare (W main_arg2)
      ∗ pt (F := F) c main_arg3 fullShare (W main_arg3) ∗ pt (F := F) c main_arg4 fullShare (W main_arg4) ∗ pt (F := F) c main_v1 fullShare (W main_v1)
      ∗ pt (F := F) c main_v2 fullShare (W main_v2) ∗ pt (F := F) c main_v3 fullShare (W main_v3)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

/-! ## The two segments -/

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m

theorem cell_inj : Function.Injective (Pipeline.cellOf (nD := nD) (τ := τ) (Pipeline.pin (pcfgs (F := F)) adm)) := cellOf_inj

theorem kitP : Pipeline.PLaunchFacts (nD := nD) (τ := τ) (pcfgs (F := F)) 0 where
  cellOf_inj a := by rw [Subsingleton.elim a adm]; exact cell_inj
  win := winFacts0
  pre := Pipeline.PreFacts.none _
  block_pos := block_pos0
  arr_whole := arr_whole0
  stage_whole := stage_whole0

theorem owed_above (c : Dev nD) (t : Fin (cfg0.N + 1)) (g : GSem nD τ sig) (i : Unit) (h : 0 < (dat m c).owed t g i) : i ∈ L g ∧ 0 < lv g i := by
  have e : (dat m c).owed t = if t.val = 0 then O₀ c else 0 := rfl
  rw [e] at h
  split at h
  · exact above_O₀ c g i h
  · exact absurd h (Nat.lt_irrefl 0)

theorem stage_dec : ∀ (w : Fin 6) (s : Fin (spec0 w).nbuf), dec (.dma ((spec0 w).sem s)) = none := by decide
theorem stage_level (c : Dev nD) (w : Fin 6) (s : Fin (spec0 w).nbuf) : lv ((c : Thread nD τ), .dma ((spec0 w).sem s)) () ≤ 0 := by
  unfold lv; dsimp only; rw [stage_dec]

/-- What rides beside the buffers up to the kernel. -/
def R (c : Dev nD) : sProp 𝕄 := iprop(Tk m c ∗ (∃ r, prngReg c r) ∗ owesE (F := F) c (O₀ c))

theorem hin (c : Dev nD) : iprop(Pipeline.scopedRest spec0 c ∗ (∃ r, prngReg c r) ∗ StableHlo.held (c.tc : Thread nD τ) ∅ (V₁ m c) ∗ Xk m c) ⊢ (dat m c).Φ 0 := by
  rw [show (dat m c).Φ 0 = iprop(Xk m c ∗ scratches (F := F) c ∗ ∃ r, prngReg c r) from rfl, scopedRest0_eq]
  unfold scratches
  iintro ⟨Hs, Hp, -, HX⟩
  isplitl [HX]; · iexact HX
  isplitl [Hs]; · iexact Hs
  iexact Hp

theorem Φ_last (c : Dev nD) : (dat m c).Φ (Fin.last cfg0.N)
    = iprop(Yk (F := F) c ∗ (bigSep Finset.univ fun k : Fin 6 × Fin 8 => semVal (gOf c (some k)) 0) ∗ scratches (F := F) c ∗ ∃ r, prngReg c r) := by
  refine (show (dat m c).Φ (Fin.last cfg0.N) = (if (Fin.last cfg0.N).val = 0 then iprop(Xk m c ∗ scratches (F := F) c ∗ ∃ r, prngReg c r)
    else iprop(Yk (F := F) c ∗ (bigSep Finset.univ fun k : Fin 6 × Fin 8 => semVal (gOf c (some k)) 0) ∗ scratches (F := F) c ∗ ∃ r, prngReg c r)) from rfl).trans (if_neg ?_)
  rw [Fin.val_last, show cfg0.N = 1 from N_0]; decide

theorem hout (c : Dev nD) : (dat m c).Φ (Fin.last cfg0.N)
    ⊢ iprop(Pipeline.scopedRest spec0 c ∗ (∃ r, prngReg c r) ∗ StableHlo.held (c.tc : Thread nD τ) ∅ (V₂ m c) ∗ Pipeline.ownSems0 osem c ∗ Yk (F := F) c) := by
  rw [Φ_last, scopedRest0_eq, ownSems0_eq]
  unfold scratches
  iintro ⟨HY, HS, Hs, Hp⟩
  isplitl [Hs]; · iexact Hs
  isplitl [Hp]; · iexact Hp
  isplitr
  · unfold StableHlo.held
    iapply (Entails.of_eq (BI.bigSep_empty (Φ := fun b : DevRef τ sig => (((c.tc : Thread nD τ).1, b) ↦{fullShare} V₂ m c b : sProp 𝕄))).symm)
    iempintro
  isplitl [HS]; · iexact HS
  iexact HY

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

theorem ops_sub : ∀ op ∈ (hostOps0 : List (HloOp τ sig (Elt F))), op.bufs ⊆ bufs := by
  intro op h
  rcases List.mem_cons.1 h with rfl | h
  · show ({Proc.devRef .tc main_arg2, Proc.devRef .tc main_v1} : Finset (DevRef τ sig)) ⊆ bufs; decide
  rw [List.mem_singleton.1 h]
  show ({Proc.devRef .tc main_arg3, Proc.devRef .tc main_v2} : Finset (DevRef τ sig)) ⊆ bufs; decide

def host : ℍ := Pipeline.HostSeg.ofOps _ _ _ _ _ bufs hostOps0 ops_sub (List.forall_iff_forall_mem.mp hostOps0_fresh) (V₀ m) (R m)

set_option backward.isDefEq.respectTransparency.types false in
def region : ℝ𝕊 0 :=
  Pipeline.RegionSeg.ofTalk (pcfgs (F := F)) adm (pdats m) () defs₀ 𝒱₀ L lv 0 osem ownSemFacts
    ∅ (others (F := F)) (Finset.empty_subset _) kitP rfl (fun c => (body_obligation m c).loose)
    (fun _ => 0) O₀ (fun c => (owed_zero m c).trans (zero_add _).symm) (owed_last m) (fun _ => rfl) (share_eq m)
    (V₁ m) (V₂ m) (fun c b hb => V₂_ne m c b fun e => (Finset.mem_sdiff.1 (Finset.mem_sdiff.1 hb).1).2 (e ▸ out_arr))
    (Tk m) (Yk (F := F)) (Xk m) (Yk (F := F)) (hopen m) (hin m) (hout m)
    (fun c => by iintro H; imodintro; iexact H)
    (fun _ => 0)
    ⟨fun c w s => by rw [L_tc]; exact Finset.mem_singleton_self _, fun c w s => stage_level c w s, fun c t g i h => owed_above m c t g i h⟩
    (fun _ => iprop(emp))
    (fun c w => rfl) (fun c w => arr_end m c w)

def segs : List (Pipeline.Seg (pcfgs (F := F)) adm (pdats m) () defs₀ 𝒱₀ L lv) := [.host (host m), .region (region m)]

theorem main_eq (c : Dev nD) : main (F := F) c = Pipeline.Seg.run (segs m) := main_segs adm (pdats m) () 𝒱₀ L lv (host m) (region m) rfl c

theorem region_pre (c : Dev nD) : iprop(StableHlo.held (c : Thread nD τ) bufs (V₁ m c) ∗ R m c) ⊢ (region m).pre c := by
  show _ ⊢ iprop(StableHlo.held (c.tc : Thread nD τ) (arrs (F := F)) (V₁ m c) ∗ (∃ r, prngReg c r)
    ∗ (StableHlo.held (c.tc : Thread nD τ) (others (F := F)) (V₁ m c) ∗ emp) ∗ Tk m c ∗ ∃ Wd, owes (c : Thread nD τ) (0 + O₀ c) Wd)
  rw [bufs_split, zero_add]
  unfold R
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

/-- What a device is left with. -/
abbrev Tₙ (c : Dev nD) : sProp 𝕄 := iprop(StableHlo.held (c : Thread nD τ) bufs (V₂ m c) ∗ semVal (barC c) 0)

theorem region_post (c : Dev nD) : (region m).post c ⊢ iprop(Tₙ m c ∗ ∃ W, owes (c : Thread nD τ) (0 : CellTallies nD τ sig Unit) W) := by
  show iprop(StableHlo.held (c.tc : Thread nD τ) (arrs (F := F)) (V₂ m c) ∗ (∃ r, prngReg c r)
    ∗ (StableHlo.held (c.tc : Thread nD τ) (others (F := F)) (V₂ m c) ∗ emp) ∗ Yk (F := F) c ∗ ∃ Wd, owes (c : Thread nD τ) (0 : CellTallies nD τ sig Unit) Wd) ⊢ _
  unfold Tₙ Yk
  rw [bufs_split]
  iintro ⟨Ha, -, ⟨Ho, -⟩, Hb, HO⟩
  isplitr [HO]
  · isplitr [Hb]
    · isplitl [Ha]; · iexact Ha
      iexact Ho
    iexact Hb
  iexact HO

/-! ## The launch -/

def u₀ : UU :=
  (initOf (Pipeline.cells (Pipeline.pin (pcfgs (F := F)) adm) cell_inj) (Pipeline.launchToks (Pipeline.pin (pcfgs (F := F)) adm) cell_inj),
    launchOf barCells arrCells allToks)

/-- A resource kept on device 0 until all is dealt. -/
def onFirst (X : sProp 𝕄) (c : Dev nD) : sProp 𝕄 := if c = 0 then X else iprop(emp)
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def G : Dev nD → sProp 𝕄 := onFirst (BI.own (ER (launchOf barCells arrCells allToks)))

/-- Every cell's record, and that the barriers are open. -/
def records (κ : GSem nD τ sig → ℕ) : sProp 𝕄 :=
  iprop(allInv (ins m) κ ∗ bigSep Finset.univ fun p : Dev nD => reached ER (barC p) 0)

instance records_persistent (κ : GSem nD τ sig → ℕ) : Persistent (records m κ) := by unfold records; infer_instance

theorem allInv_intro (κ : GSem nD τ sig → ℕ) : (bigSep (barCells ∪ arrCells) fun g => (cellInv ER (Rd (ins m)) (κ g) g : sProp 𝕄)) ⊢ allInv (ins m) κ := by
  unfold allInv
  have hs : (Finset.univ.map ⟨fun x : Dev nD × CI => gOf x.1 x.2, gOf_inj⟩ : Finset (GSem nD τ sig)) ⊆ barCells ∪ arrCells := fun g hg => by
    obtain ⟨x, -, rfl⟩ := Finset.mem_map.1 hg
    exact cell_mem x
  have h := BI.bigSep_subset (Φ := fun g => (cellInv ER (Rd (ins m)) (κ g) g : sProp 𝕄)) hs
  rw [bigSep_map] at h
  exact h

/-- What a device alone holds of the protocol. -/
def lone (c : Dev nD) : sProp 𝕄 :=
  iprop(atPos ER (barC c) 0 ∅ 0 ∗ (bigSep Finset.univ fun k : Fin 6 × Fin 8 => openTok ER (gOf c (some k))) ∗ toksOf (F := F) c)

abbrev T₀ (c : Dev nD) : sProp 𝕄 := iprop(StableHlo.held (c : Thread nD τ) bufs (V₀ m c) ∗ R m c)

def bundle (c : Dev nD) : sProp 𝕄 :=
  iprop(StableHlo.held (c : Thread nD τ) bufs (V₀ m c) ∗ credsOf (F := F) c ∗ owes (c : Thread nD τ) (O₀ c) ∅ ∗ ∃ r, prngReg c r)

theorem T₀_intro (κ : GSem nD τ sig → ℕ) (c : Dev nD) : iprop(records m κ ∗ (lone (F := F) c ∗ bundle m c)) ⊢ T₀ m c := by
  unfold bundle T₀ R Tk shut records lone
  iintro ⟨⟨#HI, #HR⟩, ⟨HB, Ho, Ht⟩, Hh, Hc, HO, Hp⟩
  isplitl [Hh]; · iexact Hh
  isplitl [HB Ho Ht Hc]
  · isplitr [Hc]
    · iexists κ
      isplitr; · iexact HI
      isplitr; · iexact HR
      isplitl [HB]; · iexact HB
      isplitl [Ho]; · iexact Ho
      iexact Ht
    iexact Hc
  isplitl [Hp]; · iexact Hp
  iexists ∅; iexact HO

theorem core_deal (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G (F := F) c)
    ⊢ (iprop(bundle m c ∗ (semVal (barC c) 0 ∗ G (F := F) c)) : sProp 𝕄) := by
  rw [show unscopedBufs c (fun b => m ((c : Thread nD τ).loc b)) = StableHlo.held (c : Thread nD τ) bufs (V₀ m c) from unscopedBufs_held c (V₀ m c),
    unscopedSems0_eq]
  unfold bundle
  iintro ⟨Hh, Hus, HO, Hcr, Hp, HG⟩
  ihave Hc := (creds_deal (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem bar_map (Φ : GSem nD τ sig → sProp 𝕄) : bigSep barCells Φ = bigSep Finset.univ fun c : Dev nD => Φ (barC c) := bigSep_map (s := Finset.univ) barEmb (Φ := Φ)
theorem arr_map (Φ : GSem nD τ sig → sProp 𝕄) :
    bigSep arrCells Φ = bigSep Finset.univ fun c : Dev nD => bigSep Finset.univ fun k : Fin 6 × Fin 8 => Φ (gOf c (some k)) := by
  rw [bigSep_map, bigSep_univ_prod]; rfl

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bundle m c ∗ (semVal (barC c) 0 ∗ G (F := F) c)) : sProp 𝕄) from bigSep_mono fun c _ => core_deal m ρ c) $$ H
  ihave H2 := bigSep_unpair $$ H'; icases H2 with ⟨HB, H3⟩
  ihave H4 := bigSep_unpair $$ H3; icases H4 with ⟨Hv, HG⟩
  ihave Hu := (show bigSep Finset.univ (G (F := F)) ⊢ BI.own (ER (launchOf barCells arrCells allToks)) from
    Entails.of_eq (bigSep_onFirst (F := F) (BI.own (ER (launchOf barCells arrCells allToks))))) $$ HG
  imod (Rounds.fund_launch ER (Rd (ins m)) disjoint_cells (fun g _ h => h) allToks) $$ [Hv Hu] with ⟨%κ, -, #Hinv, #Hr, Hat, Hopen, Htok⟩
  · isplitl [Hv]
    · iapply (Entails.of_eq (bar_map (F := F) fun g => semVal g 0).symm) $$ Hv
    · iexact Hu
  imodintro
  iapply (bigSep_with_persistent (R := records m κ) (Φ := fun c => iprop(lone (F := F) c ∗ bundle m c)) fun c _ => T₀_intro m κ c)
  isplitr
  · unfold records
    isplitr; · iapply (allInv_intro m κ); iexact Hinv
    iapply (Entails.of_eq (bar_map (F := F) fun g => reached ER g 0)); iexact Hr
  iapply bigSep_pair
  isplitr [HB]
  · unfold lone
    iapply bigSep_pair; isplitl [Hat]; · iapply (Entails.of_eq (bar_map (F := F) fun g => atPos ER g 0 ∅ 0)) $$ Hat
    iapply bigSep_pair; isplitl [Hopen]; · iapply (Entails.of_eq (arr_map (F := F) fun g => openTok ER g)) $$ Hopen
    iapply (Entails.of_eq (toks_deal (F := F))) $$ Htok
  · iexact HB

/-! ## The run -/

/-- What every device ends with: its arguments as they were, and the result. -/
def Post (c : Dev nD) (s : MemSt nD τ sig (Elt F)) : Prop :=
  s.mem ((c.tc : Thread nD τ).loc main_v3) = res m
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

set_option backward.isDefEq.respectTransparency.types false in
theorem run_main : θ_run defs (onTc (τ := τ) (main (F := F))) ⟨m, fun _ => 0, ρ⟩ (fun r => (∀ c : Dev nD, Post m c r.2) ∧ r.2.sem = fun _ => 0) :=
  Pipeline.θ_run_regions_kit_sems (pcfgs (F := F)) adm (pdats m) () cell_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G (F := F)) (u₀ := u₀ (F := F))
    (hu₀ := by
      unfold u₀ G
      iintro Hu
      ihave H := (ownU_pair _ _) $$ Hu
      icases H with ⟨HP, HX⟩
      imodintro
      isplitl [HP]; · iexact HP
      rw [bigSep_onFirst]; iexact HX)
    (T₀ := T₀ m) (Tₙ := Tₙ m)
    (hch := ⟨fun c => .rfl, fun c => region_pre m c, fun c => region_post m c⟩)
    (hinit := init m ρ)
    (QY := fun c s => Post m c s ∧ s.sem (barC c) = 0)
    (hfin := fun c s' => by
      dsimp only [Tₙ]; rw [bufs_eq]
      iintro ⟨⟨⟨H0, H1, H2, H3, H4, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        refine ⟨⟨(Buf.eq_of_forall_mem_univ h5).trans (V₂_out m c), ?_, ?_, ?_, ?_, ?_⟩, by simpa using hb⟩
        · exact (Buf.eq_of_forall_mem_univ h0).trans ((V₂_ne m c (Proc.devRef .tc main_arg0) (by decide)).trans (V_main_arg0 m c))
        · exact (Buf.eq_of_forall_mem_univ h1).trans ((V₂_ne m c (Proc.devRef .tc main_arg1) (by decide)).trans (V_main_arg1 m c))
        · exact (Buf.eq_of_forall_mem_univ h2).trans ((V₂_ne m c (Proc.devRef .tc main_arg2) (by decide)).trans (V_main_arg2 m c))
        · exact (Buf.eq_of_forall_mem_univ h3).trans ((V₂_ne m c (Proc.devRef .tc main_arg3) (by decide)).trans (V_main_arg3 m c))
        · exact (Buf.eq_of_forall_mem_univ h4).trans ((V₂_ne m c (Proc.devRef .tc main_arg4) (by decide)).trans (V_main_arg4 m c))
      iexact HSI)
    (hQ := fun s h hs => ⟨fun c => (h c).1, sem_eq_zero hs fun c sm hsm => by
        obtain rfl := unscoped_eq sm hsm
        exact (h c).2⟩)

end Cert.KernelIdeal.Run

end
-- ==== Proof.Frames.lean ====
/-
The frames: the kernel's, as traced and as read over the extended reals, and the reference's.
-/
module

public import proofs.«01_k».proof.Defs
public import proofs.«01_k».proof.Proof.Main
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The run over any floats ends with the arguments as they were and every counter at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Cert.KernelIdeal.Run.run_main m ρ)

/-- The two prints of the kernel have one text: the same body behind the same label. -/
theorem bodies_eq : (Cert.Kernel.defs₀ (F := Bits)) = Cert.KernelIdeal.defs₀ := by
  unfold Cert.Kernel.defs₀ Cert.KernelIdeal.defs₀
  refine congrArg Defs.onTc (funext fun l => funext fun a => ?_)
  obtain rfl : l = (0 : Fin 1) := Subsingleton.elim (α := Fin 1) _ _
  rfl
theorem defs_eq : (Cert.Kernel.defs (F := Bits)) = Cert.KernelIdeal.defs := congrArg (Pipeline.defs Cert.KernelIdeal.pcfgs) bodies_eq

theorem frame_kernel : Cert.quiescent_Kernel (hKernel := Cert.Kernel.Gen.facts) := fun m ρ _ => by
  rw [defs_eq]
  exact frame (F := Bits) m ρ

theorem frame_kernelIdeal : Cert.quiescent_KernelIdeal (hKernelIdeal := Cert.KernelIdeal.Gen.facts) := fun m ρ _ => frame (F := Ideal) m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Spec.lean ====
/-
Sparse attention as formulas over the extended reals: what the kernel and the reference are both read as, and the laws
of the extended reals by which the kernel's order of computing and the reference's agree.
-/
module

public import Idealize.ShloMosaic.Lib.Pointwise
public import Idealize.ShloMosaic.PureOps.Ideal

@[expose] public section

noncomputable section

namespace Cert.Spec

open Idealize.ShloMosaic

/-- An array's indices. -/
abbrev I2 (a b : ℕ) : Type := (⟨2, ![a, b]⟩ : Shape).Idx
abbrev I3 (a b c : ℕ) : Type := (⟨3, ![a, b, c]⟩ : Shape).Idx
abbrev I4 (a b c d : ℕ) : Type := (⟨4, ![a, b, c, d]⟩ : Shape).Idx

/-- Whether row `i` attends to key `j`: near the row, or among the first keys, or from one of the first rows. -/
def keep (i : Fin 256) (j : Fin 2048) : BitVec 1 :=
  IntOp.ori (IntOp.cmpi .sle (IntOp.absi (IntOp.subi (BitVec.ofNat 32 i.val) (BitVec.ofNat 32 j.val))) 128#32)
    (IntOp.ori (IntOp.cmpi .slt (BitVec.ofNat 32 j.val) 32#32) (IntOp.cmpi .slt (BitVec.ofNat 32 i.val) 32#32))

/-- The factor of a score, and a masked score. -/
def scale : EReal := Ideal.ofBits .f32 0x3E000000#32
def low : EReal := Ideal.ofBits .f32 0xCE6E6B28#32

/-- Column `d` of head `h`. -/
def col (h : Fin 32) (d : Fin 64) : Fin 2048 := ⟨h.val * 64 + d.val, by omega⟩
/-- A column's head, and its place there. -/
def head (n : Fin 2048) : Fin 32 := ⟨n.val / 64, by omega⟩
def place (n : Fin 2048) : Fin 64 := ⟨n.val % 64, by omega⟩

variable (x : I3 2 256 512 → EReal) (wq : I2 512 2048 → EReal) (k v : I4 2 2048 32 64 → EReal) (wo : I2 2048 512 → EReal)

def query (b : Fin 2) (i : Fin 256) (n : Fin 2048) : EReal := ∑ m : Fin 512, x (ix3 b i m) * wq (ix2 m n)

def score (b : Fin 2) (h : Fin 32) (i : Fin 256) (j : Fin 2048) : EReal :=
  Scalar.select (keep i j) ((∑ d : Fin 64, query x wq b i (col h d) * k (ix4 b j h d)) * scale) low

/-- A row's weights before they are divided by their sum. -/
def power (s : Fin 2048 → EReal) (j : Fin 2048) : EReal :=
  Ideal.exp (s j - Finset.univ.fold max (Ideal.ofBits .f32 0xFF800000#32) s)

def weight (s : Fin 2048 → EReal) (j : Fin 2048) : EReal := Ideal.div (power s j) (∑ j', power s j')

def context (b : Fin 2) (i : Fin 256) (n : Fin 2048) : EReal :=
  ∑ j : Fin 2048, v (ix4 b j (head n) (place n)) * weight (score x wq k b (head n) i) j

def output (b : Fin 2) (i : Fin 256) (o : Fin 512) : EReal := ∑ n : Fin 2048, context x wq k v b i n * wo (ix2 n o)

/-! ## Reals among the extended reals -/

/-- An extended real that is a real. -/
def IsReal (y : EReal) : Prop := ∃ r : ℝ, y = (r : EReal)

theorem IsReal.mul {y z : EReal} (hy : IsReal y) (hz : IsReal z) : IsReal (y * z) := by
  obtain ⟨r, rfl⟩ := hy; obtain ⟨s, rfl⟩ := hz; exact ⟨r * s, by simp⟩
theorem IsReal.sub {y z : EReal} (hy : IsReal y) (hz : IsReal z) : IsReal (y - z) := by
  obtain ⟨r, rfl⟩ := hy; obtain ⟨s, rfl⟩ := hz; exact ⟨r - s, by simp⟩
theorem coe_sum {ι : Type} (S : Finset ι) (g : ι → ℝ) : ∑ i ∈ S, (g i : EReal) = ((∑ i ∈ S, g i : ℝ) : EReal) := by
  induction S using Finset.cons_induction with
  | empty => simp
  | cons a S ha ih => rw [Finset.sum_cons, Finset.sum_cons, ih, EReal.coe_add]
theorem IsReal.sum {ι : Type} (S : Finset ι) (f : ι → EReal) (hf : ∀ i, IsReal (f i)) : IsReal (∑ i ∈ S, f i) := by
  choose g hg using hf
  exact ⟨∑ i ∈ S, g i, by simp only [hg, coe_sum]⟩
theorem IsReal.select (c : BitVec 1) {y z : EReal} (hy : IsReal y) (hz : IsReal z) : IsReal (Scalar.select c y z) := by
  unfold Scalar.select; split <;> assumption
theorem IsReal.ne_top {y : EReal} (hy : IsReal y) : y ≠ ⊤ := by obtain ⟨r, rfl⟩ := hy; simp
theorem IsReal.ne_bot {y : EReal} (hy : IsReal y) : y ≠ ⊥ := by obtain ⟨r, rfl⟩ := hy; simp

theorem scale_real : IsReal scale := ⟨1 / 8, by simp [scale, Ideal.ofBits, Ideal.ieee, -EReal.coe_mul]; norm_num⟩
theorem low_real : IsReal low := ⟨-1000000000, by simp [low, Ideal.ofBits, Ideal.ieee, -EReal.coe_mul]; norm_num⟩
theorem bits_bot : Ideal.ofBits .f32 0xFF800000#32 = ⊥ := by simp [Ideal.ofBits, Ideal.ieee]

/-- The largest of finitely many reals, some there are, is a real. -/
theorem fold_real {n : ℕ} (f : Fin (n + 1) → EReal) (hf : ∀ j, IsReal (f j)) : IsReal (Finset.univ.fold max ⊥ f) := by
  have h : ∀ S : Finset (Fin (n + 1)), S.Nonempty → IsReal (S.fold max ⊥ f) := by
    intro S hS
    induction S using Finset.induction_on with
    | empty => exact absurd hS (by simp)
    | insert a S ha ih =>
      rw [Finset.fold_insert ha]
      rcases S.eq_empty_or_nonempty with rfl | hS'
      · rw [Finset.fold_empty, max_eq_left bot_le]; exact hf a
      · rcases max_choice (f a) (S.fold max ⊥ f) with h | h <;> rw [h]
        · exact hf a
        · exact ih hS'
  exact h _ ⟨0, Finset.mem_univ _⟩

/-- A factor moves across a sum of products of reals. -/
theorem sum_scale {n : ℕ} (a b : Fin n → EReal) (c : EReal) (ha : ∀ d, IsReal (a d)) (hb : ∀ d, IsReal (b d)) (hc : IsReal c) :
    ∑ d, (a d * c) * b d = (∑ d, a d * b d) * c := by
  choose f hf using ha
  choose g hg using hb
  obtain ⟨r, rfl⟩ := hc
  simp only [hf, hg, ← EReal.coe_mul, coe_sum, EReal.coe_eq_coe_iff]
  rw [Finset.sum_mul]
  exact Finset.sum_congr rfl fun _ _ => by ring

/-- A nonnegative real factor goes into a sum. -/
theorem sum_mul_nonneg {ι : Type} (S : Finset ι) (f : ι → EReal) (r : EReal) (h0 : 0 ≤ r) (ht : r ≠ ⊤) :
    (∑ i ∈ S, f i) * r = ∑ i ∈ S, f i * r := by
  induction S using Finset.cons_induction with
  | empty => simp
  | cons a S ha ih => rw [Finset.sum_cons, Finset.sum_cons, EReal.right_distrib_of_nonneg_of_ne_top h0 ht, ih]

/-- A row of real scores: its powers are positive reals. -/
theorem power_pos (s : Fin 2048 → EReal) (hs : ∀ j, IsReal (s j)) (j : Fin 2048) : ∃ r : ℝ, 0 < r ∧ power s j = (r : EReal) := by
  obtain ⟨t, ht⟩ := (hs j).sub (fold_real s hs)
  refine ⟨Real.exp t, Real.exp_pos t, ?_⟩
  unfold power
  rw [bits_bot, ht]
  rfl

/-- Dividing the weighted sum by the weights' sum, or each weight first: the same, whatever the values. -/
theorem weighted (s : Fin 2048 → EReal) (hs : ∀ j, IsReal (s j)) (u : Fin 2048 → EReal) :
    Ideal.div (∑ j, power s j * u j) (∑ j, power s j) = ∑ j, u j * weight s j := by
  choose p hp hps using power_pos s hs
  have hl : ∑ j, power s j = ((∑ j, p j : ℝ) : EReal) := by simp only [hps, coe_sum]
  have hpos : 0 < ∑ j, p j := Finset.sum_pos (fun j _ => hp j) ⟨0, Finset.mem_univ _⟩
  have hne : ((∑ j, p j : ℝ) : EReal) ≠ 0 := by exact_mod_cast hpos.ne'
  unfold weight
  rw [hl]
  simp only [Ideal.div, if_neg hne]
  rw [← EReal.coe_inv, sum_mul_nonneg _ _ _ (by exact_mod_cast (inv_nonneg.2 hpos.le)) (EReal.coe_ne_top _)]
  exact Finset.sum_congr rfl fun j _ => by rw [mul_comm (power s j), mul_assoc]

theorem query_real (hx : ∀ y, IsReal (x y)) (hw : ∀ y, IsReal (wq y)) (b i n) : IsReal (query x wq b i n) :=
  IsReal.sum _ _ fun _ => (hx _).mul (hw _)

theorem score_real (hx : ∀ y, IsReal (x y)) (hw : ∀ y, IsReal (wq y)) (hk : ∀ y, IsReal (k y)) (b h i j) :
    IsReal (score x wq k b h i j) :=
  IsReal.select _ ((IsReal.sum _ _ fun _ => (query_real x wq hx hw _ _ _).mul (hk _)).mul scale_real) low_real

end Cert.Spec

end
-- ==== Proof.ValueK.lean ====
/-
The kernel's result read element by element, over the extended reals: sparse attention's formulas, when the queries and
the scores are reals.
-/
module

public import proofs.«01_k».proof.Proof.Launch
public import proofs.«01_k».proof.Proof.Spec

@[expose] public section

noncomputable section

namespace Cert.KernelIdeal.Run

open Idealize.ShloMosaic
open Idealize.ShloMosaic.TcCoe
open Cert.KernelIdeal Cert.KernelIdeal.Gen

/-! ## Each payload at an index -/

theorem query_pay (a : Vec Ideal S1x256x512 .bf16) (w : Vec Ideal S512x256 .bf16) (i n : Fin 256) :
    k0_pay5 (F := Ideal) a w (ix3 0 i n) = (∑ m : Fin 512, (a (ix3 0 i m) : EReal) * w (ix2 m n)) * Spec.scale := by
  pointwise [k0_pay5]
  rfl

theorem head_pay (a : Vec Ideal S1x256x64 .bf16) (i : Fin 256) (d : Fin 64) :
    k0_pay6 (F := Ideal) a (ix2 i d) = a (ix3 0 i d) := by
  pointwise [k0_pay6]

/-- Key `t` of block `e`; also column `t` of device `e`. -/
def at8 (e : Fin 8) (t : Fin 256) : Fin 2048 := ⟨e.val * 256 + t.val, by omega⟩

theorem score_pay (e : Fin 8) (q : FVec Ideal S256x64 .bf16) (k : Vec Ideal S1x1x1x256x64 .bf16) (i t : Fin 256) :
    scorePay (F := Ideal) (BitVec.ofNat 32 (256 * e.val)) q k (ix2 i t)
      = Scalar.select (Spec.keep i (at8 e t)) (∑ d : Fin 64, q (ix2 i d) * (k (ix5 0 0 0 t d) : EReal)) Spec.low := by
  pointwise [scorePay, maskBits]
  have hn : IntOp.addi (BitVec.ofNat 32 t.val) (BitVec.ofNat 32 (256 * e.val)) = BitVec.ofNat 32 (at8 e t).val := by
    show BitVec.ofNat 32 t.val + BitVec.ofNat 32 (256 * e.val) = _
    rw [← BitVec.ofNat_add]
    exact congrArg _ (by show t.val + 256 * e.val = e.val * 256 + t.val; omega)
  have ho : ∀ a b c : BitVec 1, IntOp.ori (IntOp.ori a b) c = IntOp.ori a (IntOp.ori b c) := by decide
  rw [hn, ho]
  rfl

theorem power_pay (s : Vec Ideal S256x2048 .f32) (i : Fin 256) (j : Fin 2048) :
    k0_pay22 (F := Ideal) s (ix2 i j) = Spec.power (fun j => s (ix2 i j)) j := by
  pointwise [k0_pay22]
  rfl

theorem mass_pay (s : Vec Ideal S256x2048 .f32) (i : Fin 256) :
    k0_pay23 (F := Ideal) s (ix2 i 0) = ∑ j : Fin 2048, Spec.power (fun j => s (ix2 i j)) j := by
  pointwise [k0_pay23]
  simp only [power_pay]

/-- The eight blocks of a head's values as one array. -/
def joined (u : Fin 8 → Vec Ideal S1x1x1x256x64 .bf16) (d : Fin 64) (j : Fin 2048) : EReal := u (blk j) (ix5 0 0 0 (blkOff j) d)

theorem joined_at8 (u : Fin 8 → Vec Ideal S1x1x1x256x64 .bf16) (d : Fin 64) (e : Fin 8) (t : Fin 256) :
    joined u d (at8 e t) = u e (ix5 0 0 0 t d) := by
  have h1 : blk (at8 e t) = e := Fin.ext (by show (e.val * 256 + t.val) / 256 = e.val; omega)
  have h2 : blkOff (at8 e t) = t := Fin.ext (by show (e.val * 256 + t.val) % 256 = t.val; omega)
  unfold joined
  rw [h1, h2]

theorem ctx_pay (s : Vec Ideal S256x2048 .f32) (u : Fin 8 → Vec Ideal S1x1x1x256x64 .bf16) (i : Fin 256) (d : Fin 64) :
    ctxPay (F := Ideal) s (u 0) (u 1) (u 2) (u 3) (u 4) (u 5) (u 6) (u 7) (ix3 0 i d)
      = Ideal.div (∑ j : Fin 2048, Spec.power (fun j => s (ix2 i j)) j * joined u d j) (∑ j : Fin 2048, Spec.power (fun j => s (ix2 i j)) j) := by
  have h : ∑ j : Fin 2048, Spec.power (fun j => s (ix2 i j)) j * joined u d j
      = ∑ e : Fin 8, ∑ t : Fin 256, k0_pay22 (F := Ideal) s (ix2 i (at8 e t)) * (u e (ix5 0 0 0 t d) : EReal) := by
    rw [Fin.sum_univ_tiles 8 256 rfl]
    exact Finset.sum_congr rfl fun e _ => Finset.sum_congr rfl fun t _ => by
      rw [← joined_at8 u d e t, power_pay]; rfl
  rw [h, Fin.sum_univ_eight, ← mass_pay]
  pointwise [ctxPay, k0_pay24, pvMul]
  simp only [at8, Fin.val_zero, Fin.val_one, Fin.val_two, zero_mul, zero_add, one_mul]
  rfl

theorem proj_pay (a a' : Vec Ideal S1x256x256 .bf16) (w w' : Vec Ideal S256x512 .bf16) (b : Fin 2) (i : Fin 256) (o : Fin 512) :
    k0_pay197 (F := Ideal) a w a' w' (ix3 b i o)
      = if b.val < 1 then ∑ n : Fin 256, (a (ix3 0 i n) : EReal) * w (ix2 n o) else ∑ n : Fin 256, (a' (ix3 0 i n) : EReal) * w' (ix2 n o) := by
  pointwise [k0_pay197]
  rfl

theorem out_pay (a : Vec Ideal S1x256x512 .bf16) (i : Fin 256) (o : Fin 512) :
    k0_pay201 (F := Ideal) a (ix3 0 i o) = a (ix3 0 i o) := by
  pointwise [k0_pay201]

/-! ## The blocks read -/

variable (I : Ins Ideal) (c : Dev nD)

theorem idxW (m : Fin 512) (n : Fin 256) : rWq.toLoadRect.idx (ix2 (n0 := 512) (n1 := 256) m n) = ix2 (n0 := 512) (n1 := 256) m n := by
  funext a; apply Fin.ext
  show (![0, 0] : Fin 2 → ℕ) a + 1 * (ix2 (n0 := 512) (n1 := 256) m n a).val = _
  fin_cases a <;> simp

theorem idxO (n : Fin 256) (o : Fin 512) : rWo.toLoadRect.idx (ix2 (n0 := 256) (n1 := 512) n o) = ix2 (n0 := 256) (n1 := 512) n o := by
  funext a; apply Fin.ext
  show (![0, 0] : Fin 2 → ℕ) a + 1 * (ix2 (n0 := 256) (n1 := 512) n o a).val = _
  fin_cases a <;> simp

theorem idxSall (i : Fin 256) (j : Fin 2048) : rSall.toLoadRect.idx (ix2 (n0 := 256) (n1 := 2048) i j) = ix2 (n0 := 256) (n1 := 2048) i j := by
  funext a; apply Fin.ext
  show (![0, 0] : Fin 2 → ℕ) a + 1 * (ix2 (n0 := 256) (n1 := 2048) i j a).val = _
  fin_cases a <;> simp

theorem idxG (e : Fin 8) (h : Fin 4) (b : Fin 2) (t : Fin 256) (d : Fin 64) :
    (rG e h b).toLoadRect.idx (ix5 (n0 := 1) (n1 := 1) (n2 := 1) (n3 := 256) (n4 := 64) 0 0 0 t d)
      = ix5 (n0 := 8) (n1 := 4) (n2 := 2) (n3 := 256) (n4 := 64) e h b t d := by
  funext a; apply Fin.ext
  show (![e.val, h.val, b.val, 0, 0] : Fin 5 → ℕ) a + 1 * (ix5 (n0 := 1) (n1 := 1) (n2 := 1) (n3 := 256) (n4 := 64) 0 0 0 t d a).val = _
  fin_cases a <;> simp

/-- Device `c`'s head `h` among all. -/
def head4 (h : Fin 4) : Fin 32 := ⟨4 * c.val + h.val, by have := c.isLt; have h8 : nD = 8 := rfl; omega⟩

/-! ## The inputs as the whole arrays' blocks -/

/-- What the devices are given: parts of five whole arrays, the first three of reals. -/
structure Given (x : Spec.I3 2 256 512 → EReal) (wq : Spec.I2 512 2048 → EReal) (k v : Spec.I4 2 2048 32 64 → EReal)
    (wo : Spec.I2 2048 512 → EReal) : Prop where
  x_at : ∀ (c : Dev nD) (b : Fin 2) (i : Fin 256) (m : Fin 512), I.x c (ix3 b i m) = x (ix3 b i m)
  wq_at : ∀ (c : Dev nD) (m : Fin 512) (n : Fin 256), I.wq c (ix2 m n) = wq (ix2 m (at8 c n))
  k_at : ∀ (c : Dev nD) (g : Fin 32) (b : Fin 2) (t : Fin 256) (d : Fin 64), I.k c (ix4 g b t d) = k (ix4 b (at8 c t) g d)
  v_at : ∀ (c : Dev nD) (g : Fin 32) (b : Fin 2) (t : Fin 256) (d : Fin 64), I.v c (ix4 g b t d) = v (ix4 b (at8 c t) g d)
  wo_at : ∀ (c : Dev nD) (n : Fin 256) (o : Fin 512), I.wo c (ix2 n o) = wo (ix2 (at8 c n) o)
  x_real : ∀ y, Spec.IsReal (x y)
  wq_real : ∀ y, Spec.IsReal (wq y)
  k_real : ∀ y, Spec.IsReal (k y)

variable {I} {x : Spec.I3 2 256 512 → EReal} {wq : Spec.I2 512 2048 → EReal} {k v : Spec.I4 2 2048 32 64 → EReal}
  {wo : Spec.I2 2048 512 → EReal} (G : Given I x wq k v wo)
include G

theorem qv_at (b : Fin 2) (i n : Fin 256) :
    qv I c (ix3 (n0 := 2) (n1 := 256) (n2 := 256) b i n) = Spec.query x wq b i (at8 c n) * Spec.scale := by
  refine (query_pay _ _ i n).trans (congrArg (· * Spec.scale) (Finset.sum_congr rfl fun m _ => ?_))
  refine congrArg₂ (· * ·) ?_ ?_
  · refine Eq.trans (b := I.x c (ix3 (n0 := 2) (n1 := 256) (n2 := 512) b i m)) ?_ (G.x_at c b i m)
    exact congrArg (I.x c) (idxX b i m)
  · refine Eq.trans (b := I.wq c (ix2 (n0 := 512) (n1 := 256) m n)) ?_ (G.wq_at c m n)
    exact congrArg (I.wq c) (idxW m n)

theorem qHead_at (b : Fin 2) (h : Fin 4) (i : Fin 256) (d : Fin 64) :
    qHead I c b h (ix2 i d) = Spec.query x wq b i (Spec.col (head4 c h) d) * Spec.scale := by
  refine (head_pay _ i d).trans ?_
  refine (congrArg (qv I c) (idxC b h i d)).trans ((qv_at c G b i _).trans ?_)
  exact congrArg (fun n => Spec.query x wq b i n * Spec.scale) (Fin.ext (by
    show c.val * 256 + (64 * h.val + d.val) = (4 * c.val + h.val) * 64 + d.val; omega))

theorem kRead_at (b : Fin 2) (h : Fin 4) (e : Fin 8) (t : Fin 256) (d : Fin 64) :
    kgM.view.readAt (Elt Ideal) (rG e h b).toLoadRect (kgv I c) (ix5 (n0 := 1) (n1 := 1) (n2 := 1) (n3 := 256) (n4 := 64) 0 0 0 t d)
      = k (ix4 b (at8 e t) (head4 c h) d) :=
  (congrArg (kgv I c) (idxG e h b t d)).trans (G.k_at e (head4 c h) b t d)

theorem vRead_at (b : Fin 2) (h : Fin 4) (e : Fin 8) (t : Fin 256) (d : Fin 64) :
    vRead I c e h b (ix5 (n0 := 1) (n1 := 1) (n2 := 1) (n3 := 256) (n4 := 64) 0 0 0 t d) = v (ix4 b (at8 e t) (head4 c h) d) :=
  (congrArg (vgv I c) (idxG e h b t d)).trans (G.v_at e (head4 c h) b t d)

theorem sBlock_at (b : Fin 2) (h : Fin 4) (e : Fin 8) (i t : Fin 256) :
    sBlock I c b h e (ix2 i t) = Spec.score x wq k b (head4 c h) i (at8 e t) := by
  refine (score_pay e _ _ i t).trans ?_
  unfold Spec.score
  rw [← Spec.sum_scale _ _ _ (fun d => Spec.query_real x wq G.x_real G.wq_real b i _) (fun d => G.k_real _) Spec.scale_real]
  refine congrArg (Scalar.select _ · _) (Finset.sum_congr rfl fun d _ => ?_)
  exact congrArg₂ (· * ·) (qHead_at c G b h i d) (kRead_at c G b h e t d)

omit G in
theorem at8_split (j : Fin 2048) : at8 (blk j) (blkOff j) = j := Fin.ext (by show j.val / 256 * 256 + j.val % 256 = j.val; omega)

theorem scv_at (b : Fin 2) (h : Fin 4) (i : Fin 256) (j : Fin 2048) :
    scv I c b h (ix2 (n0 := 256) (n1 := 2048) i j) = Spec.score x wq k b (head4 c h) i j :=
  (sBlock_at c G b h (blk j) i (blkOff j)).trans (congrArg (Spec.score x wq k b (head4 c h) i) (at8_split j))

theorem cHead_at (b : Fin 2) (h : Fin 4) (i : Fin 256) (d : Fin 64) :
    cHead I c b h (ix3 (n0 := 1) (n1 := 256) (n2 := 64) 0 i d)
      = ∑ j : Fin 2048, v (ix4 b j (head4 c h) d) * Spec.weight (Spec.score x wq k b (head4 c h) i) j := by
  refine (ctx_pay _ (fun e => vRead I c e h b) i d).trans ?_
  have hs : (fun j : Fin 2048 => scM.view.readAt (Elt Ideal) rSall.toLoadRect (scv I c b h) (ix2 i j)) = Spec.score x wq k b (head4 c h) i :=
    funext fun j => (congrArg (scv I c b h) (idxSall i j)).trans (scv_at c G b h i j)
  rw [hs, Spec.weighted _ (fun j => Spec.score_real x wq k G.x_real G.wq_real G.k_real b (head4 c h) i j)]
  refine Finset.sum_congr rfl fun j _ => congrArg (· * _) ?_
  refine (vRead_at c G b h (blk j) (blkOff j) d).trans ?_
  rw [at8_split j]

theorem ctxv_at (b : Fin 2) (i n : Fin 256) :
    ctxv I c (ix3 (n0 := 2) (n1 := 256) (n2 := 256) b i n) = Spec.context x wq k v b i (at8 c n) := by
  refine (cHead_at c G b (hd n) i (hdOff n)).trans ?_
  have h1 : head4 c (hd n) = Spec.head (at8 c n) := Fin.ext (by
    show 4 * c.val + n.val / 64 = (c.val * 256 + n.val) / 64; omega)
  have h2 : hdOff n = Spec.place (at8 c n) := Fin.ext (by
    show n.val % 64 = (c.val * 256 + n.val) % 64; omega)
  rw [h1, h2]
  rfl

theorem pov_at (b : Fin 2) (i : Fin 256) (o : Fin 512) :
    pov I c (ix3 (n0 := 2) (n1 := 256) (n2 := 512) b i o)
      = ∑ n : Fin 256, Spec.context x wq k v b i (at8 c n) * wo (ix2 (at8 c n) o) := by
  have hrow : ∀ b : Fin 2, ∑ n : Fin 256, (ctxM.view.readAt (Elt Ideal) (rQ b).toLoadRect (ctxv I c) (ix3 (n0 := 1) (n1 := 256) (n2 := 256) 0 i n) : EReal)
        * woM.view.readAt (Elt Ideal) rWo.toLoadRect (I.wo c) (ix2 (n0 := 256) (n1 := 512) n o)
      = ∑ n : Fin 256, Spec.context x wq k v b i (at8 c n) * wo (ix2 (at8 c n) o) := fun b =>
    Finset.sum_congr rfl fun n _ => congrArg₂ (· * ·) ((congrArg (ctxv I c) (idxQ b i n)).trans (ctxv_at c G b i n))
      ((congrArg (I.wo c) (idxO n o)).trans (G.wo_at c n o))
  refine (proj_pay _ _ _ _ b i o).trans ?_
  fin_cases b
  · exact hrow 0
  · exact hrow 1

omit G in
/-- The three rounds of pairwise sums add every device's share once. -/
theorem rounds_sum (j : S2x256x512.Idx) : (A3 I c j : EReal) = ∑ e : Fin 8, (pov I e j : EReal) := by
  have h : (Finset.univ : Finset (Fin 8)).val
      = ([c, px 0 c, px 1 c, px 0 (px 1 c), px 2 c, px 0 (px 2 c), px 1 (px 2 c), px 0 (px 1 (px 2 c))] : List (Fin 8)) := by
    revert c; decide
  show _ = (Multiset.map (fun e : Fin 8 => (pov I e j : EReal)) (Finset.univ : Finset (Fin 8)).val).sum
  rw [h]
  simp only [Multiset.map_coe, Multiset.sum_coe, List.map_cons, List.map_nil, List.sum_cons, List.sum_nil, add_zero]
  show (((pov I c j : EReal) + pov I (px 0 c) j) + (pov I (px 1 c) j + pov I (px 0 (px 1 c)) j))
    + ((pov I (px 2 c) j + pov I (px 0 (px 2 c)) j) + (pov I (px 1 (px 2 c)) j + pov I (px 0 (px 1 (px 2 c))) j)) = _
  simp only [add_assoc]

/-- What the kernel leaves, as the formulas say. -/
theorem outv_at (b : Fin 2) (i : Fin 256) (o : Fin 512) :
    outv (total I) (ix3 (n0 := 2) (n1 := 256) (n2 := 512) b i o) = Spec.output x wq k v wo b i o := by
  refine (out_pay _ i o).trans ((congrArg (total I) (idxX b i o)).trans ((rounds_sum _ _).trans ?_))
  unfold Spec.output
  rw [Fin.sum_univ_tiles 8 256 rfl]
  exact Finset.sum_congr rfl fun e _ => pov_at e G b i o

end Cert.KernelIdeal.Run

end
-- ==== Proof.ValueR.lean ====
/-
The reference's result read element by element: sparse attention's formulas.
-/
module

public import proofs.«01_k».proof.Proof.Gen.ReferenceIdeal.Run
public import proofs.«01_k».proof.Proof.Spec

@[expose] public section

noncomputable section

namespace Cert.ReferenceIdeal.Value

open Idealize.ShloMosaic Idealize.ShloMosaic.TcCoe
open Cert.ReferenceIdeal Cert.ReferenceIdeal.Facts Cert.ReferenceIdeal.Gen

/-- Which keys a row attends to. -/
def maskR : IVec S256x2048 1 :=
  ori (cmpi .sle (absi (subi (broadcastInDim S256x2048 ![0, 1] bcast_S256x1_S256x2048_0_1 (broadcastInDim S256x1 ![0] bcast_S256_S256x1_0 (iotaInDim S256 32 0))) (broadcastInDim S256x2048 ![0, 1] bcast_S1x2048_S256x2048_0_1 (broadcastInDim S1x2048 ![1] bcast_S2048_S1x2048_1 (iotaInDim S2048 32 0))))) (broadcastInDim S256x2048 ![] bcast_S_S256x2048 (constantI S_ 32 128#32))) (ori (broadcastInDim S256x2048 ![0, 1] bcast_S1x2048_S256x2048_0_1 (cmpi .slt (broadcastInDim S1x2048 ![1] bcast_S2048_S1x2048_1 (iotaInDim S2048 32 0)) (broadcastInDim S1x2048 ![] bcast_S_S1x2048 (constantI S_ 32 32#32)))) (broadcastInDim S256x2048 ![0, 1] bcast_S256x1_S256x2048_0_1 (cmpi .slt (broadcastInDim S256x1 ![0] bcast_S256_S256x1_0 (iotaInDim S256 32 0)) (broadcastInDim S256x1 ![] bcast_S_S256x1 (constantI S_ 32 32#32)))))

/-- Whether a row attends to any key. -/
def anyR : IVec S256 1 := Host.reduce IntOp.ori maskR (constantI S_ 1 0#1) reducesTo_S256x2048_S256_d1 h_S_

/-- The masked scores. -/
def scoresR (x : FVec Ideal S2x256x512 .bf16) (wq : FVec Ideal S512x2048 .bf16) (k : FVec Ideal S2x2048x32x64 .bf16) : FVec Ideal S2x32x256x2048 .f32 :=
  select (broadcastInDim S2x32x256x2048 ![0, 1, 2, 3] bcast_S1x1x256x2048_S2x32x256x2048_0_1_2_3 (broadcastInDim S1x1x256x2048 ![2, 3] bcast_S256x2048_S1x1x256x2048_2_3 maskR)) (mulf (extf .f32 (truncf .bf16 (Host.dotGeneral dot_S2x256x32x64_S2x2048x32x64_S2x32x256x2048_3_3_1_1_02_02 none (shapeCast _ (truncf .bf16 (Host.dotGeneral dot_S2x256x512_S512x2048_S2x256x2048_2_0_01_1_n_n none x wq) bitsLt_bf16_f32) shapeCasts_S2x256x2048_S2x256x32x64) k) bitsLt_bf16_f32) bitsLt_bf16_f32) (broadcastInDim S2x32x256x2048 ![] bcast_S_S2x32x256x2048 (constant S_ .f32 0x3E000000#32))) (broadcastInDim S2x32x256x2048 ![] bcast_S_S2x32x256x2048 (id (constant S_ .f32 0xCE6E6B28#32)))

/-- The exponentials of the scores below their row's largest. -/
def expR (s : FVec Ideal S2x32x256x2048 .f32) : FVec Ideal S2x32x256x2048 .f32 :=
  Host.exp (subf s (broadcastInDim S2x32x256x2048 ![0, 1, 2, 3] bcast_S2x32x256x1_S2x32x256x2048_0_1_2_3 (broadcastInDim S2x32x256x1 ![0, 1, 2] bcast_S2x32x256_S2x32x256x1_0_1_2 (Host.reduce FloatOps.maximumf s (constant S_ .f32 0xFF800000#32) reducesTo_S2x32x256x2048_S2x32x256_d3 h_S_))))

/-- The exponentials divided by their row's sum. -/
def weightsR (p : FVec Ideal S2x32x256x2048 .f32) : FVec Ideal S2x32x256x2048 .f32 :=
  select (broadcastInDim S2x32x256x2048 ![0, 1, 2, 3] bcast_S1x1x256x1_S2x32x256x2048_0_1_2_3 (broadcastInDim S1x1x256x1 ![2] bcast_S256_S1x1x256x1_2 anyR))
    (Host.divf p (broadcastInDim S2x32x256x2048 ![0, 1, 2, 3] bcast_S2x32x256x1_S2x32x256x2048_0_1_2_3 (select (broadcastInDim S2x32x256x1 ![0, 1, 2, 3] bcast_S1x1x256x1_S2x32x256x1_0_1_2_3 (broadcastInDim S1x1x256x1 ![2] bcast_S256_S1x1x256x1_2 anyR)) (broadcastInDim S2x32x256x1 ![0, 1, 2] bcast_S2x32x256_S2x32x256x1_0_1_2 (Host.reduceAdd p (constant S_ .f32 0x00000000#32) reducesTo_S2x32x256x2048_S2x32x256_d3 h_S_)) (broadcastInDim S2x32x256x1 ![] bcast_S_S2x32x256x1 (id (constant S_ .f32 0x3F800000#32))))))
    (broadcastInDim S2x32x256x2048 ![] bcast_S_S2x32x256x2048 (id (constant S_ .f32 0x00000000#32)))

/-- The weighted values, projected. -/
def outR (w : FVec Ideal S2x32x256x2048 .f32) (v : FVec Ideal S2x2048x32x64 .bf16) (wo : FVec Ideal S2048x512 .bf16) : FVec Ideal S2x256x512 .f32 :=
  Host.dotGeneral dot_S2x256x2048_S2048x512_S2x256x512_2_0_01_1_n_n none (shapeCast _ (transpose S2x256x32x64 [0, 3, 1, 2] (Host.dotGeneral dot_S2x2048x32x64_S2x32x256x2048_S2x32x64x256_1_3_3_2_02_01 none (extf .f32 v bitsLt_bf16_f32) w) transposes_S2x32x64x256_S2x256x32x64_0_3_1_2) shapeCasts_S2x256x32x64_S2x256x2048) (extf .f32 wo bitsLt_bf16_f32)

theorem res_eq (m : (ℓ : Loc nD τ sig) → Buf (Elt Ideal) ℓ) (c : Dev nD) :
    res_main_v47 m c = outR (weightsR (expR (scoresR (m ((c.tc : Thread nD τ).loc main_arg0)) (m ((c.tc : Thread nD τ).loc main_arg1)) (m ((c.tc : Thread nD τ).loc main_arg2)))))
      (m ((c.tc : Thread nD τ).loc main_arg3)) (m ((c.tc : Thread nD τ).loc main_arg4)) := rfl

theorem mask_at (i : Fin 256) (j : Fin 2048) : maskR (ix2 i j) = Spec.keep i j := by
  pointwise [maskR]
  rfl

/-- Every row attends to the first key. -/
theorem keep_first (i : Fin 256) : Spec.keep i 0 = 1#1 := by
  have h : ∀ a b : BitVec 1, IntOp.ori a (IntOp.ori (IntOp.cmpi .slt (BitVec.ofNat 32 0) 32#32) b) = 1#1 := by decide
  exact h _ _

theorem any_at (i : Fin 256) : anyR (ix1 i) = 1#1 := by
  pointwise [anyR]
  have h : ∀ a : BitVec 1, IntOp.ori 1#1 a = 1#1 := by decide
  rw [← Finset.insert_erase (Finset.mem_univ (0 : Fin 2048)), Finset.fold_insert (Finset.notMem_erase _ _), mask_at, keep_first, h]

theorem scores_at (x : FVec Ideal S2x256x512 .bf16) (wq : FVec Ideal S512x2048 .bf16) (k : FVec Ideal S2x2048x32x64 .bf16)
    (b : Fin 2) (h : Fin 32) (i : Fin 256) (j : Fin 2048) : scoresR x wq k (ix4 b h i j) = Spec.score x wq k b h i j := by
  pointwise [scoresR]
  rw [mask_at]
  rfl

theorem exp_at (s : FVec Ideal S2x32x256x2048 .f32) (b : Fin 2) (h : Fin 32) (i : Fin 256) (j : Fin 2048) :
    expR s (ix4 b h i j) = Spec.power (fun j => s (ix4 b h i j)) j := by
  pointwise [expR]
  rfl

theorem weights_at (p : FVec Ideal S2x32x256x2048 .f32) (b : Fin 2) (h : Fin 32) (i : Fin 256) (j : Fin 2048) :
    weightsR p (ix4 b h i j) = Ideal.div (p (ix4 b h i j)) (∑ j' : Fin 2048, p (ix4 b h i j')) := by
  pointwise [weightsR]
  rw [any_at]
  rfl

theorem out_at (w : FVec Ideal S2x32x256x2048 .f32) (v : FVec Ideal S2x2048x32x64 .bf16) (wo : FVec Ideal S2048x512 .bf16)
    (b : Fin 2) (i : Fin 256) (o : Fin 512) :
    outR w v wo (ix3 b i o)
      = ∑ n : Fin 2048, (∑ j : Fin 2048, v (ix4 b j (Spec.head n) (Spec.place n)) * w (ix4 b (Spec.head n) i j)) * wo (ix2 n o) := by
  pointwise [outR]
  rfl

theorem res_at (m : (ℓ : Loc nD τ sig) → Buf (Elt Ideal) ℓ) (c : Dev nD) (b : Fin 2) (i : Fin 256) (o : Fin 512) :
    res_main_v47 m c (ix3 (n0 := 2) (n1 := 256) (n2 := 512) b i o)
      = Spec.output (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) b i o := by
  rw [res_eq, out_at]
  simp only [weights_at, exp_at, scores_at]
  rfl

end Cert.ReferenceIdeal.Value

end
-- ==== Proof.Algebraic.lean ====
/-
The kernel and the reference, both read as sparse attention's formulas, give equal results from finite queries, query
weights and keys.
-/
module

public import proofs.«01_k».proof.Proof.Frames
public import proofs.«01_k».proof.Proof.ValueK
public import proofs.«01_k».proof.Proof.ValueR
public import proofs.«01_k».proof.Proof.Gen.Pre_finite_KernelIdeal
public import proofs.«01_k».proof.Proof.Gen.Pre_finite_ReferenceIdeal
public import Idealize.ShloMosaic.Lib.ReduceAll
public import Idealize.ShloMosaic.Lib.Affine

@[expose] public section

noncomputable section

namespace Cert.Proof

open Idealize.ShloMosaic Idealize.ShloMosaic.TcCoe Idealize.SL.Sem
open Cert.KernelIdeal.Run (at8 blk blkOff at8_split Given ins)

/-! ## What the precondition says -/

/-- An extended real whose absolute value is below the largest is a real. -/
theorem real_of_lt (a : EReal) (h : Ideal.cmp .olt (max a (-a)) (Ideal.ofBits .bf16 0x7F80#16) = 1#1) : Spec.IsReal a := by
  have htop : Ideal.ofBits .bf16 0x7F80#16 = ⊤ := by simp [Ideal.ofBits, Ideal.ieee]
  rw [htop] at h
  have hlt : max a (-a) < ⊤ := by
    by_contra hn
    simp [Ideal.cmp, hn] at h
  obtain ⟨h1, h2⟩ := max_lt_iff.1 hlt
  induction a with
  | bot => simp at h2
  | top => simp at h1
  | coe r => exact ⟨r, rfl⟩

instance : Subsingleton Cert.Pre_finite_KernelIdeal.S_.Idx := ⟨fun _ _ => funext fun a => a.elim0⟩

theorem reals_of_pre (x : FVec Ideal Cert.Pre_finite_KernelIdeal.S2x256x512 .bf16) (wq : FVec Ideal Cert.Pre_finite_KernelIdeal.S512x256 .bf16)
    (k v : FVec Ideal Cert.Pre_finite_KernelIdeal.S2x256x32x64 .bf16) (wo : FVec Ideal Cert.Pre_finite_KernelIdeal.S256x512 .bf16)
    (h : Cert.Pre_finite_KernelIdeal.fn (F := Ideal) x wq k v wo = fun _ => 1#1) :
    (∀ y, Spec.IsReal (x y)) ∧ (∀ y, Spec.IsReal (wq y)) ∧ ∀ y, Spec.IsReal (k y) := by
  obtain ⟨h', hk⟩ := IntOp.andi_eq_one.1 (congrFun h ix0)
  obtain ⟨hx, hw⟩ := IntOp.andi_eq_one.1 h'
  exact ⟨fun y => real_of_lt _ (Host.reduce_andi_all _ _ _ _ _ hx y), fun y => real_of_lt _ (Host.reduce_andi_all _ _ _ _ _ hw y),
    fun y => real_of_lt _ (Host.reduce_andi_all _ _ _ _ _ hk y)⟩

/-! ## What the kernel is given -/

section
variable (m : (ℓ : Loc Cert.KernelIdeal.nD Cert.KernelIdeal.τ Cert.KernelIdeal.sig) → Buf (Elt Ideal) ℓ) (c : Dev Cert.KernelIdeal.nD)
open Cert.KernelIdeal Cert.KernelIdeal.Gen

theorem ins_x : (ins m).x c = m ((c.tc : Thread nD τ).loc main_arg0) := Cert.KernelIdeal.Gen.V_main_arg0 m c
theorem ins_wq : (ins m).wq c = m ((c.tc : Thread nD τ).loc main_arg1) := Cert.KernelIdeal.Gen.V_main_arg1 m c
theorem ins_wo : (ins m).wo c = m ((c.tc : Thread nD τ).loc main_arg4) := Cert.KernelIdeal.Gen.V_main_arg4 m c

theorem ins_k (g : Fin 32) (b : Fin 2) (t : Fin 256) (d : Fin 64) :
    (ins m).k c (ix4 (n0 := 32) (n1 := 2) (n2 := 256) (n3 := 64) g b t d) = m ((c.tc : Thread nD τ).loc main_arg2) (ix4 (n0 := 2) (n1 := 256) (n2 := 32) (n3 := 64) b t g d) := by
  have h : (ins m).k c = transpose S32x2x256x64 [2, 0, 1, 3] (m ((c.tc : Thread nD τ).loc main_arg2)) transposes_S2x256x32x64_S32x2x256x64_2_0_1_3 := by
    show StableHlo.after hostOps0 (fun b => m (c, b)) (Proc.devRef .tc main_v1) = _
    simp only [hostOps0]
    after_results_simp <;> rfl
  rw [h]
  pointwise

theorem ins_v (g : Fin 32) (b : Fin 2) (t : Fin 256) (d : Fin 64) :
    (ins m).v c (ix4 (n0 := 32) (n1 := 2) (n2 := 256) (n3 := 64) g b t d) = m ((c.tc : Thread nD τ).loc main_arg3) (ix4 (n0 := 2) (n1 := 256) (n2 := 32) (n3 := 64) b t g d) := by
  have h : (ins m).v c = transpose S32x2x256x64 [2, 0, 1, 3] (m ((c.tc : Thread nD τ).loc main_arg3)) transposes_S2x256x32x64_S32x2x256x64_2_0_1_3 := by
    show StableHlo.after hostOps0 (fun b => m (c, b)) (Proc.devRef .tc main_v2) = _
    simp only [hostOps0]
    after_results_simp <;> rfl
  rw [h]
  pointwise

end

/-! ## A device's block of a whole array -/

theorem cols_at (h : Layout.Tiles ⟨2, ![512, 256]⟩ ⟨2, ![512, 2048]⟩ 1 8) (c : Fin 8) (i : Fin 512) (n : Fin 256) :
    h.idx c (ix2 i n) = ix2 i (at8 c n) := by
  funext a; apply Fin.ext; fin_cases a <;> rfl

theorem rows_at (h : Layout.Tiles ⟨2, ![256, 512]⟩ ⟨2, ![2048, 512]⟩ 0 8) (c : Fin 8) (n : Fin 256) (o : Fin 512) :
    h.idx c (ix2 n o) = ix2 (at8 c n) o := by
  funext a; apply Fin.ext; fin_cases a <;> rfl

theorem keys_at (h : Layout.Tiles ⟨4, ![2, 256, 32, 64]⟩ ⟨4, ![2, 2048, 32, 64]⟩ 1 8) (c : Fin 8) (b : Fin 2) (t : Fin 256) (g : Fin 32) (d : Fin 64) :
    h.idx c (ix4 b t g d) = ix4 b (at8 c t) g d := by
  funext a; apply Fin.ext; fin_cases a <;> rfl

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hpre hin
  have hreal := fun c => reals_of_pre _ _ _ _ _ (hpre c)
  have G : Given (ins m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    refine ⟨fun c b i n => ?_, fun c i n => ?_, fun c g b t d => ?_, fun c g b t d => ?_, fun c n o => ?_, fun y => ?_, fun y => ?_, fun y => ?_⟩
    · exact congrFun ((ins_x m c).trans (hin c).1) _
    · exact (congrFun ((ins_wq m c).trans (hin c).2.1) _).trans (congrArg _ (cols_at _ c i n))
    · exact (ins_k m c g b t d).trans ((congrFun (hin c).2.2.1 _).trans (congrArg _ (keys_at _ c b t g d)))
    · exact (ins_v m c g b t d).trans ((congrFun (hin c).2.2.2.1 _).trans (congrArg _ (keys_at _ c b t g d)))
    · exact (congrFun ((ins_wo m c).trans (hin c).2.2.2.2) _).trans (congrArg _ (rows_at _ c n o))
    · have := (hreal 0).1 y
      rw [(hin 0).1] at this
      exact this
    · obtain ⟨i, n, rfl⟩ : ∃ (i : Fin 512) (n : Fin 2048), y = ix2 i n := ⟨y 0, y 1, eq_ix2 y⟩
      have := (hreal (blk n)).2.1 (ix2 i (blkOff n))
      rw [(hin (blk n)).2.1, Layout.block_apply, cols_at, at8_split] at this
      exact this
    · obtain ⟨b, j, g, d, rfl⟩ : ∃ (b : Fin 2) (j : Fin 2048) (g : Fin 32) (d : Fin 64), y = ix4 b j g d := ⟨y 0, y 1, y 2, y 3, eq_ix4 y⟩
      have := (hreal (blk j)).2.2 (ix4 b (blkOff j) g d)
      rw [(hin (blk j)).2.2.1, Layout.block_apply, keys_at, at8_split] at this
      exact this
  have hres : Cert.KernelIdeal.Run.res m = Cert.ReferenceIdeal.Value.res_main_v47 m' 0 := funext fun y => by
    obtain ⟨b, i, o, rfl⟩ : ∃ (b : Fin 2) (i : Fin 256) (o : Fin 512), y = ix3 (n0 := 2) (n1 := 256) (n2 := 512) b i o := ⟨y 0, y 1, y 2, eq_ix3 y⟩
    exact (Cert.KernelIdeal.Run.outv_at G b i o).trans (Cert.ReferenceIdeal.Value.res_at m' 0 b i o).symm
  refine ⟨Cert.ReferenceIdeal.Value.res_main_v47 m' 0, ?_, ?_⟩
  · exact (θ_run Cert.KernelIdeal.defs _ _).mono (fun _ h c => ⟨(h.1 c).1.trans hres, (h.1 c).2⟩) (Cert.KernelIdeal.Run.run_main m g)
  · exact (θ_run Cert.ReferenceIdeal.defs _ _).mono (fun _ h => h 0) (Cert.ReferenceIdeal.Value.run (F := Ideal) m' g')

end Cert.Proof

end
-- ==== Proof.lean ====
/-
The certificate's claims, proved: the frames, with and without the reading's precondition, and the equality of the
kernel's result and the reference's over the extended reals.
-/
module

public import proofs.«01_k».proof.Proof.Frames
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_kernelIdeal, fun m ρ _ => frame_kernelIdeal m ρ trivial, frame_reference, fun m ρ _ => frame_reference m ρ trivial,
  trivial, algebraic⟩

end Cert.Proof

end
